-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "taken" .f32 0x7149F2CA#32 ⊤
  ∧ IdealRules.named_const.Statement Cert.KernelIdeal.κ "rbf_step" .f32 0x3FAAAAAB#32 ((4 / 3 : ℝ) : EReal)
  ∧ IdealRules.sign_bit.Statement Cert.KernelIdeal.S128x1 .f32

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v489) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S2x2048x3 : Shape := ⟨3, ![2, 2048, 3]⟩
abbrev S2x2048 : Shape := ⟨2, ![2, 2048]⟩
abbrev S66x16 : Shape := ⟨2, ![66, 16]⟩
abbrev S16 : Shape := ⟨1, ![16]⟩
abbrev S167x128 : Shape := ⟨2, ![167, 128]⟩
abbrev S128 : Shape := ⟨1, ![128]⟩
abbrev S_ : Shape := ⟨0, ![]⟩

class Facts : Prop where
  bcast_S_S2x2048x3 : S_.BroadcastsInDim S2x2048x3 (![] : Fin 0 → Fin S2x2048x3.rank)
  bcast_S_S2x2048 : S_.BroadcastsInDim S2x2048 (![] : Fin 0 → Fin S2x2048.rank)

variable [Facts]

def fn {F : FTy → Type} [FloatOps F] (main_arg0 : FVec F S2x2048x3 .f32) (main_arg1 : FVec F S2x2048 .f32) (main_arg2 : IVec S2x2048 32) (main_arg3 : IVec S2x2048 32) (main_arg4 : FVec F S66x16 .f32) (main_arg5 : FVec F S16 .f32) (main_arg6 : FVec F S167x128 .f32) (main_arg7 : FVec F S128 .f32) (main_arg8 : FVec F S128 .f32) : IVec S2x2048x3 1 × IVec S2x2048 1 × IVec S2x2048 1 :=
  let main_v0 : FVec F S2x2048x3 .f32 := Host.absf main_arg0
  let main_cst : FVec F S_ .f32 := constant S_ .f32 0x7F800000#32
  let main_v1 : FVec F S2x2048x3 .f32 := broadcastInDim S2x2048x3 ![] bcast_S_S2x2048x3 main_cst
  let main_v2 : IVec S2x2048x3 1 := cmpf .olt main_v0 main_v1
  let main_v3 : FVec F S2x2048 .f32 := Host.absf main_arg1
  let main_cst_0 : FVec F S_ .f32 := constant S_ .f32 0x7F800000#32
  let main_v4 : FVec F S2x2048 .f32 := broadcastInDim S2x2048 ![] bcast_S_S2x2048 main_cst_0
  let main_v5 : IVec S2x2048 1 := cmpf .olt main_v3 main_v4
  let main_c : IVec S_ 32 := constantI S_ 32 0#32
  let main_v6 : IVec S2x2048 32 := broadcastInDim S2x2048 ![] bcast_S_S2x2048 main_c
  let main_v7 : IVec S2x2048 1 := cmpi .sge main_arg2 main_v6
  let main_c_1 : IVec S_ 32 := constantI S_ 32 2048#32
  let main_v8 : IVec S2x2048 32 := broadcastInDim S2x2048 ![] bcast_S_S2x2048 main_c_1
  let main_v9 : IVec S2x2048 1 := cmpi .slt main_arg2 main_v8
  let main_v10 : IVec S2x2048 1 := andi main_v7 main_v9
  (main_v2, main_v5, main_v10)
-- ==== Kernel.lean ====
abbrev S2x2048x3 : Shape := ⟨3, ![2, 2048, 3]⟩
abbrev S2x2048 : Shape := ⟨2, ![2, 2048]⟩
abbrev S66x16 : Shape := ⟨2, ![66, 16]⟩
abbrev S16 : Shape := ⟨1, ![16]⟩
abbrev S167x128 : Shape := ⟨2, ![167, 128]⟩
abbrev S128 : Shape := ⟨1, ![128]⟩
abbrev S_ : Shape := ⟨0, ![]⟩
abbrev S2x2047x3 : Shape := ⟨3, ![2, 2047, 3]⟩
abbrev S1 : Shape := ⟨1, ![1]⟩
abbrev S2x2047 : Shape := ⟨2, ![2, 2047]⟩
abbrev S2x2047x1 : Shape := ⟨3, ![2, 2047, 1]⟩
abbrev S2x2045x3 : Shape := ⟨3, ![2, 2045, 3]⟩
abbrev S2x2045x1 : Shape := ⟨3, ![2, 2045, 1]⟩
abbrev S2x2045 : Shape := ⟨2, ![2, 2045]⟩
abbrev S1x2x2045 : Shape := ⟨3, ![1, 2, 2045]⟩
abbrev S3x2x2045 : Shape := ⟨3, ![3, 2, 2045]⟩
abbrev S2x2045x1x3 : Shape := ⟨4, ![2, 2045, 1, 3]⟩
abbrev S2x2045x3x3 : Shape := ⟨4, ![2, 2045, 3, 3]⟩
abbrev S2x2045x9 : Shape := ⟨3, ![2, 2045, 9]⟩
abbrev S2x2048x9 : Shape := ⟨3, ![2, 2048, 9]⟩
abbrev S2x2048x1 : Shape := ⟨3, ![2, 2048, 1]⟩
abbrev S2x2048x20 : Shape := ⟨3, ![2, 2048, 20]⟩
abbrev S2x3x2048 : Shape := ⟨3, ![2, 3, 2048]⟩
abbrev S2x1x2048 : Shape := ⟨3, ![2, 1, 2048]⟩
abbrev S1x16 : Shape := ⟨2, ![1, 16]⟩
abbrev S1x128 : Shape := ⟨2, ![1, 128]⟩
abbrev S2x2048x3840 : Shape := ⟨3, ![2, 2048, 3840]⟩
abbrev S2x2048x30 : Shape := ⟨3, ![2, 2048, 30]⟩
abbrev S1x3x2048 : Shape := ⟨3, ![1, 3, 2048]⟩
abbrev S1x2048x20 : Shape := ⟨3, ![1, 2048, 20]⟩
abbrev S1x128x20 : Shape := ⟨3, ![1, 128, 20]⟩
abbrev S1x1x2048 : Shape := ⟨3, ![1, 1, 2048]⟩
abbrev S1x128x1 : Shape := ⟨3, ![1, 128, 1]⟩
abbrev S1x128x3840 : Shape := ⟨3, ![1, 128, 3840]⟩
abbrev S1x128x30 : Shape := ⟨3, ![1, 128, 30]⟩
abbrev S3x2048 : Shape := ⟨2, ![3, 2048]⟩
abbrev S2048x20 : Shape := ⟨2, ![2048, 20]⟩
abbrev S1x2048 : Shape := ⟨2, ![1, 2048]⟩
abbrev S128x20 : Shape := ⟨2, ![128, 20]⟩
abbrev S128x1 : Shape := ⟨2, ![128, 1]⟩
abbrev S128x2048 : Shape := ⟨2, ![128, 2048]⟩
abbrev S2048 : Shape := ⟨1, ![2048]⟩
abbrev S128x30 : Shape := ⟨2, ![128, 30]⟩
abbrev S128x3 : Shape := ⟨2, ![128, 3]⟩
abbrev S128x9 : Shape := ⟨2, ![128, 9]⟩
abbrev S128x66 : Shape := ⟨2, ![128, 66]⟩
abbrev S128x16 : Shape := ⟨2, ![128, 16]⟩
abbrev S128x167 : Shape := ⟨2, ![128, 167]⟩
abbrev S128x128 : Shape := ⟨2, ![128, 128]⟩
abbrev S1x128x128 : Shape := ⟨3, ![1, 128, 128]⟩

abbrev nBuf : Space → Nat
  | .hbm => 145
  | .vmem => 19
  | .smem => 0
  | _ => 0

abbrev hbmTy0_0 (i : Nat) : BufTy := match i % 128 with
  | 0 => ⟨S2x2048x3, .f32⟩
  | 1 => ⟨S2x2048, .f32⟩
  | 2 => ⟨S2x2048, .i32⟩
  | 3 => ⟨S2x2048, .i32⟩
  | 4 => ⟨S66x16, .f32⟩
  | 5 => ⟨S16, .f32⟩
  | 6 => ⟨S167x128, .f32⟩
  | 7 => ⟨S128, .f32⟩
  | 8 => ⟨S128, .f32⟩
  | 9 => ⟨S_, .f32⟩
  | 10 => ⟨S2x2048x3, .f32⟩
  | 11 => ⟨S2x2047x3, .f32⟩
  | 12 => ⟨S_, .i32⟩
  | 13 => ⟨S1, .i32⟩
  | 14 => ⟨S2x2048x3, .f32⟩
  | 15 => ⟨S_, .f32⟩
  | 16 => ⟨S2x2048x3, .f32⟩
  | 17 => ⟨S2x2047x3, .f32⟩
  | 18 => ⟨S_, .i32⟩
  | 19 => ⟨S1, .i32⟩
  | 20 => ⟨S2x2048x3, .f32⟩
  | 21 => ⟨S2x2047x3, .f32⟩
  | 22 => ⟨S2x2047x3, .f32⟩
  | 23 => ⟨S2x2047x3, .f32⟩
  | 24 => ⟨S2x2047x3, .f32⟩
  | 25 => ⟨S_, .f32⟩
  | 26 => ⟨S2x2047, .f32⟩
  | 27 => ⟨S2x2047, .f32⟩
  | 28 => ⟨S_, .f32⟩
  | 29 => ⟨S2x2047, .f32⟩
  | 30 => ⟨S2x2047, .i1⟩
  | 31 => ⟨S_, .f32⟩
  | 32 => ⟨S2x2047, .f32⟩
  | 33 => ⟨S2x2047, .i1⟩
  | 34 => ⟨S2x2047, .i1⟩
  | 35 => ⟨S2x2047, .f32⟩
  | 36 => ⟨S2x2047x1, .f32⟩
  | 37 => ⟨S2x2047x3, .f32⟩
  | 38 => ⟨S2x2047x3, .f32⟩
  | 39 => ⟨S2x2047x3, .f32⟩
  | 40 => ⟨S_, .f32⟩
  | 41 => ⟨S2x2047, .f32⟩
  | 42 => ⟨S2x2047x1, .f32⟩
  | 43 => ⟨S2x2047x1, .f32⟩
  | 44 => ⟨S_, .f32⟩
  | 45 => ⟨S2x2047x1, .f32⟩
  | 46 => ⟨S2x2047x1, .f32⟩
  | 47 => ⟨S2x2047x3, .f32⟩
  | 48 => ⟨S2x2047x3, .f32⟩
  | 49 => ⟨S2x2045x3, .f32⟩
  | 50 => ⟨S2x2045x3, .f32⟩
  | 51 => ⟨S2x2045x1, .f32⟩
  | 52 => ⟨S2x2045, .f32⟩
  | 53 => ⟨S2x2045x1, .f32⟩
  | 54 => ⟨S2x2045, .f32⟩
  | 55 => ⟨S2x2045x1, .f32⟩
  | 56 => ⟨S2x2045, .f32⟩
  | 57 => ⟨S2x2045x1, .f32⟩
  | 58 => ⟨S2x2045, .f32⟩
  | 59 => ⟨S2x2045x1, .f32⟩
  | 60 => ⟨S2x2045, .f32⟩
  | 61 => ⟨S2x2045x1, .f32⟩
  | 62 => ⟨S2x2045, .f32⟩
  | 63 => ⟨S2x2045, .f32⟩
  | 64 => ⟨S2x2045, .f32⟩
  | 65 => ⟨S2x2045, .f32⟩
  | 66 => ⟨S2x2045, .f32⟩
  | 67 => ⟨S2x2045, .f32⟩
  | 68 => ⟨S2x2045, .f32⟩
  | 69 => ⟨S2x2045, .f32⟩
  | 70 => ⟨S2x2045, .f32⟩
  | 71 => ⟨S2x2045, .f32⟩
  | 72 => ⟨S1x2x2045, .f32⟩
  | 73 => ⟨S1x2x2045, .f32⟩
  | 74 => ⟨S1x2x2045, .f32⟩
  | 75 => ⟨S3x2x2045, .f32⟩
  | 76 => ⟨S2x2045x3, .f32⟩
  | 77 => ⟨S2x2045x3, .f32⟩
  | 78 => ⟨S_, .f32⟩
  | 79 => ⟨S2x2045, .f32⟩
  | 80 => ⟨S2x2045x1, .f32⟩
  | 81 => ⟨S2x2045x1, .f32⟩
  | 82 => ⟨S_, .f32⟩
  | 83 => ⟨S2x2045x1, .f32⟩
  | 84 => ⟨S2x2045x1, .f32⟩
  | 85 => ⟨S2x2045x3, .f32⟩
  | 86 => ⟨S2x2045x3, .f32⟩
  | 87 => ⟨S2x2045x3, .f32⟩
  | 88 => ⟨S2x2045x3, .f32⟩
  | 89 => ⟨S_, .f32⟩
  | 90 => ⟨S2x2045, .f32⟩
  | 91 => ⟨S2x2045x1, .f32⟩
  | 92 => ⟨S2x2045x1, .f32⟩
  | 93 => ⟨S_, .f32⟩
  | 94 => ⟨S2x2045x1, .f32⟩
  | 95 => ⟨S2x2045x1, .f32⟩
  | 96 => ⟨S2x2045x3, .f32⟩
  | 97 => ⟨S2x2045x3, .f32⟩
  | 98 => ⟨S2x2045x1, .f32⟩
  | 99 => ⟨S2x2045, .f32⟩
  | 100 => ⟨S2x2045x1, .f32⟩
  | 101 => ⟨S2x2045, .f32⟩
  | 102 => ⟨S2x2045x1, .f32⟩
  | 103 => ⟨S2x2045, .f32⟩
  | 104 => ⟨S2x2045x1, .f32⟩
  | 105 => ⟨S2x2045, .f32⟩
  | 106 => ⟨S2x2045x1, .f32⟩
  | 107 => ⟨S2x2045, .f32⟩
  | 108 => ⟨S2x2045x1, .f32⟩
  | 109 => ⟨S2x2045, .f32⟩
  | 110 => ⟨S2x2045, .f32⟩
  | 111 => ⟨S2x2045, .f32⟩
  | 112 => ⟨S2x2045, .f32⟩
  | 113 => ⟨S2x2045, .f32⟩
  | 114 => ⟨S2x2045, .f32⟩
  | 115 => ⟨S2x2045, .f32⟩
  | 116 => ⟨S2x2045, .f32⟩
  | 117 => ⟨S2x2045, .f32⟩
  | 118 => ⟨S2x2045, .f32⟩
  | 119 => ⟨S1x2x2045, .f32⟩
  | 120 => ⟨S1x2x2045, .f32⟩
  | 121 => ⟨S1x2x2045, .f32⟩
  | 122 => ⟨S3x2x2045, .f32⟩
  | 123 => ⟨S2x2045x3, .f32⟩
  | 124 => ⟨S2x2045x1x3, .f32⟩
  | 125 => ⟨S2x2045x1x3, .f32⟩
  | 126 => ⟨S2x2045x1x3, .f32⟩
  | 127 => ⟨S2x2045x3x3, .f32⟩
  | _ => ⟨S2x2048x3, .f32⟩

abbrev hbmTy0_1 (i : Nat) : BufTy := match i % 128 with
  | 0 => ⟨S2x2045x9, .f32⟩
  | 1 => ⟨S_, .i32⟩
  | 2 => ⟨S_, .f32⟩
  | 3 => ⟨S2x2048x9, .f32⟩
  | 4 => ⟨S2x2048, .f32⟩
  | 5 => ⟨S2x2048x1, .f32⟩
  | 6 => ⟨S2x2048, .f32⟩
  | 7 => ⟨S2x2048x1, .f32⟩
  | 8 => ⟨S2x2048x20, .f32⟩
  | 9 => ⟨S2x3x2048, .f32⟩
  | 10 => ⟨S2x1x2048, .f32⟩
  | 11 => ⟨S2x2048x1, .f32⟩
  | 12 => ⟨S1x16, .f32⟩
  | 13 => ⟨S1x128, .f32⟩
  | 14 => ⟨S1x128, .f32⟩
  | 15 => ⟨S2x2048x3840, .f32⟩
  | 16 => ⟨S2x2048x30, .i32⟩
  | _ => ⟨S2x2048x3, .f32⟩

abbrev hbmTy (i : Nat) : BufTy := match i / 128 with
  | 0 => hbmTy0_0 i
  | 1 => hbmTy0_1 i
  | _ => ⟨S2x2048x3, .f32⟩

abbrev bufTy : (tb : Table) → Fin (tcTables nBuf tb) → BufTy
  | .hbm, ⟨i, _⟩ => hbmTy i
  | .local _ .vmem, ⟨0, _⟩ => ⟨S1x3x2048, .f32⟩
  | .local _ .vmem, ⟨1, _⟩ => ⟨S1x3x2048, .f32⟩
  | .local _ .vmem, ⟨2, _⟩ => ⟨S1x2048x20, .f32⟩
  | .local _ .vmem, ⟨3, _⟩ => ⟨S1x2048x20, .f32⟩
  | .local _ .vmem, ⟨4, _⟩ => ⟨S1x128x20, .f32⟩
  | .local _ .vmem, ⟨5, _⟩ => ⟨S1x128x20, .f32⟩
  | .local _ .vmem, ⟨6, _⟩ => ⟨S1x1x2048, .f32⟩
  | .local _ .vmem, ⟨7, _⟩ => ⟨S1x1x2048, .f32⟩
  | .local _ .vmem, ⟨8, _⟩ => ⟨S1x128x1, .f32⟩
  | .local _ .vmem, ⟨9, _⟩ => ⟨S1x128x1, .f32⟩
  | .local _ .vmem, ⟨10, _⟩ => ⟨S66x16, .f32⟩
  | .local _ .vmem, ⟨11, _⟩ => ⟨S1x16, .f32⟩
  | .local _ .vmem, ⟨12, _⟩ => ⟨S167x128, .f32⟩
  | .local _ .vmem, ⟨13, _⟩ => ⟨S1x128, .f32⟩
  | .local _ .vmem, ⟨14, _⟩ => ⟨S1x128, .f32⟩
  | .local _ .vmem, ⟨15, _⟩ => ⟨S1x128x3840, .f32⟩
  | .local _ .vmem, ⟨16, _⟩ => ⟨S1x128x3840, .f32⟩
  | .local _ .vmem, ⟨17, _⟩ => ⟨S1x128x30, .i32⟩
  | .local _ .vmem, ⟨18, _⟩ => ⟨S1x128x30, .i32⟩
  | _, _ => ⟨S2x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_v15 : Ref sig .tc := ⟨.hbm, 66, rfl⟩
abbrev main_call2_v16 : Ref sig .tc := ⟨.hbm, 67, rfl⟩
abbrev main_call2_v17 : Ref sig .tc := ⟨.hbm, 68, rfl⟩
abbrev main_call2_v18 : Ref sig .tc := ⟨.hbm, 69, rfl⟩
abbrev main_call2_v19 : Ref sig .tc := ⟨.hbm, 70, rfl⟩
abbrev main_call2_v20 : Ref sig .tc := ⟨.hbm, 71, rfl⟩
abbrev main_call2_v21 : Ref sig .tc := ⟨.hbm, 72, rfl⟩
abbrev main_call2_v22 : Ref sig .tc := ⟨.hbm, 73, rfl⟩
abbrev main_call2_v23 : Ref sig .tc := ⟨.hbm, 74, rfl⟩
abbrev main_call2_v24 : Ref sig .tc := ⟨.hbm, 75, rfl⟩
abbrev main_v28 : Ref sig .tc := ⟨.hbm, 76, rfl⟩
abbrev main_call3_v0 : Ref sig .tc := ⟨.hbm, 77, rfl⟩
abbrev main_call3_cst : Ref sig .tc := ⟨.hbm, 78, rfl⟩
abbrev main_call3_v1 : Ref sig .tc := ⟨.hbm, 79, rfl⟩
abbrev main_call3_v2 : Ref sig .tc := ⟨.hbm, 80, rfl⟩
abbrev main_v29 : Ref sig .tc := ⟨.hbm, 81, rfl⟩
abbrev main_cst_5 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_call4_v2 : Ref sig .tc := ⟨.hbm, 91, rfl⟩
abbrev main_v35 : Ref sig .tc := ⟨.hbm, 92, rfl⟩
abbrev main_cst_6 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_v11 : Ref sig .tc := ⟨.hbm, 109, rfl⟩
abbrev main_call5_v12 : Ref sig .tc := ⟨.hbm, 110, rfl⟩
abbrev main_call5_v13 : Ref sig .tc := ⟨.hbm, 111, rfl⟩
abbrev main_call5_v14 : Ref sig .tc := ⟨.hbm, 112, rfl⟩
abbrev main_call5_v15 : Ref sig .tc := ⟨.hbm, 113, rfl⟩
abbrev main_call5_v16 : Ref sig .tc := ⟨.hbm, 114, rfl⟩
abbrev main_call5_v17 : Ref sig .tc := ⟨.hbm, 115, rfl⟩
abbrev main_call5_v18 : Ref sig .tc := ⟨.hbm, 116, rfl⟩
abbrev main_call5_v19 : Ref sig .tc := ⟨.hbm, 117, rfl⟩
abbrev main_call5_v20 : Ref sig .tc := ⟨.hbm, 118, rfl⟩
abbrev main_call5_v21 : Ref sig .tc := ⟨.hbm, 119, rfl⟩
abbrev main_call5_v22 : Ref sig .tc := ⟨.hbm, 120, rfl⟩
abbrev main_call5_v23 : Ref sig .tc := ⟨.hbm, 121, rfl⟩
abbrev main_call5_v24 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_c_7 : Ref sig .tc := ⟨.hbm, 129, rfl⟩
abbrev main_call6_v0 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58_0 : Ref sig .tc := ⟨.hbm, 143, rfl⟩
abbrev main_v58_1 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S66x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S167x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x3840 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x30 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "rbf_step" => some ((4 / 3 : ℝ) : EReal)
  | "taken" => some ⊤
  | _ => none
-- ==== ReferenceIdeal.lean ====
abbrev S2x2048x3 : Shape := ⟨3, ![2, 2048, 3]⟩
abbrev S2x2048 : Shape := ⟨2, ![2, 2048]⟩
abbrev S66x16 : Shape := ⟨2, ![66, 16]⟩
abbrev S16 : Shape := ⟨1, ![16]⟩
abbrev S167x128 : Shape := ⟨2, ![167, 128]⟩
abbrev S128 : Shape := ⟨1, ![128]⟩
abbrev S2x1x2048 : Shape := ⟨3, ![2, 1, 2048]⟩
abbrev S2x2048x1 : Shape := ⟨3, ![2, 2048, 1]⟩
abbrev S2x2048x2048 : Shape := ⟨3, ![2, 2048, 2048]⟩
abbrev S2x1x2048x3 : Shape := ⟨4, ![2, 1, 2048, 3]⟩
abbrev S2x2048x1x3 : Shape := ⟨4, ![2, 2048, 1, 3]⟩
abbrev S2x2048x2048x3 : Shape := ⟨4, ![2, 2048, 2048, 3]⟩
abbrev S_ : Shape := ⟨0, ![]⟩
abbrev S2x2048x30 : Shape := ⟨3, ![2, 2048, 30]⟩
abbrev S2x2047x3 : Shape := ⟨3, ![2, 2047, 3]⟩
abbrev S1 : Shape := ⟨1, ![1]⟩
abbrev S2x2047 : Shape := ⟨2, ![2, 2047]⟩
abbrev S2x2047x1 : Shape := ⟨3, ![2, 2047, 1]⟩
abbrev S2x2045x3 : Shape := ⟨3, ![2, 2045, 3]⟩
abbrev S2x2045x1 : Shape := ⟨3, ![2, 2045, 1]⟩
abbrev S2x2045 : Shape := ⟨2, ![2, 2045]⟩
abbrev S2x2045x1x3 : Shape := ⟨4, ![2, 2045, 1, 3]⟩
abbrev S2x2045x3x3 : Shape := ⟨4, ![2, 2045, 3, 3]⟩
abbrev S2x2045x9 : Shape := ⟨3, ![2, 2045, 9]⟩
abbrev S2x2048x9 : Shape := ⟨3, ![2, 2048, 9]⟩
abbrev S2x61440 : Shape := ⟨2, ![2, 61440]⟩
abbrev S2x61440x1 : Shape := ⟨3, ![2, 61440, 1]⟩
abbrev S2x61440x9 : Shape := ⟨3, ![2, 61440, 9]⟩
abbrev S2x61440x9x1 : Shape := ⟨4, ![2, 61440, 9, 1]⟩
abbrev S1x1x1x1 : Shape := ⟨4, ![1, 1, 1, 1]⟩
abbrev S2x2048x30x9 : Shape := ⟨4, ![2, 2048, 30, 9]⟩
abbrev S2x61440x3 : Shape := ⟨3, ![2, 61440, 3]⟩
abbrev S2x61440x3x1 : Shape := ⟨4, ![2, 61440, 3, 1]⟩
abbrev S2x2048x30x3 : Shape := ⟨4, ![2, 2048, 30, 3]⟩
abbrev S2x2048x3x3 : Shape := ⟨4, ![2, 2048, 3, 3]⟩
abbrev S2x2048x30x3x3 : Shape := ⟨5, ![2, 2048, 30, 3, 3]⟩
abbrev S2x2048x1x3x3 : Shape := ⟨5, ![2, 2048, 1, 3, 3]⟩
abbrev S2x2048x30x3x1 : Shape := ⟨5, ![2, 2048, 30, 3, 1]⟩
abbrev S2x2048x3x30x1 : Shape := ⟨5, ![2, 2048, 3, 30, 1]⟩
abbrev S2x2048x30x1 : Shape := ⟨4, ![2, 2048, 30, 1]⟩
abbrev S2x2048x3x30x3 : Shape := ⟨5, ![2, 2048, 3, 30, 3]⟩
abbrev S3 : Shape := ⟨1, ![3]⟩
abbrev S3x1 : Shape := ⟨2, ![3, 1]⟩
abbrev S3x2 : Shape := ⟨2, ![3, 2]⟩
abbrev S2x2048x30x1x1 : Shape := ⟨5, ![2, 2048, 30, 1, 1]⟩
abbrev S2x2048x30x4 : Shape := ⟨4, ![2, 2048, 30, 4]⟩
abbrev S2x2048x30x7 : Shape := ⟨4, ![2, 2048, 30, 7]⟩
abbrev S15 : Shape := ⟨1, ![15]⟩
abbrev S1x1x1x16 : Shape := ⟨4, ![1, 1, 1, 16]⟩
abbrev S2x2048x30x16 : Shape := ⟨4, ![2, 2048, 30, 16]⟩
abbrev S2x2048x2048x1 : Shape := ⟨4, ![2, 2048, 2048, 1]⟩
abbrev S2x2048x30x144 : Shape := ⟨4, ![2, 2048, 30, 144]⟩
abbrev S1x1x1x66 : Shape := ⟨4, ![1, 1, 1, 66]⟩
abbrev S2x2048x30x66 : Shape := ⟨4, ![2, 2048, 30, 66]⟩
abbrev S2x2048x30x167 : Shape := ⟨4, ![2, 2048, 30, 167]⟩
abbrev S2x2048x30x128 : Shape := ⟨4, ![2, 2048, 30, 128]⟩
abbrev S1x1x1x128 : Shape := ⟨4, ![1, 1, 1, 128]⟩
abbrev S2x2048x3840 : Shape := ⟨3, ![2, 2048, 3840]⟩

abbrev nBuf : Space → Nat
  | .hbm => 1065
  | .vmem => 0
  | .smem => 0
  | _ => 0

abbrev hbmTy0_0 (i : Nat) : BufTy := match i % 128 with
  | 0 => ⟨S2x2048x3, .f32⟩
  | 1 => ⟨S2x2048, .f32⟩
  | 2 => ⟨S2x2048, .i32⟩
  | 3 => ⟨S2x2048, .i32⟩
  | 4 => ⟨S66x16, .f32⟩
  | 5 => ⟨S16, .f32⟩
  | 6 => ⟨S167x128, .f32⟩
  | 7 => ⟨S128, .f32⟩
  | 8 => ⟨S128, .f32⟩
  | 9 => ⟨S2x1x2048, .f32⟩
  | 10 => ⟨S2x2048x1, .f32⟩
  | 11 => ⟨S2x2048x2048, .f32⟩
  | 12 => ⟨S2x2048x2048, .f32⟩
  | 13 => ⟨S2x2048x2048, .f32⟩
  | 14 => ⟨S2x1x2048x3, .f32⟩
  | 15 => ⟨S2x2048x1x3, .f32⟩
  | 16 => ⟨S2x2048x2048x3, .f32⟩
  | 17 => ⟨S2x2048x2048x3, .f32⟩
  | 18 => ⟨S2x2048x2048x3, .f32⟩
  | 19 => ⟨S2x2048x2048x3, .f32⟩
  | 20 => ⟨S_, .f32⟩
  | 21 => ⟨S2x2048x2048, .f32⟩
  | 22 => ⟨S_, .f32⟩
  | 23 => ⟨S2x2048x2048, .f32⟩
  | 24 => ⟨S2x2048x2048, .f32⟩
  | 25 => ⟨S2x2048x2048, .f32⟩
  | 26 => ⟨S2x2048x2048, .f32⟩
  | 27 => ⟨S_, .f32⟩
  | 28 => ⟨S2x2048, .f32⟩
  | 29 => ⟨S2x2048x1, .f32⟩
  | 30 => ⟨S_, .f32⟩
  | 31 => ⟨S2x2048x2048, .f32⟩
  | 32 => ⟨S2x2048x2048, .f32⟩
  | 33 => ⟨S2x2048x2048, .f32⟩
  | 34 => ⟨S2x2048x2048, .f32⟩
  | 35 => ⟨S2x2048x2048, .f32⟩
  | 36 => ⟨S2x2048x2048, .f32⟩
  | 37 => ⟨S2x2048x30, .f32⟩
  | 38 => ⟨S2x2048x30, .i32⟩
  | 39 => ⟨S2x2048x30, .f32⟩
  | 40 => ⟨S_, .f32⟩
  | 41 => ⟨S2x2048x3, .f32⟩
  | 42 => ⟨S2x2047x3, .f32⟩
  | 43 => ⟨S_, .i32⟩
  | 44 => ⟨S1, .i32⟩
  | 45 => ⟨S2x2048x3, .f32⟩
  | 46 => ⟨S_, .f32⟩
  | 47 => ⟨S2x2048x3, .f32⟩
  | 48 => ⟨S2x2047x3, .f32⟩
  | 49 => ⟨S_, .i32⟩
  | 50 => ⟨S1, .i32⟩
  | 51 => ⟨S2x2048x3, .f32⟩
  | 52 => ⟨S2x2047x3, .f32⟩
  | 53 => ⟨S2x2047x3, .f32⟩
  | 54 => ⟨S2x2047x3, .f32⟩
  | 55 => ⟨S2x2047x3, .f32⟩
  | 56 => ⟨S_, .f32⟩
  | 57 => ⟨S2x2047, .f32⟩
  | 58 => ⟨S2x2047, .f32⟩
  | 59 => ⟨S_, .f32⟩
  | 60 => ⟨S2x2047, .f32⟩
  | 61 => ⟨S2x2047, .i1⟩
  | 62 => ⟨S_, .f32⟩
  | 63 => ⟨S2x2047, .f32⟩
  | 64 => ⟨S2x2047, .i1⟩
  | 65 => ⟨S2x2047, .i1⟩
  | 66 => ⟨S2x2047, .f32⟩
  | 67 => ⟨S2x2047x1, .f32⟩
  | 68 => ⟨S2x2047x3, .f32⟩
  | 69 => ⟨S2x2047x3, .f32⟩
  | 70 => ⟨S2x2047x3, .f32⟩
  | 71 => ⟨S_, .f32⟩
  | 72 => ⟨S2x2047, .f32⟩
  | 73 => ⟨S2x2047x1, .f32⟩
  | 74 => ⟨S2x2047x1, .f32⟩
  | 75 => ⟨S_, .f32⟩
  | 76 => ⟨S2x2047x1, .f32⟩
  | 77 => ⟨S2x2047x1, .f32⟩
  | 78 => ⟨S2x2047x3, .f32⟩
  | 79 => ⟨S2x2047x3, .f32⟩
  | 80 => ⟨S2x2045x3, .f32⟩
  | 81 => ⟨S2x2045x3, .f32⟩
  | 82 => ⟨S2x2045x1, .f32⟩
  | 83 => ⟨S2x2045, .f32⟩
  | 84 => ⟨S2x2045x1, .f32⟩
  | 85 => ⟨S2x2045, .f32⟩
  | 86 => ⟨S2x2045x1, .f32⟩
  | 87 => ⟨S2x2045, .f32⟩
  | 88 => ⟨S2x2045x1, .f32⟩
  | 89 => ⟨S2x2045, .f32⟩
  | 90 => ⟨S2x2045x1, .f32⟩
  | 91 => ⟨S2x2045, .f32⟩
  | 92 => ⟨S2x2045x1, .f32⟩
  | 93 => ⟨S2x2045, .f32⟩
  | 94 => ⟨S2x2045, .f32⟩
  | 95 => ⟨S2x2045, .f32⟩
  | 96 => ⟨S2x2045, .f32⟩
  | 97 => ⟨S2x2045, .f32⟩
  | 98 => ⟨S2x2045, .f32⟩
  | 99 => ⟨S2x2045, .f32⟩
  | 100 => ⟨S2x2045, .f32⟩
  | 101 => ⟨S2x2045, .f32⟩
  | 102 => ⟨S2x2045, .f32⟩
  | 103 => ⟨S2x2045x1, .f32⟩
  | 104 => ⟨S2x2045x1, .f32⟩
  | 105 => ⟨S2x2045x1, .f32⟩
  | 106 => ⟨S2x2045x3, .f32⟩
  | 107 => ⟨S2x2045x3, .f32⟩
  | 108 => ⟨S_, .f32⟩
  | 109 => ⟨S2x2045, .f32⟩
  | 110 => ⟨S2x2045x1, .f32⟩
  | 111 => ⟨S2x2045x1, .f32⟩
  | 112 => ⟨S_, .f32⟩
  | 113 => ⟨S2x2045x1, .f32⟩
  | 114 => ⟨S2x2045x1, .f32⟩
  | 115 => ⟨S2x2045x3, .f32⟩
  | 116 => ⟨S2x2045x3, .f32⟩
  | 117 => ⟨S2x2045x3, .f32⟩
  | 118 => ⟨S2x2045x3, .f32⟩
  | 119 => ⟨S_, .f32⟩
  | 120 => ⟨S2x2045, .f32⟩
  | 121 => ⟨S2x2045x1, .f32⟩
  | 122 => ⟨S2x2045x1, .f32⟩
  | 123 => ⟨S_, .f32⟩
  | 124 => ⟨S2x2045x1, .f32⟩
  | 125 => ⟨S2x2045x1, .f32⟩
  | 126 => ⟨S2x2045x3, .f32⟩
  | 127 => ⟨S2x2045x3, .f32⟩
  | _ => ⟨S2x2048x3, .f32⟩

abbrev hbmTy0_1 (i : Nat) : BufTy := match i % 128 with
  | 0 => ⟨S2x2045x1, .f32⟩
  | 1 => ⟨S2x2045, .f32⟩
  | 2 => ⟨S2x2045x1, .f32⟩
  | 3 => ⟨S2x2045, .f32⟩
  | 4 => ⟨S2x2045x1, .f32⟩
  | 5 => ⟨S2x2045, .f32⟩
  | 6 => ⟨S2x2045x1, .f32⟩
  | 7 => ⟨S2x2045, .f32⟩
  | 8 => ⟨S2x2045x1, .f32⟩
  | 9 => ⟨S2x2045, .f32⟩
  | 10 => ⟨S2x2045x1, .f32⟩
  | 11 => ⟨S2x2045, .f32⟩
  | 12 => ⟨S2x2045, .f32⟩
  | 13 => ⟨S2x2045, .f32⟩
  | 14 => ⟨S2x2045, .f32⟩
  | 15 => ⟨S2x2045, .f32⟩
  | 16 => ⟨S2x2045, .f32⟩
  | 17 => ⟨S2x2045, .f32⟩
  | 18 => ⟨S2x2045, .f32⟩
  | 19 => ⟨S2x2045, .f32⟩
  | 20 => ⟨S2x2045, .f32⟩
  | 21 => ⟨S2x2045x1, .f32⟩
  | 22 => ⟨S2x2045x1, .f32⟩
  | 23 => ⟨S2x2045x1, .f32⟩
  | 24 => ⟨S2x2045x3, .f32⟩
  | 25 => ⟨S2x2045x1x3, .f32⟩
  | 26 => ⟨S2x2045x1x3, .f32⟩
  | 27 => ⟨S2x2045x1x3, .f32⟩
  | 28 => ⟨S2x2045x3x3, .f32⟩
  | 29 => ⟨S2x2045x9, .f32⟩
  | 30 => ⟨S_, .i32⟩
  | 31 => ⟨S_, .f32⟩
  | 32 => ⟨S2x2048x9, .f32⟩
  | 33 => ⟨S2x61440, .i32⟩
  | 34 => ⟨S2x61440x1, .i32⟩
  | 35 => ⟨S2x61440x9, .i32⟩
  | 36 => ⟨S_, .i32⟩
  | 37 => ⟨S2x61440x9, .i32⟩
  | 38 => ⟨S2x61440x9, .i1⟩
  | 39 => ⟨S_, .i32⟩
  | 40 => ⟨S2x61440x9, .i32⟩
  | 41 => ⟨S2x61440x9, .i32⟩
  | 42 => ⟨S2x61440x9, .i32⟩
  | 43 => ⟨S2x61440x9x1, .i32⟩
  | 44 => ⟨S1, .i32⟩
  | 45 => ⟨S_, .i32⟩
  | 46 => ⟨S2x61440x9x1, .i32⟩
  | 47 => ⟨S2x61440x9x1, .i1⟩
  | 48 => ⟨S1x1x1x1, .i32⟩
  | 49 => ⟨S2x61440x9x1, .i32⟩
  | 50 => ⟨S2x61440x9x1, .i1⟩
  | 51 => ⟨S2x61440x9x1, .i1⟩
  | 52 => ⟨S_, .i1⟩
  | 53 => ⟨S2x61440x9, .i1⟩
  | 54 => ⟨S2x61440x9, .f32⟩
  | 55 => ⟨S_, .f32⟩
  | 56 => ⟨S2x61440x9, .f32⟩
  | 57 => ⟨S2x61440x9, .f32⟩
  | 58 => ⟨S2x2048x30x9, .f32⟩
  | 59 => ⟨S2x61440, .i32⟩
  | 60 => ⟨S2x61440x1, .i32⟩
  | 61 => ⟨S2x61440x3, .i32⟩
  | 62 => ⟨S_, .i32⟩
  | 63 => ⟨S2x61440x3, .i32⟩
  | 64 => ⟨S2x61440x3, .i1⟩
  | 65 => ⟨S_, .i32⟩
  | 66 => ⟨S2x61440x3, .i32⟩
  | 67 => ⟨S2x61440x3, .i32⟩
  | 68 => ⟨S2x61440x3, .i32⟩
  | 69 => ⟨S2x61440x3x1, .i32⟩
  | 70 => ⟨S1, .i32⟩
  | 71 => ⟨S_, .i32⟩
  | 72 => ⟨S2x61440x3x1, .i32⟩
  | 73 => ⟨S2x61440x3x1, .i1⟩
  | 74 => ⟨S1x1x1x1, .i32⟩
  | 75 => ⟨S2x61440x3x1, .i32⟩
  | 76 => ⟨S2x61440x3x1, .i1⟩
  | 77 => ⟨S2x61440x3x1, .i1⟩
  | 78 => ⟨S_, .i1⟩
  | 79 => ⟨S2x61440x3, .i1⟩
  | 80 => ⟨S2x61440x3, .f32⟩
  | 81 => ⟨S_, .f32⟩
  | 82 => ⟨S2x61440x3, .f32⟩
  | 83 => ⟨S2x61440x3, .f32⟩
  | 84 => ⟨S2x2048x30x3, .f32⟩
  | 85 => ⟨S2x2048x3x3, .f32⟩
  | 86 => ⟨S2x2048x30x3x3, .f32⟩
  | 87 => ⟨S2x2048x1x3, .f32⟩
  | 88 => ⟨S2x2048x30x3, .f32⟩
  | 89 => ⟨S2x2048x30x3, .f32⟩
  | 90 => ⟨S2x2048x1x3x3, .f32⟩
  | 91 => ⟨S2x2048x30x3x1, .f32⟩
  | 92 => ⟨S2x2048x3x3, .f32⟩
  | 93 => ⟨S2x2048x3x30x1, .f32⟩
  | 94 => ⟨S2x2048x30x3x1, .f32⟩
  | 95 => ⟨S2x2048x30x3, .f32⟩
  | 96 => ⟨S2x2048x30x3, .f32⟩
  | 97 => ⟨S_, .f32⟩
  | 98 => ⟨S2x2048x30, .f32⟩
  | 99 => ⟨S2x2048x30x1, .f32⟩
  | 100 => ⟨S2x2048x30x1, .f32⟩
  | 101 => ⟨S_, .f32⟩
  | 102 => ⟨S2x2048x30x1, .f32⟩
  | 103 => ⟨S2x2048x30x1, .f32⟩
  | 104 => ⟨S2x2048x30x3, .f32⟩
  | 105 => ⟨S2x2048x30x3, .f32⟩
  | 106 => ⟨S2x2048x1x3x3, .f32⟩
  | 107 => ⟨S2x2048x1x3x3, .f32⟩
  | 108 => ⟨S2x2048x3x3, .f32⟩
  | 109 => ⟨S2x2048x3x30x3, .f32⟩
  | 110 => ⟨S2x2048x30x3x3, .f32⟩
  | 111 => ⟨S3, .i32⟩
  | 112 => ⟨S3, .i32⟩
  | 113 => ⟨S_, .i32⟩
  | 114 => ⟨S3, .i32⟩
  | 115 => ⟨S3, .i1⟩
  | 116 => ⟨S_, .i32⟩
  | 117 => ⟨S3, .i32⟩
  | 118 => ⟨S3, .i32⟩
  | 119 => ⟨S3, .i32⟩
  | 120 => ⟨S_, .i32⟩
  | 121 => ⟨S3, .i32⟩
  | 122 => ⟨S3, .i1⟩
  | 123 => ⟨S_, .i32⟩
  | 124 => ⟨S3, .i32⟩
  | 125 => ⟨S3, .i32⟩
  | 126 => ⟨S3, .i32⟩
  | 127 => ⟨S3x1, .i32⟩
  | _ => ⟨S2x2048x3, .f32⟩

abbrev hbmTy0_2 (i : Nat) : BufTy := match i % 128 with
  | 0 => ⟨S3x1, .i32⟩
  | 1 => ⟨S3x2, .i32⟩
  | 2 => ⟨S2x2048x30x3, .f32⟩
  | 3 => ⟨S2x2048x30x1, .f32⟩
  | 4 => ⟨S2x2048x30, .f32⟩
  | 5 => ⟨S2x2048x30x1, .f32⟩
  | 6 => ⟨S2x2048x30, .f32⟩
  | 7 => ⟨S2x2048x30x1, .f32⟩
  | 8 => ⟨S2x2048x30, .f32⟩
  | 9 => ⟨S2x2048x30, .f32⟩
  | 10 => ⟨S2x2048x30, .f32⟩
  | 11 => ⟨S2x2048x30, .f32⟩
  | 12 => ⟨S2x2048x30, .f32⟩
  | 13 => ⟨S2x2048x30, .f32⟩
  | 14 => ⟨S2x2048x30, .f32⟩
  | 15 => ⟨S2x2048x30, .f32⟩
  | 16 => ⟨S2x2048x30, .f32⟩
  | 17 => ⟨S2x2048x30x1, .f32⟩
  | 18 => ⟨S2x2048x30x1, .f32⟩
  | 19 => ⟨S2x2048x30x1, .f32⟩
  | 20 => ⟨S2x2048x30x3, .f32⟩
  | 21 => ⟨S_, .f32⟩
  | 22 => ⟨S2x2048x30x3, .f32⟩
  | 23 => ⟨S2x2048x30x3, .f32⟩
  | 24 => ⟨S2x2048x30x3, .f32⟩
  | 25 => ⟨S_, .f32⟩
  | 26 => ⟨S2x2048x30x3, .f32⟩
  | 27 => ⟨S2x2048x30x3, .f32⟩
  | 28 => ⟨S2x2048x30x3, .f32⟩
  | 29 => ⟨S_, .f32⟩
  | 30 => ⟨S2x2048x30x3, .f32⟩
  | 31 => ⟨S2x2048x30x3, .f32⟩
  | 32 => ⟨S2x2048x30x1x1, .f32⟩
  | 33 => ⟨S2x2048x30, .f32⟩
  | 34 => ⟨S2x2048x30x1x1, .f32⟩
  | 35 => ⟨S2x2048x30, .f32⟩
  | 36 => ⟨S2x2048x30, .f32⟩
  | 37 => ⟨S2x2048x30x1x1, .f32⟩
  | 38 => ⟨S2x2048x30, .f32⟩
  | 39 => ⟨S2x2048x30x1x1, .f32⟩
  | 40 => ⟨S2x2048x30, .f32⟩
  | 41 => ⟨S2x2048x30, .f32⟩
  | 42 => ⟨S2x2048x30x1x1, .f32⟩
  | 43 => ⟨S2x2048x30, .f32⟩
  | 44 => ⟨S2x2048x30x1x1, .f32⟩
  | 45 => ⟨S2x2048x30, .f32⟩
  | 46 => ⟨S2x2048x30, .f32⟩
  | 47 => ⟨S2x2048x30x1, .f32⟩
  | 48 => ⟨S2x2048x30x1, .f32⟩
  | 49 => ⟨S2x2048x30x1, .f32⟩
  | 50 => ⟨S2x2048x30x3, .f32⟩
  | 51 => ⟨S2x2048x30x3, .f32⟩
  | 52 => ⟨S2x2048x30x3, .f32⟩
  | 53 => ⟨S_, .f32⟩
  | 54 => ⟨S2x2048x30, .f32⟩
  | 55 => ⟨S2x2048x30x1, .f32⟩
  | 56 => ⟨S_, .f32⟩
  | 57 => ⟨S2x2048x30x1, .f32⟩
  | 58 => ⟨S2x2048x30x1, .f32⟩
  | 59 => ⟨S_, .f32⟩
  | 60 => ⟨S2x2048x30x1, .f32⟩
  | 61 => ⟨S2x2048x30x1, .f32⟩
  | 62 => ⟨S_, .f32⟩
  | 63 => ⟨S2x2048x30x1, .f32⟩
  | 64 => ⟨S2x2048x30x1, .f32⟩
  | 65 => ⟨S2x2048x30x1, .f32⟩
  | 66 => ⟨S_, .f32⟩
  | 67 => ⟨S2x2048x30x1, .f32⟩
  | 68 => ⟨S2x2048x30x1, .f32⟩
  | 69 => ⟨S2x2048x30x4, .f32⟩
  | 70 => ⟨S2x2048x30x4, .f32⟩
  | 71 => ⟨S_, .f32⟩
  | 72 => ⟨S2x2048x30, .f32⟩
  | 73 => ⟨S2x2048x30x1, .f32⟩
  | 74 => ⟨S2x2048x30x1, .f32⟩
  | 75 => ⟨S_, .f32⟩
  | 76 => ⟨S2x2048x30x1, .f32⟩
  | 77 => ⟨S2x2048x30x1, .f32⟩
  | 78 => ⟨S2x2048x30x4, .f32⟩
  | 79 => ⟨S2x2048x30x4, .f32⟩
  | 80 => ⟨S2x2048x30x7, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S15, .f32⟩
  | 89 => ⟨S_, .f32⟩
  | 90 => ⟨S15, .f32⟩
  | 91 => ⟨S15, .f32⟩
  | 92 => ⟨S1, .f32⟩
  | 93 => ⟨S_, .f32⟩
  | 94 => ⟨S15, .f32⟩
  | 95 => ⟨S15, .f32⟩
  | 96 => ⟨S15, .f32⟩
  | 97 => ⟨S15, .f32⟩
  | 98 => ⟨S1, .f32⟩
  | 99 => ⟨S15, .f32⟩
  | 100 => ⟨S15, .f32⟩
  | 101 => ⟨S15, .f32⟩
  | 102 => ⟨S1, .f32⟩
  | 103 => ⟨S16, .f32⟩
  | 104 => ⟨S1x1x1x16, .f32⟩
  | 105 => ⟨S2x2048x30x1, .f32⟩
  | 106 => ⟨S2x2048x30x16, .f32⟩
  | 107 => ⟨S2x2048x30x16, .f32⟩
  | 108 => ⟨S2x2048x30x16, .f32⟩
  | 109 => ⟨S_, .f32⟩
  | 110 => ⟨S2x2048x30x16, .f32⟩
  | 111 => ⟨S2x2048x30x16, .f32⟩
  | 112 => ⟨S2x2048x30x16, .f32⟩
  | 113 => ⟨S2x2048x30x16, .f32⟩
  | 114 => ⟨S2x2048x30x16, .f32⟩
  | 115 => ⟨S2x2048x1x3, .f32⟩
  | 116 => ⟨S2x1x2048x3, .f32⟩
  | 117 => ⟨S2x2048x2048x3, .f32⟩
  | 118 => ⟨S2x2048x2048x3, .f32⟩
  | 119 => ⟨S2x2048x2048x3, .f32⟩
  | 120 => ⟨S2x2048x2048x3, .f32⟩
  | 121 => ⟨S_, .f32⟩
  | 122 => ⟨S2x2048x2048, .f32⟩
  | 123 => ⟨S_, .f32⟩
  | 124 => ⟨S2x2048x2048, .f32⟩
  | 125 => ⟨S2x2048x2048, .f32⟩
  | 126 => ⟨S2x2048x2048, .f32⟩
  | 127 => ⟨S2x2048x2048x1, .f32⟩
  | _ => ⟨S2x2048x3, .f32⟩

abbrev hbmTy0_3 (i : Nat) : BufTy := match i % 128 with
  | 0 => ⟨S2x2048x30x1, .i32⟩
  | 1 => ⟨S_, .i32⟩
  | 2 => ⟨S2x2048x30x1, .i32⟩
  | 3 => ⟨S2x2048x30x1, .i1⟩
  | 4 => ⟨S_, .i32⟩
  | 5 => ⟨S2x2048x30x1, .i32⟩
  | 6 => ⟨S2x2048x30x1, .i32⟩
  | 7 => ⟨S2x2048x30x1, .i32⟩
  | 8 => ⟨S1, .i32⟩
  | 9 => ⟨S_, .i32⟩
  | 10 => ⟨S2x2048x30x1, .i32⟩
  | 11 => ⟨S2x2048x30x1, .i1⟩
  | 12 => ⟨S1x1x1x1, .i32⟩
  | 13 => ⟨S2x2048x30x1, .i32⟩
  | 14 => ⟨S2x2048x30x1, .i1⟩
  | 15 => ⟨S2x2048x30x1, .i1⟩
  | 16 => ⟨S_, .i1⟩
  | 17 => ⟨S2x2048x30, .i1⟩
  | 18 => ⟨S2x2048x30x1, .f32⟩
  | 19 => ⟨S2x2048x30x1, .i1⟩
  | 20 => ⟨S_, .f32⟩
  | 21 => ⟨S2x2048x30x1, .f32⟩
  | 22 => ⟨S2x2048x30x1, .f32⟩
  | 23 => ⟨S2x2048x30, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S15, .f32⟩
  | 32 => ⟨S_, .f32⟩
  | 33 => ⟨S15, .f32⟩
  | 34 => ⟨S15, .f32⟩
  | 35 => ⟨S1, .f32⟩
  | 36 => ⟨S_, .f32⟩
  | 37 => ⟨S15, .f32⟩
  | 38 => ⟨S15, .f32⟩
  | 39 => ⟨S15, .f32⟩
  | 40 => ⟨S15, .f32⟩
  | 41 => ⟨S1, .f32⟩
  | 42 => ⟨S15, .f32⟩
  | 43 => ⟨S15, .f32⟩
  | 44 => ⟨S15, .f32⟩
  | 45 => ⟨S1, .f32⟩
  | 46 => ⟨S16, .f32⟩
  | 47 => ⟨S1x1x1x16, .f32⟩
  | 48 => ⟨S2x2048x30x1, .f32⟩
  | 49 => ⟨S2x2048x30x16, .f32⟩
  | 50 => ⟨S2x2048x30x16, .f32⟩
  | 51 => ⟨S2x2048x30x16, .f32⟩
  | 52 => ⟨S_, .f32⟩
  | 53 => ⟨S2x2048x30x16, .f32⟩
  | 54 => ⟨S2x2048x30x16, .f32⟩
  | 55 => ⟨S2x2048x30x16, .f32⟩
  | 56 => ⟨S2x2048x30x16, .f32⟩
  | 57 => ⟨S2x2048x30x16, .f32⟩
  | 58 => ⟨S2x2048x1x3, .f32⟩
  | 59 => ⟨S2x1x2048x3, .f32⟩
  | 60 => ⟨S2x2048x2048x3, .f32⟩
  | 61 => ⟨S2x2048x2048x3, .f32⟩
  | 62 => ⟨S2x2048x2048x3, .f32⟩
  | 63 => ⟨S2x2048x2048x3, .f32⟩
  | 64 => ⟨S_, .f32⟩
  | 65 => ⟨S2x2048x2048, .f32⟩
  | 66 => ⟨S_, .f32⟩
  | 67 => ⟨S2x2048x2048, .f32⟩
  | 68 => ⟨S2x2048x2048, .f32⟩
  | 69 => ⟨S2x2048x2048, .f32⟩
  | 70 => ⟨S2x2048x2048x1, .f32⟩
  | 71 => ⟨S2x2048x30x1, .i32⟩
  | 72 => ⟨S_, .i32⟩
  | 73 => ⟨S2x2048x30x1, .i32⟩
  | 74 => ⟨S2x2048x30x1, .i1⟩
  | 75 => ⟨S_, .i32⟩
  | 76 => ⟨S2x2048x30x1, .i32⟩
  | 77 => ⟨S2x2048x30x1, .i32⟩
  | 78 => ⟨S2x2048x30x1, .i32⟩
  | 79 => ⟨S1, .i32⟩
  | 80 => ⟨S_, .i32⟩
  | 81 => ⟨S2x2048x30x1, .i32⟩
  | 82 => ⟨S2x2048x30x1, .i1⟩
  | 83 => ⟨S1x1x1x1, .i32⟩
  | 84 => ⟨S2x2048x30x1, .i32⟩
  | 85 => ⟨S2x2048x30x1, .i1⟩
  | 86 => ⟨S2x2048x30x1, .i1⟩
  | 87 => ⟨S_, .i1⟩
  | 88 => ⟨S2x2048x30, .i1⟩
  | 89 => ⟨S2x2048x30x1, .f32⟩
  | 90 => ⟨S2x2048x30x1, .i1⟩
  | 91 => ⟨S_, .f32⟩
  | 92 => ⟨S2x2048x30x1, .f32⟩
  | 93 => ⟨S2x2048x30x1, .f32⟩
  | 94 => ⟨S2x2048x30, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S15, .f32⟩
  | 103 => ⟨S_, .f32⟩
  | 104 => ⟨S15, .f32⟩
  | 105 => ⟨S15, .f32⟩
  | 106 => ⟨S1, .f32⟩
  | 107 => ⟨S_, .f32⟩
  | 108 => ⟨S15, .f32⟩
  | 109 => ⟨S15, .f32⟩
  | 110 => ⟨S15, .f32⟩
  | 111 => ⟨S15, .f32⟩
  | 112 => ⟨S1, .f32⟩
  | 113 => ⟨S15, .f32⟩
  | 114 => ⟨S15, .f32⟩
  | 115 => ⟨S15, .f32⟩
  | 116 => ⟨S1, .f32⟩
  | 117 => ⟨S16, .f32⟩
  | 118 => ⟨S1x1x1x16, .f32⟩
  | 119 => ⟨S2x2048x30x1, .f32⟩
  | 120 => ⟨S2x2048x30x16, .f32⟩
  | 121 => ⟨S2x2048x30x16, .f32⟩
  | 122 => ⟨S2x2048x30x16, .f32⟩
  | 123 => ⟨S_, .f32⟩
  | 124 => ⟨S2x2048x30x16, .f32⟩
  | 125 => ⟨S2x2048x30x16, .f32⟩
  | 126 => ⟨S2x2048x30x16, .f32⟩
  | 127 => ⟨S2x2048x30x16, .f32⟩
  | _ => ⟨S2x2048x3, .f32⟩

abbrev hbmTy0_4 (i : Nat) : BufTy := match i % 128 with
  | 0 => ⟨S2x2048x30x16, .f32⟩
  | 1 => ⟨S2x2048x1x3, .f32⟩
  | 2 => ⟨S2x1x2048x3, .f32⟩
  | 3 => ⟨S2x2048x2048x3, .f32⟩
  | 4 => ⟨S2x2048x2048x3, .f32⟩
  | 5 => ⟨S2x2048x2048x3, .f32⟩
  | 6 => ⟨S2x2048x2048x3, .f32⟩
  | 7 => ⟨S_, .f32⟩
  | 8 => ⟨S2x2048x2048, .f32⟩
  | 9 => ⟨S_, .f32⟩
  | 10 => ⟨S2x2048x2048, .f32⟩
  | 11 => ⟨S2x2048x2048, .f32⟩
  | 12 => ⟨S2x2048x2048, .f32⟩
  | 13 => ⟨S2x2048x2048x1, .f32⟩
  | 14 => ⟨S2x2048x30x1, .i32⟩
  | 15 => ⟨S_, .i32⟩
  | 16 => ⟨S2x2048x30x1, .i32⟩
  | 17 => ⟨S2x2048x30x1, .i1⟩
  | 18 => ⟨S_, .i32⟩
  | 19 => ⟨S2x2048x30x1, .i32⟩
  | 20 => ⟨S2x2048x30x1, .i32⟩
  | 21 => ⟨S2x2048x30x1, .i32⟩
  | 22 => ⟨S1, .i32⟩
  | 23 => ⟨S_, .i32⟩
  | 24 => ⟨S2x2048x30x1, .i32⟩
  | 25 => ⟨S2x2048x30x1, .i1⟩
  | 26 => ⟨S1x1x1x1, .i32⟩
  | 27 => ⟨S2x2048x30x1, .i32⟩
  | 28 => ⟨S2x2048x30x1, .i1⟩
  | 29 => ⟨S2x2048x30x1, .i1⟩
  | 30 => ⟨S_, .i1⟩
  | 31 => ⟨S2x2048x30, .i1⟩
  | 32 => ⟨S2x2048x30x1, .f32⟩
  | 33 => ⟨S2x2048x30x1, .i1⟩
  | 34 => ⟨S_, .f32⟩
  | 35 => ⟨S2x2048x30x1, .f32⟩
  | 36 => ⟨S2x2048x30x1, .f32⟩
  | 37 => ⟨S2x2048x30, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S15, .f32⟩
  | 46 => ⟨S_, .f32⟩
  | 47 => ⟨S15, .f32⟩
  | 48 => ⟨S15, .f32⟩
  | 49 => ⟨S1, .f32⟩
  | 50 => ⟨S_, .f32⟩
  | 51 => ⟨S15, .f32⟩
  | 52 => ⟨S15, .f32⟩
  | 53 => ⟨S15, .f32⟩
  | 54 => ⟨S15, .f32⟩
  | 55 => ⟨S1, .f32⟩
  | 56 => ⟨S15, .f32⟩
  | 57 => ⟨S15, .f32⟩
  | 58 => ⟨S15, .f32⟩
  | 59 => ⟨S1, .f32⟩
  | 60 => ⟨S16, .f32⟩
  | 61 => ⟨S1x1x1x16, .f32⟩
  | 62 => ⟨S2x2048x30x1, .f32⟩
  | 63 => ⟨S2x2048x30x16, .f32⟩
  | 64 => ⟨S2x2048x30x16, .f32⟩
  | 65 => ⟨S2x2048x30x16, .f32⟩
  | 66 => ⟨S_, .f32⟩
  | 67 => ⟨S2x2048x30x16, .f32⟩
  | 68 => ⟨S2x2048x30x16, .f32⟩
  | 69 => ⟨S2x2048x30x16, .f32⟩
  | 70 => ⟨S2x2048x30x16, .f32⟩
  | 71 => ⟨S2x2048x30x16, .f32⟩
  | 72 => ⟨S2x2048x1x3, .f32⟩
  | 73 => ⟨S2x1x2048x3, .f32⟩
  | 74 => ⟨S2x2048x2048x3, .f32⟩
  | 75 => ⟨S2x2048x2048x3, .f32⟩
  | 76 => ⟨S2x2048x2048x3, .f32⟩
  | 77 => ⟨S2x2048x2048x3, .f32⟩
  | 78 => ⟨S_, .f32⟩
  | 79 => ⟨S2x2048x2048, .f32⟩
  | 80 => ⟨S_, .f32⟩
  | 81 => ⟨S2x2048x2048, .f32⟩
  | 82 => ⟨S2x2048x2048, .f32⟩
  | 83 => ⟨S2x2048x2048, .f32⟩
  | 84 => ⟨S2x2048x2048x1, .f32⟩
  | 85 => ⟨S2x2048x30x1, .i32⟩
  | 86 => ⟨S_, .i32⟩
  | 87 => ⟨S2x2048x30x1, .i32⟩
  | 88 => ⟨S2x2048x30x1, .i1⟩
  | 89 => ⟨S_, .i32⟩
  | 90 => ⟨S2x2048x30x1, .i32⟩
  | 91 => ⟨S2x2048x30x1, .i32⟩
  | 92 => ⟨S2x2048x30x1, .i32⟩
  | 93 => ⟨S1, .i32⟩
  | 94 => ⟨S_, .i32⟩
  | 95 => ⟨S2x2048x30x1, .i32⟩
  | 96 => ⟨S2x2048x30x1, .i1⟩
  | 97 => ⟨S1x1x1x1, .i32⟩
  | 98 => ⟨S2x2048x30x1, .i32⟩
  | 99 => ⟨S2x2048x30x1, .i1⟩
  | 100 => ⟨S2x2048x30x1, .i1⟩
  | 101 => ⟨S_, .i1⟩
  | 102 => ⟨S2x2048x30, .i1⟩
  | 103 => ⟨S2x2048x30x1, .f32⟩
  | 104 => ⟨S2x2048x30x1, .i1⟩
  | 105 => ⟨S_, .f32⟩
  | 106 => ⟨S2x2048x30x1, .f32⟩
  | 107 => ⟨S2x2048x30x1, .f32⟩
  | 108 => ⟨S2x2048x30, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S15, .f32⟩
  | 117 => ⟨S_, .f32⟩
  | 118 => ⟨S15, .f32⟩
  | 119 => ⟨S15, .f32⟩
  | 120 => ⟨S1, .f32⟩
  | 121 => ⟨S_, .f32⟩
  | 122 => ⟨S15, .f32⟩
  | 123 => ⟨S15, .f32⟩
  | 124 => ⟨S15, .f32⟩
  | 125 => ⟨S15, .f32⟩
  | 126 => ⟨S1, .f32⟩
  | 127 => ⟨S15, .f32⟩
  | _ => ⟨S2x2048x3, .f32⟩

abbrev hbmTy0_5 (i : Nat) : BufTy := match i % 128 with
  | 0 => ⟨S15, .f32⟩
  | 1 => ⟨S15, .f32⟩
  | 2 => ⟨S1, .f32⟩
  | 3 => ⟨S16, .f32⟩
  | 4 => ⟨S1x1x1x16, .f32⟩
  | 5 => ⟨S2x2048x30x1, .f32⟩
  | 6 => ⟨S2x2048x30x16, .f32⟩
  | 7 => ⟨S2x2048x30x16, .f32⟩
  | 8 => ⟨S2x2048x30x16, .f32⟩
  | 9 => ⟨S_, .f32⟩
  | 10 => ⟨S2x2048x30x16, .f32⟩
  | 11 => ⟨S2x2048x30x16, .f32⟩
  | 12 => ⟨S2x2048x30x16, .f32⟩
  | 13 => ⟨S2x2048x30x16, .f32⟩
  | 14 => ⟨S2x2048x30x16, .f32⟩
  | 15 => ⟨S2x2048x1x3, .f32⟩
  | 16 => ⟨S2x1x2048x3, .f32⟩
  | 17 => ⟨S2x2048x2048x3, .f32⟩
  | 18 => ⟨S2x2048x2048x3, .f32⟩
  | 19 => ⟨S2x2048x2048x3, .f32⟩
  | 20 => ⟨S2x2048x2048x3, .f32⟩
  | 21 => ⟨S_, .f32⟩
  | 22 => ⟨S2x2048x2048, .f32⟩
  | 23 => ⟨S_, .f32⟩
  | 24 => ⟨S2x2048x2048, .f32⟩
  | 25 => ⟨S2x2048x2048, .f32⟩
  | 26 => ⟨S2x2048x2048, .f32⟩
  | 27 => ⟨S2x2048x2048x1, .f32⟩
  | 28 => ⟨S2x2048x30x1, .i32⟩
  | 29 => ⟨S_, .i32⟩
  | 30 => ⟨S2x2048x30x1, .i32⟩
  | 31 => ⟨S2x2048x30x1, .i1⟩
  | 32 => ⟨S_, .i32⟩
  | 33 => ⟨S2x2048x30x1, .i32⟩
  | 34 => ⟨S2x2048x30x1, .i32⟩
  | 35 => ⟨S2x2048x30x1, .i32⟩
  | 36 => ⟨S1, .i32⟩
  | 37 => ⟨S_, .i32⟩
  | 38 => ⟨S2x2048x30x1, .i32⟩
  | 39 => ⟨S2x2048x30x1, .i1⟩
  | 40 => ⟨S1x1x1x1, .i32⟩
  | 41 => ⟨S2x2048x30x1, .i32⟩
  | 42 => ⟨S2x2048x30x1, .i1⟩
  | 43 => ⟨S2x2048x30x1, .i1⟩
  | 44 => ⟨S_, .i1⟩
  | 45 => ⟨S2x2048x30, .i1⟩
  | 46 => ⟨S2x2048x30x1, .f32⟩
  | 47 => ⟨S2x2048x30x1, .i1⟩
  | 48 => ⟨S_, .f32⟩
  | 49 => ⟨S2x2048x30x1, .f32⟩
  | 50 => ⟨S2x2048x30x1, .f32⟩
  | 51 => ⟨S2x2048x30, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S15, .f32⟩
  | 60 => ⟨S_, .f32⟩
  | 61 => ⟨S15, .f32⟩
  | 62 => ⟨S15, .f32⟩
  | 63 => ⟨S1, .f32⟩
  | 64 => ⟨S_, .f32⟩
  | 65 => ⟨S15, .f32⟩
  | 66 => ⟨S15, .f32⟩
  | 67 => ⟨S15, .f32⟩
  | 68 => ⟨S15, .f32⟩
  | 69 => ⟨S1, .f32⟩
  | 70 => ⟨S15, .f32⟩
  | 71 => ⟨S15, .f32⟩
  | 72 => ⟨S15, .f32⟩
  | 73 => ⟨S1, .f32⟩
  | 74 => ⟨S16, .f32⟩
  | 75 => ⟨S1x1x1x16, .f32⟩
  | 76 => ⟨S2x2048x30x1, .f32⟩
  | 77 => ⟨S2x2048x30x16, .f32⟩
  | 78 => ⟨S2x2048x30x16, .f32⟩
  | 79 => ⟨S2x2048x30x16, .f32⟩
  | 80 => ⟨S_, .f32⟩
  | 81 => ⟨S2x2048x30x16, .f32⟩
  | 82 => ⟨S2x2048x30x16, .f32⟩
  | 83 => ⟨S2x2048x30x16, .f32⟩
  | 84 => ⟨S2x2048x30x16, .f32⟩
  | 85 => ⟨S2x2048x30x16, .f32⟩
  | 86 => ⟨S2x2048x1x3, .f32⟩
  | 87 => ⟨S2x1x2048x3, .f32⟩
  | 88 => ⟨S2x2048x2048x3, .f32⟩
  | 89 => ⟨S2x2048x2048x3, .f32⟩
  | 90 => ⟨S2x2048x2048x3, .f32⟩
  | 91 => ⟨S2x2048x2048x3, .f32⟩
  | 92 => ⟨S_, .f32⟩
  | 93 => ⟨S2x2048x2048, .f32⟩
  | 94 => ⟨S_, .f32⟩
  | 95 => ⟨S2x2048x2048, .f32⟩
  | 96 => ⟨S2x2048x2048, .f32⟩
  | 97 => ⟨S2x2048x2048, .f32⟩
  | 98 => ⟨S2x2048x2048x1, .f32⟩
  | 99 => ⟨S2x2048x30x1, .i32⟩
  | 100 => ⟨S_, .i32⟩
  | 101 => ⟨S2x2048x30x1, .i32⟩
  | 102 => ⟨S2x2048x30x1, .i1⟩
  | 103 => ⟨S_, .i32⟩
  | 104 => ⟨S2x2048x30x1, .i32⟩
  | 105 => ⟨S2x2048x30x1, .i32⟩
  | 106 => ⟨S2x2048x30x1, .i32⟩
  | 107 => ⟨S1, .i32⟩
  | 108 => ⟨S_, .i32⟩
  | 109 => ⟨S2x2048x30x1, .i32⟩
  | 110 => ⟨S2x2048x30x1, .i1⟩
  | 111 => ⟨S1x1x1x1, .i32⟩
  | 112 => ⟨S2x2048x30x1, .i32⟩
  | 113 => ⟨S2x2048x30x1, .i1⟩
  | 114 => ⟨S2x2048x30x1, .i1⟩
  | 115 => ⟨S_, .i1⟩
  | 116 => ⟨S2x2048x30, .i1⟩
  | 117 => ⟨S2x2048x30x1, .f32⟩
  | 118 => ⟨S2x2048x30x1, .i1⟩
  | 119 => ⟨S_, .f32⟩
  | 120 => ⟨S2x2048x30x1, .f32⟩
  | 121 => ⟨S2x2048x30x1, .f32⟩
  | 122 => ⟨S2x2048x30, .f32⟩
  | 123 => ⟨S_, .f32⟩
  | 124 => ⟨S_, .f32⟩
  | 125 => ⟨S_, .f32⟩
  | 126 => ⟨S_, .f32⟩
  | 127 => ⟨S_, .f32⟩
  | _ => ⟨S2x2048x3, .f32⟩

abbrev hbmTy0_6 (i : Nat) : BufTy := match i % 128 with
  | 0 => ⟨S_, .f32⟩
  | 1 => ⟨S_, .f32⟩
  | 2 => ⟨S15, .f32⟩
  | 3 => ⟨S_, .f32⟩
  | 4 => ⟨S15, .f32⟩
  | 5 => ⟨S15, .f32⟩
  | 6 => ⟨S1, .f32⟩
  | 7 => ⟨S_, .f32⟩
  | 8 => ⟨S15, .f32⟩
  | 9 => ⟨S15, .f32⟩
  | 10 => ⟨S15, .f32⟩
  | 11 => ⟨S15, .f32⟩
  | 12 => ⟨S1, .f32⟩
  | 13 => ⟨S15, .f32⟩
  | 14 => ⟨S15, .f32⟩
  | 15 => ⟨S15, .f32⟩
  | 16 => ⟨S1, .f32⟩
  | 17 => ⟨S16, .f32⟩
  | 18 => ⟨S1x1x1x16, .f32⟩
  | 19 => ⟨S2x2048x30x1, .f32⟩
  | 20 => ⟨S2x2048x30x16, .f32⟩
  | 21 => ⟨S2x2048x30x16, .f32⟩
  | 22 => ⟨S2x2048x30x16, .f32⟩
  | 23 => ⟨S_, .f32⟩
  | 24 => ⟨S2x2048x30x16, .f32⟩
  | 25 => ⟨S2x2048x30x16, .f32⟩
  | 26 => ⟨S2x2048x30x16, .f32⟩
  | 27 => ⟨S2x2048x30x16, .f32⟩
  | 28 => ⟨S2x2048x30x16, .f32⟩
  | 29 => ⟨S2x2048x1x3, .f32⟩
  | 30 => ⟨S2x1x2048x3, .f32⟩
  | 31 => ⟨S2x2048x2048x3, .f32⟩
  | 32 => ⟨S2x2048x2048x3, .f32⟩
  | 33 => ⟨S2x2048x2048x3, .f32⟩
  | 34 => ⟨S2x2048x2048x3, .f32⟩
  | 35 => ⟨S_, .f32⟩
  | 36 => ⟨S2x2048x2048, .f32⟩
  | 37 => ⟨S_, .f32⟩
  | 38 => ⟨S2x2048x2048, .f32⟩
  | 39 => ⟨S2x2048x2048, .f32⟩
  | 40 => ⟨S2x2048x2048, .f32⟩
  | 41 => ⟨S2x2048x2048x1, .f32⟩
  | 42 => ⟨S2x2048x30x1, .i32⟩
  | 43 => ⟨S_, .i32⟩
  | 44 => ⟨S2x2048x30x1, .i32⟩
  | 45 => ⟨S2x2048x30x1, .i1⟩
  | 46 => ⟨S_, .i32⟩
  | 47 => ⟨S2x2048x30x1, .i32⟩
  | 48 => ⟨S2x2048x30x1, .i32⟩
  | 49 => ⟨S2x2048x30x1, .i32⟩
  | 50 => ⟨S1, .i32⟩
  | 51 => ⟨S_, .i32⟩
  | 52 => ⟨S2x2048x30x1, .i32⟩
  | 53 => ⟨S2x2048x30x1, .i1⟩
  | 54 => ⟨S1x1x1x1, .i32⟩
  | 55 => ⟨S2x2048x30x1, .i32⟩
  | 56 => ⟨S2x2048x30x1, .i1⟩
  | 57 => ⟨S2x2048x30x1, .i1⟩
  | 58 => ⟨S_, .i1⟩
  | 59 => ⟨S2x2048x30, .i1⟩
  | 60 => ⟨S2x2048x30x1, .f32⟩
  | 61 => ⟨S2x2048x30x1, .i1⟩
  | 62 => ⟨S_, .f32⟩
  | 63 => ⟨S2x2048x30x1, .f32⟩
  | 64 => ⟨S2x2048x30x1, .f32⟩
  | 65 => ⟨S2x2048x30, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S15, .f32⟩
  | 74 => ⟨S_, .f32⟩
  | 75 => ⟨S15, .f32⟩
  | 76 => ⟨S15, .f32⟩
  | 77 => ⟨S1, .f32⟩
  | 78 => ⟨S_, .f32⟩
  | 79 => ⟨S15, .f32⟩
  | 80 => ⟨S15, .f32⟩
  | 81 => ⟨S15, .f32⟩
  | 82 => ⟨S15, .f32⟩
  | 83 => ⟨S1, .f32⟩
  | 84 => ⟨S15, .f32⟩
  | 85 => ⟨S15, .f32⟩
  | 86 => ⟨S15, .f32⟩
  | 87 => ⟨S1, .f32⟩
  | 88 => ⟨S16, .f32⟩
  | 89 => ⟨S1x1x1x16, .f32⟩
  | 90 => ⟨S2x2048x30x1, .f32⟩
  | 91 => ⟨S2x2048x30x16, .f32⟩
  | 92 => ⟨S2x2048x30x16, .f32⟩
  | 93 => ⟨S2x2048x30x16, .f32⟩
  | 94 => ⟨S_, .f32⟩
  | 95 => ⟨S2x2048x30x16, .f32⟩
  | 96 => ⟨S2x2048x30x16, .f32⟩
  | 97 => ⟨S2x2048x30x16, .f32⟩
  | 98 => ⟨S2x2048x30x16, .f32⟩
  | 99 => ⟨S2x2048x30x16, .f32⟩
  | 100 => ⟨S2x2048x1x3, .f32⟩
  | 101 => ⟨S2x1x2048x3, .f32⟩
  | 102 => ⟨S2x2048x2048x3, .f32⟩
  | 103 => ⟨S2x2048x2048x3, .f32⟩
  | 104 => ⟨S2x2048x2048x3, .f32⟩
  | 105 => ⟨S2x2048x2048x3, .f32⟩
  | 106 => ⟨S_, .f32⟩
  | 107 => ⟨S2x2048x2048, .f32⟩
  | 108 => ⟨S_, .f32⟩
  | 109 => ⟨S2x2048x2048, .f32⟩
  | 110 => ⟨S2x2048x2048, .f32⟩
  | 111 => ⟨S2x2048x2048, .f32⟩
  | 112 => ⟨S2x2048x2048x1, .f32⟩
  | 113 => ⟨S2x2048x30x1, .i32⟩
  | 114 => ⟨S_, .i32⟩
  | 115 => ⟨S2x2048x30x1, .i32⟩
  | 116 => ⟨S2x2048x30x1, .i1⟩
  | 117 => ⟨S_, .i32⟩
  | 118 => ⟨S2x2048x30x1, .i32⟩
  | 119 => ⟨S2x2048x30x1, .i32⟩
  | 120 => ⟨S2x2048x30x1, .i32⟩
  | 121 => ⟨S1, .i32⟩
  | 122 => ⟨S_, .i32⟩
  | 123 => ⟨S2x2048x30x1, .i32⟩
  | 124 => ⟨S2x2048x30x1, .i1⟩
  | 125 => ⟨S1x1x1x1, .i32⟩
  | 126 => ⟨S2x2048x30x1, .i32⟩
  | 127 => ⟨S2x2048x30x1, .i1⟩
  | _ => ⟨S2x2048x3, .f32⟩

abbrev hbmTy0_7 (i : Nat) : BufTy := match i % 128 with
  | 0 => ⟨S2x2048x30x1, .i1⟩
  | 1 => ⟨S_, .i1⟩
  | 2 => ⟨S2x2048x30, .i1⟩
  | 3 => ⟨S2x2048x30x1, .f32⟩
  | 4 => ⟨S2x2048x30x1, .i1⟩
  | 5 => ⟨S_, .f32⟩
  | 6 => ⟨S2x2048x30x1, .f32⟩
  | 7 => ⟨S2x2048x30x1, .f32⟩
  | 8 => ⟨S2x2048x30, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S15, .f32⟩
  | 17 => ⟨S_, .f32⟩
  | 18 => ⟨S15, .f32⟩
  | 19 => ⟨S15, .f32⟩
  | 20 => ⟨S1, .f32⟩
  | 21 => ⟨S_, .f32⟩
  | 22 => ⟨S15, .f32⟩
  | 23 => ⟨S15, .f32⟩
  | 24 => ⟨S15, .f32⟩
  | 25 => ⟨S15, .f32⟩
  | 26 => ⟨S1, .f32⟩
  | 27 => ⟨S15, .f32⟩
  | 28 => ⟨S15, .f32⟩
  | 29 => ⟨S15, .f32⟩
  | 30 => ⟨S1, .f32⟩
  | 31 => ⟨S16, .f32⟩
  | 32 => ⟨S1x1x1x16, .f32⟩
  | 33 => ⟨S2x2048x30x1, .f32⟩
  | 34 => ⟨S2x2048x30x16, .f32⟩
  | 35 => ⟨S2x2048x30x16, .f32⟩
  | 36 => ⟨S2x2048x30x16, .f32⟩
  | 37 => ⟨S_, .f32⟩
  | 38 => ⟨S2x2048x30x16, .f32⟩
  | 39 => ⟨S2x2048x30x16, .f32⟩
  | 40 => ⟨S2x2048x30x16, .f32⟩
  | 41 => ⟨S2x2048x30x16, .f32⟩
  | 42 => ⟨S2x2048x30x16, .f32⟩
  | 43 => ⟨S2x2048x30x144, .f32⟩
  | 44 => ⟨S2x2048x1, .i32⟩
  | 45 => ⟨S2x1x2048, .i32⟩
  | 46 => ⟨S2x2048x2048, .i32⟩
  | 47 => ⟨S2x2048x2048, .i32⟩
  | 48 => ⟨S2x2048x2048, .i32⟩
  | 49 => ⟨S2x2048x2048x1, .i32⟩
  | 50 => ⟨S2x2048x30x1, .i32⟩
  | 51 => ⟨S_, .i32⟩
  | 52 => ⟨S2x2048x30x1, .i32⟩
  | 53 => ⟨S2x2048x30x1, .i1⟩
  | 54 => ⟨S_, .i32⟩
  | 55 => ⟨S2x2048x30x1, .i32⟩
  | 56 => ⟨S2x2048x30x1, .i32⟩
  | 57 => ⟨S2x2048x30x1, .i32⟩
  | 58 => ⟨S1, .i32⟩
  | 59 => ⟨S_, .i32⟩
  | 60 => ⟨S2x2048x30x1, .i32⟩
  | 61 => ⟨S2x2048x30x1, .i1⟩
  | 62 => ⟨S1x1x1x1, .i32⟩
  | 63 => ⟨S2x2048x30x1, .i32⟩
  | 64 => ⟨S2x2048x30x1, .i1⟩
  | 65 => ⟨S2x2048x30x1, .i1⟩
  | 66 => ⟨S_, .i1⟩
  | 67 => ⟨S2x2048x30, .i1⟩
  | 68 => ⟨S2x2048x30x1, .i32⟩
  | 69 => ⟨S2x2048x30x1, .i1⟩
  | 70 => ⟨S_, .i32⟩
  | 71 => ⟨S2x2048x30x1, .i32⟩
  | 72 => ⟨S2x2048x30x1, .i32⟩
  | 73 => ⟨S2x2048x30, .i32⟩
  | 74 => ⟨S2x2048x1, .i32⟩
  | 75 => ⟨S2x1x2048, .i32⟩
  | 76 => ⟨S2x2048x2048, .i32⟩
  | 77 => ⟨S2x2048x2048, .i32⟩
  | 78 => ⟨S2x2048x2048, .i32⟩
  | 79 => ⟨S_, .i32⟩
  | 80 => ⟨S2x2048x2048, .i32⟩
  | 81 => ⟨S2x2048x2048, .i1⟩
  | 82 => ⟨S2x2048x2048, .i32⟩
  | 83 => ⟨S2x2048x2048x1, .i32⟩
  | 84 => ⟨S2x2048x30x1, .i32⟩
  | 85 => ⟨S_, .i32⟩
  | 86 => ⟨S2x2048x30x1, .i32⟩
  | 87 => ⟨S2x2048x30x1, .i1⟩
  | 88 => ⟨S_, .i32⟩
  | 89 => ⟨S2x2048x30x1, .i32⟩
  | 90 => ⟨S2x2048x30x1, .i32⟩
  | 91 => ⟨S2x2048x30x1, .i32⟩
  | 92 => ⟨S1, .i32⟩
  | 93 => ⟨S_, .i32⟩
  | 94 => ⟨S2x2048x30x1, .i32⟩
  | 95 => ⟨S2x2048x30x1, .i1⟩
  | 96 => ⟨S1x1x1x1, .i32⟩
  | 97 => ⟨S2x2048x30x1, .i32⟩
  | 98 => ⟨S2x2048x30x1, .i1⟩
  | 99 => ⟨S2x2048x30x1, .i1⟩
  | 100 => ⟨S_, .i1⟩
  | 101 => ⟨S2x2048x30, .i1⟩
  | 102 => ⟨S2x2048x30x1, .i32⟩
  | 103 => ⟨S2x2048x30x1, .i1⟩
  | 104 => ⟨S_, .i32⟩
  | 105 => ⟨S2x2048x30x1, .i32⟩
  | 106 => ⟨S2x2048x30x1, .i32⟩
  | 107 => ⟨S2x2048x30, .i32⟩
  | 108 => ⟨S_, .i32⟩
  | 109 => ⟨S2x2048x30, .i32⟩
  | 110 => ⟨S2x2048x30, .i32⟩
  | 111 => ⟨S_, .i32⟩
  | 112 => ⟨S_, .i32⟩
  | 113 => ⟨S_, .i32⟩
  | 114 => ⟨S2x2048x30, .i32⟩
  | 115 => ⟨S2x2048x30, .i32⟩
  | 116 => ⟨S_, .i32⟩
  | 117 => ⟨S2x2048x30, .i32⟩
  | 118 => ⟨S2x2048x30, .i32⟩
  | 119 => ⟨S2x2048x30, .i32⟩
  | 120 => ⟨S_, .i32⟩
  | 121 => ⟨S2x2048x30, .i32⟩
  | 122 => ⟨S2x2048x30, .i32⟩
  | 123 => ⟨S_, .i32⟩
  | 124 => ⟨S2x2048x30, .i32⟩
  | 125 => ⟨S2x2048x30, .i32⟩
  | 126 => ⟨S2x2048x30, .i32⟩
  | 127 => ⟨S2x2048x30x1, .i32⟩
  | _ => ⟨S2x2048x3, .f32⟩

abbrev hbmTy0_8 (i : Nat) : BufTy := match i % 128 with
  | 0 => ⟨S1x1x1x66, .i32⟩
  | 1 => ⟨S2x2048x30x66, .i32⟩
  | 2 => ⟨S2x2048x30x66, .i32⟩
  | 3 => ⟨S2x2048x30x66, .i1⟩
  | 4 => ⟨S2x2048x30x66, .f32⟩
  | 5 => ⟨S2x2048x30x16, .f32⟩
  | 6 => ⟨S1x1x1x16, .f32⟩
  | 7 => ⟨S2x2048x30x16, .f32⟩
  | 8 => ⟨S2x2048x30x16, .f32⟩
  | 9 => ⟨S2x2048x30x167, .f32⟩
  | 10 => ⟨S2x2048x30x128, .f32⟩
  | 11 => ⟨S_, .f32⟩
  | 12 => ⟨S2x2048x30, .f32⟩
  | 13 => ⟨S2x2048x30x1, .f32⟩
  | 14 => ⟨S_, .f32⟩
  | 15 => ⟨S2x2048x30x1, .f32⟩
  | 16 => ⟨S2x2048x30x1, .f32⟩
  | 17 => ⟨S2x2048x30x128, .f32⟩
  | 18 => ⟨S2x2048x30x128, .f32⟩
  | 19 => ⟨S2x2048x30x128, .f32⟩
  | 20 => ⟨S_, .f32⟩
  | 21 => ⟨S2x2048x30, .f32⟩
  | 22 => ⟨S2x2048x30x1, .f32⟩
  | 23 => ⟨S_, .f32⟩
  | 24 => ⟨S2x2048x30x1, .f32⟩
  | 25 => ⟨S2x2048x30x1, .f32⟩
  | 26 => ⟨S2x2048x30x128, .f32⟩
  | 27 => ⟨S2x2048x30x128, .f32⟩
  | 28 => ⟨S_, .f32⟩
  | 29 => ⟨S2x2048x30x1, .f32⟩
  | 30 => ⟨S2x2048x30x1, .f32⟩
  | 31 => ⟨S2x2048x30x1, .f32⟩
  | 32 => ⟨S2x2048x30x128, .f32⟩
  | 33 => ⟨S2x2048x30x128, .f32⟩
  | 34 => ⟨S1x1x1x128, .f32⟩
  | 35 => ⟨S2x2048x30x128, .f32⟩
  | 36 => ⟨S2x2048x30x128, .f32⟩
  | 37 => ⟨S1x1x1x128, .f32⟩
  | 38 => ⟨S2x2048x30x128, .f32⟩
  | 39 => ⟨S2x2048x30x128, .f32⟩
  | 40 => ⟨S2x2048x3840, .f32⟩
  | _ => ⟨S2x2048x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x2048x3, .f32⟩

abbrev bufTy : (tb : Table) → Fin (tcTables nBuf tb) → BufTy
  | .hbm, ⟨i, _⟩ => hbmTy i
  | _, _ => ⟨S2x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_values : Ref sig .tc := ⟨.hbm, 37, rfl⟩
abbrev main_indices : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_v0 : Ref sig .tc := ⟨.hbm, 55, rfl⟩
abbrev main_call0_cst : Ref sig .tc := ⟨.hbm, 56, rfl⟩
abbrev main_call0_v1 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call2_v0 : Ref sig .tc := ⟨.hbm, 107, rfl⟩
abbrev main_call2_cst : Ref sig .tc := ⟨.hbm, 108, rfl⟩
abbrev main_call2_v1 : Ref sig .tc := ⟨.hbm, 109, rfl⟩
abbrev main_call2_v2 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call3_v0 : Ref sig .tc := ⟨.hbm, 118, rfl⟩
abbrev main_call3_cst : Ref sig .tc := ⟨.hbm, 119, rfl⟩
abbrev main_call3_v1 : Ref sig .tc := ⟨.hbm, 120, rfl⟩
abbrev main_call3_v2 : Ref sig .tc := ⟨.hbm, 121, rfl⟩
abbrev main_v84 : Ref sig .tc := ⟨.hbm, 122, rfl⟩
abbrev main_cst_10 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_11 : Ref sig .tc := ⟨.hbm, 158, rfl⟩
abbrev main_call4_v0 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_call5_c : Ref sig .tc := ⟨.hbm, 164, rfl⟩
abbrev main_call5_v0 : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_c_1 : Ref sig .tc := ⟨.hbm, 172, rfl⟩
abbrev main_call5_c_2 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_3 : Ref sig .tc := ⟨.hbm, 180, rfl⟩
abbrev main_call5_v12 : Ref sig .tc := ⟨.hbm, 181, rfl⟩
abbrev main_call5_v13 : Ref sig .tc := ⟨.hbm, 182, rfl⟩
abbrev main_call5_cst : Ref sig .tc := ⟨.hbm, 183, rfl⟩
abbrev main_call5_v14 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_call6_c : Ref sig .tc := ⟨.hbm, 190, rfl⟩
abbrev main_call6_v0 : Ref sig .tc := ⟨.hbm, 191, rfl⟩
abbrev main_call6_v1 : Ref sig .tc := ⟨.hbm, 192, rfl⟩
abbrev main_call6_c_0 : Ref sig .tc := ⟨.hbm, 193, rfl⟩
abbrev main_call6_v2 : Ref sig .tc := ⟨.hbm, 194, rfl⟩
abbrev main_call6_v3 : Ref sig .tc := ⟨.hbm, 195, rfl⟩
abbrev main_call6_v4 : Ref sig .tc := ⟨.hbm, 196, rfl⟩
abbrev main_call6_v5 : Ref sig .tc := ⟨.hbm, 197, rfl⟩
abbrev main_call6_c_1 : Ref sig .tc := ⟨.hbm, 198, rfl⟩
abbrev main_call6_c_2 : Ref sig .tc := ⟨.hbm, 199, rfl⟩
abbrev main_call6_v6 : Ref sig .tc := ⟨.hbm, 200, rfl⟩
abbrev main_call6_v7 : Ref sig .tc := ⟨.hbm, 201, rfl⟩
abbrev main_call6_v8 : Ref sig .tc := ⟨.hbm, 202, rfl⟩
abbrev main_call6_v9 : Ref sig .tc := ⟨.hbm, 203, rfl⟩
abbrev main_call6_v10 : Ref sig .tc := ⟨.hbm, 204, rfl⟩
abbrev main_call6_v11 : Ref sig .tc := ⟨.hbm, 205, rfl⟩
abbrev main_call6_c_3 : Ref sig .tc := ⟨.hbm, 206, rfl⟩
abbrev main_call6_v12 : Ref sig .tc := ⟨.hbm, 207, rfl⟩
abbrev main_call6_v13 : Ref sig .tc := ⟨.hbm, 208, rfl⟩
abbrev main_call6_cst : Ref sig .tc := ⟨.hbm, 209, rfl⟩
abbrev main_call6_v14 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_call7_v0 : Ref sig .tc := ⟨.hbm, 224, rfl⟩
abbrev main_call7_cst : Ref sig .tc := ⟨.hbm, 225, rfl⟩
abbrev main_call7_v1 : Ref sig .tc := ⟨.hbm, 226, rfl⟩
abbrev main_call7_v2 : Ref sig .tc := ⟨.hbm, 227, rfl⟩
abbrev main_v141 : Ref sig .tc := ⟨.hbm, 228, rfl⟩
abbrev main_cst_12 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_call8_v0 : Ref sig .tc := ⟨.hbm, 239, rfl⟩
abbrev main_call8_v1 : Ref sig .tc := ⟨.hbm, 240, rfl⟩
abbrev main_call8_c : Ref sig .tc := ⟨.hbm, 241, rfl⟩
abbrev main_call8_v2 : Ref sig .tc := ⟨.hbm, 242, rfl⟩
abbrev main_call8_v3 : Ref sig .tc := ⟨.hbm, 243, rfl⟩
abbrev main_call8_c_0 : Ref sig .tc := ⟨.hbm, 244, rfl⟩
abbrev main_call8_v4 : Ref sig .tc := ⟨.hbm, 245, rfl⟩
abbrev main_call8_v5 : Ref sig .tc := ⟨.hbm, 246, rfl⟩
abbrev main_call8_v6 : Ref sig .tc := ⟨.hbm, 247, rfl⟩
abbrev main_call8_c_1 : Ref sig .tc := ⟨.hbm, 248, rfl⟩
abbrev main_call8_v7 : Ref sig .tc := ⟨.hbm, 249, rfl⟩
abbrev main_call8_v8 : Ref sig .tc := ⟨.hbm, 250, rfl⟩
abbrev main_call8_c_2 : Ref sig .tc := ⟨.hbm, 251, rfl⟩
abbrev main_call8_v9 : Ref sig .tc := ⟨.hbm, 252, rfl⟩
abbrev main_call8_v10 : Ref sig .tc := ⟨.hbm, 253, rfl⟩
abbrev main_call8_v11 : Ref sig .tc := ⟨.hbm, 254, rfl⟩
abbrev main_call8_v12 : Ref sig .tc := ⟨.hbm, 255, rfl⟩
abbrev main_call8_v13 : Ref sig .tc := ⟨.hbm, 256, rfl⟩
abbrev main_call8_v14 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_cst_13 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_cst_14 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_cst_15 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_cst_16 : Ref sig .tc := ⟨.hbm, 309, rfl⟩
abbrev main_v199 : Ref sig .tc := ⟨.hbm, 310, rfl⟩
abbrev main_v200 : Ref sig .tc := ⟨.hbm, 311, rfl⟩
abbrev main_cst_17 : Ref sig .tc := ⟨.hbm, 312, rfl⟩
abbrev main_v201 : Ref sig .tc := ⟨.hbm, 313, rfl⟩
abbrev main_v202 : Ref sig .tc := ⟨.hbm, 314, rfl⟩
abbrev main_call9_cst : Ref sig .tc := ⟨.hbm, 315, rfl⟩
abbrev main_call9_v0 : Ref sig .tc := ⟨.hbm, 316, rfl⟩
abbrev main_v203 : Ref sig .tc := ⟨.hbm, 317, rfl⟩
abbrev main_cst_18 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_cst_19 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_call10_v0 : Ref sig .tc := ⟨.hbm, 326, rfl⟩
abbrev main_call10_cst : Ref sig .tc := ⟨.hbm, 327, rfl⟩
abbrev main_call10_v1 : Ref sig .tc := ⟨.hbm, 328, rfl⟩
abbrev main_call10_v2 : Ref sig .tc := ⟨.hbm, 329, rfl⟩
abbrev main_v210 : Ref sig .tc := ⟨.hbm, 330, rfl⟩
abbrev main_cst_20 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_cst_21 : Ref sig .tc := ⟨.hbm, 337, rfl⟩
abbrev main_cst_22 : Ref sig .tc := ⟨.hbm, 338, rfl⟩
abbrev main_call11_v0 : Ref sig .tc := ⟨.hbm, 339, rfl⟩
abbrev main_call11_v1 : Ref sig .tc := ⟨.hbm, 340, rfl⟩
abbrev main_call11_v2 : Ref sig .tc := ⟨.hbm, 341, rfl⟩
abbrev main_call11_cst : Ref sig .tc := ⟨.hbm, 342, rfl⟩
abbrev main_call11_v3 : Ref sig .tc := ⟨.hbm, 343, rfl⟩
abbrev main_call11_v4 : Ref sig .tc := ⟨.hbm, 344, rfl⟩
abbrev main_call11_cst_0 : Ref sig .tc := ⟨.hbm, 345, rfl⟩
abbrev main_call11_v5 : Ref sig .tc := ⟨.hbm, 346, rfl⟩
abbrev main_call11_v6 : Ref sig .tc := ⟨.hbm, 347, rfl⟩
abbrev main_call11_v7 : Ref sig .tc := ⟨.hbm, 348, rfl⟩
abbrev main_call11_cst_1 : Ref sig .tc := ⟨.hbm, 349, rfl⟩
abbrev main_call11_v8 : Ref sig .tc := ⟨.hbm, 350, rfl⟩
abbrev main_call11_v9 : Ref sig .tc := ⟨.hbm, 351, rfl⟩
abbrev main_call11_v10 : Ref sig .tc := ⟨.hbm, 352, rfl⟩
abbrev main_call11_v11 : Ref sig .tc := ⟨.hbm, 353, rfl⟩
abbrev main_call11_v12 : Ref sig .tc := ⟨.hbm, 354, rfl⟩
abbrev main_call11_v13 : Ref sig .tc := ⟨.hbm, 355, rfl⟩
abbrev main_call11_v14 : Ref sig .tc := ⟨.hbm, 356, rfl⟩
abbrev main_call11_v15 : Ref sig .tc := ⟨.hbm, 357, rfl⟩
abbrev main_call11_v16 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_v221 : Ref sig .tc := ⟨.hbm, 364, rfl⟩
abbrev main_cst_23 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_cst_24 : Ref sig .tc := ⟨.hbm, 377, rfl⟩
abbrev main_v233 : Ref sig .tc := ⟨.hbm, 378, rfl⟩
abbrev main_cst_25 : Ref sig .tc := ⟨.hbm, 379, rfl⟩
abbrev main_v234 : Ref sig .tc := ⟨.hbm, 380, rfl⟩
abbrev main_v235 : Ref sig .tc := ⟨.hbm, 381, rfl⟩
abbrev main_v236 : Ref sig .tc := ⟨.hbm, 382, rfl⟩
abbrev main_v237 : Ref sig .tc := ⟨.hbm, 383, rfl⟩
abbrev main_v238 : Ref sig .tc := ⟨.hbm, 384, rfl⟩
abbrev main_call12_c : Ref sig .tc := ⟨.hbm, 385, rfl⟩
abbrev main_call12_v0 : Ref sig .tc := ⟨.hbm, 386, rfl⟩
abbrev main_call12_v1 : Ref sig .tc := ⟨.hbm, 387, rfl⟩
abbrev main_call12_c_0 : Ref sig .tc := ⟨.hbm, 388, rfl⟩
abbrev main_call12_v2 : Ref sig .tc := ⟨.hbm, 389, rfl⟩
abbrev main_call12_v3 : Ref sig .tc := ⟨.hbm, 390, rfl⟩
abbrev main_call12_v4 : Ref sig .tc := ⟨.hbm, 391, rfl⟩
abbrev main_call12_c_1 : Ref sig .tc := ⟨.hbm, 392, rfl⟩
abbrev main_call12_c_2 : Ref sig .tc := ⟨.hbm, 393, rfl⟩
abbrev main_call12_v5 : Ref sig .tc := ⟨.hbm, 394, rfl⟩
abbrev main_call12_v6 : Ref sig .tc := ⟨.hbm, 395, rfl⟩
abbrev main_call12_v7 : Ref sig .tc := ⟨.hbm, 396, rfl⟩
abbrev main_call12_v8 : Ref sig .tc := ⟨.hbm, 397, rfl⟩
abbrev main_call12_v9 : Ref sig .tc := ⟨.hbm, 398, rfl⟩
abbrev main_call12_v10 : Ref sig .tc := ⟨.hbm, 399, rfl⟩
abbrev main_call12_c_3 : Ref sig .tc := ⟨.hbm, 400, rfl⟩
abbrev main_call12_v11 : Ref sig .tc := ⟨.hbm, 401, rfl⟩
abbrev main_call12_v12 : Ref sig .tc := ⟨.hbm, 402, rfl⟩
abbrev main_call12_v13 : Ref sig .tc := ⟨.hbm, 403, rfl⟩
abbrev main_call12_cst : Ref sig .tc := ⟨.hbm, 404, rfl⟩
abbrev main_call12_v14 : Ref sig .tc := ⟨.hbm, 405, rfl⟩
abbrev main_v239 : Ref sig .tc := ⟨.hbm, 406, rfl⟩
abbrev main_v240 : Ref sig .tc := ⟨.hbm, 407, rfl⟩
abbrev main_cst_26 : Ref sig .tc := ⟨.hbm, 408, rfl⟩
abbrev main_cst_27 : Ref sig .tc := ⟨.hbm, 409, rfl⟩
abbrev main_call13_v0 : Ref sig .tc := ⟨.hbm, 410, rfl⟩
abbrev main_call13_v1 : Ref sig .tc := ⟨.hbm, 411, rfl⟩
abbrev main_call13_v2 : Ref sig .tc := ⟨.hbm, 412, rfl⟩
abbrev main_call13_cst : Ref sig .tc := ⟨.hbm, 413, rfl⟩
abbrev main_call13_v3 : Ref sig .tc := ⟨.hbm, 414, rfl⟩
abbrev main_call13_v4 : Ref sig .tc := ⟨.hbm, 415, rfl⟩
abbrev main_call13_cst_0 : Ref sig .tc := ⟨.hbm, 416, rfl⟩
abbrev main_call13_v5 : Ref sig .tc := ⟨.hbm, 417, rfl⟩
abbrev main_call13_v6 : Ref sig .tc := ⟨.hbm, 418, rfl⟩
abbrev main_call13_v7 : Ref sig .tc := ⟨.hbm, 419, rfl⟩
abbrev main_call13_cst_1 : Ref sig .tc := ⟨.hbm, 420, rfl⟩
abbrev main_call13_v8 : Ref sig .tc := ⟨.hbm, 421, rfl⟩
abbrev main_call13_v9 : Ref sig .tc := ⟨.hbm, 422, rfl⟩
abbrev main_call13_v10 : Ref sig .tc := ⟨.hbm, 423, rfl⟩
abbrev main_call13_v11 : Ref sig .tc := ⟨.hbm, 424, rfl⟩
abbrev main_call13_v12 : Ref sig .tc := ⟨.hbm, 425, rfl⟩
abbrev main_call13_v13 : Ref sig .tc := ⟨.hbm, 426, rfl⟩
abbrev main_call13_v14 : Ref sig .tc := ⟨.hbm, 427, rfl⟩
abbrev main_call13_v15 : Ref sig .tc := ⟨.hbm, 428, rfl⟩
abbrev main_call13_v16 : Ref sig .tc := ⟨.hbm, 429, rfl⟩
abbrev main_v241 : Ref sig .tc := ⟨.hbm, 430, rfl⟩
abbrev main_v242 : Ref sig .tc := ⟨.hbm, 431, rfl⟩
abbrev main_v243 : Ref sig .tc := ⟨.hbm, 432, rfl⟩
abbrev main_v244 : Ref sig .tc := ⟨.hbm, 433, rfl⟩
abbrev main_v245 : Ref sig .tc := ⟨.hbm, 434, rfl⟩
abbrev main_v246 : Ref sig .tc := ⟨.hbm, 435, rfl⟩
abbrev main_cst_28 : Ref sig .tc := ⟨.hbm, 436, rfl⟩
abbrev main_v247 : Ref sig .tc := ⟨.hbm, 437, rfl⟩
abbrev main_v248 : Ref sig .tc := ⟨.hbm, 438, rfl⟩
abbrev main_v249 : Ref sig .tc := ⟨.hbm, 439, rfl⟩
abbrev main_v250 : Ref sig .tc := ⟨.hbm, 440, rfl⟩
abbrev main_v251 : Ref sig .tc := ⟨.hbm, 441, rfl⟩
abbrev main_v252 : Ref sig .tc := ⟨.hbm, 442, rfl⟩
abbrev main_v253 : Ref sig .tc := ⟨.hbm, 443, rfl⟩
abbrev main_v254 : Ref sig .tc := ⟨.hbm, 444, rfl⟩
abbrev main_v255 : Ref sig .tc := ⟨.hbm, 445, rfl⟩
abbrev main_v256 : Ref sig .tc := ⟨.hbm, 446, rfl⟩
abbrev main_v257 : Ref sig .tc := ⟨.hbm, 447, rfl⟩
abbrev main_cst_29 : Ref sig .tc := ⟨.hbm, 448, rfl⟩
abbrev main_v258 : Ref sig .tc := ⟨.hbm, 449, rfl⟩
abbrev main_cst_30 : Ref sig .tc := ⟨.hbm, 450, rfl⟩
abbrev main_v259 : Ref sig .tc := ⟨.hbm, 451, rfl⟩
abbrev main_v260 : Ref sig .tc := ⟨.hbm, 452, rfl⟩
abbrev main_v261 : Ref sig .tc := ⟨.hbm, 453, rfl⟩
abbrev main_v262 : Ref sig .tc := ⟨.hbm, 454, rfl⟩
abbrev main_v263 : Ref sig .tc := ⟨.hbm, 455, rfl⟩
abbrev main_call14_c : Ref sig .tc := ⟨.hbm, 456, rfl⟩
abbrev main_call14_v0 : Ref sig .tc := ⟨.hbm, 457, rfl⟩
abbrev main_call14_v1 : Ref sig .tc := ⟨.hbm, 458, rfl⟩
abbrev main_call14_c_0 : Ref sig .tc := ⟨.hbm, 459, rfl⟩
abbrev main_call14_v2 : Ref sig .tc := ⟨.hbm, 460, rfl⟩
abbrev main_call14_v3 : Ref sig .tc := ⟨.hbm, 461, rfl⟩
abbrev main_call14_v4 : Ref sig .tc := ⟨.hbm, 462, rfl⟩
abbrev main_call14_c_1 : Ref sig .tc := ⟨.hbm, 463, rfl⟩
abbrev main_call14_c_2 : Ref sig .tc := ⟨.hbm, 464, rfl⟩
abbrev main_call14_v5 : Ref sig .tc := ⟨.hbm, 465, rfl⟩
abbrev main_call14_v6 : Ref sig .tc := ⟨.hbm, 466, rfl⟩
abbrev main_call14_v7 : Ref sig .tc := ⟨.hbm, 467, rfl⟩
abbrev main_call14_v8 : Ref sig .tc := ⟨.hbm, 468, rfl⟩
abbrev main_call14_v9 : Ref sig .tc := ⟨.hbm, 469, rfl⟩
abbrev main_call14_v10 : Ref sig .tc := ⟨.hbm, 470, rfl⟩
abbrev main_call14_c_3 : Ref sig .tc := ⟨.hbm, 471, rfl⟩
abbrev main_call14_v11 : Ref sig .tc := ⟨.hbm, 472, rfl⟩
abbrev main_call14_v12 : Ref sig .tc := ⟨.hbm, 473, rfl⟩
abbrev main_call14_v13 : Ref sig .tc := ⟨.hbm, 474, rfl⟩
abbrev main_call14_cst : Ref sig .tc := ⟨.hbm, 475, rfl⟩
abbrev main_call14_v14 : Ref sig .tc := ⟨.hbm, 476, rfl⟩
abbrev main_v264 : Ref sig .tc := ⟨.hbm, 477, rfl⟩
abbrev main_v265 : Ref sig .tc := ⟨.hbm, 478, rfl⟩
abbrev main_cst_31 : Ref sig .tc := ⟨.hbm, 479, rfl⟩
abbrev main_cst_32 : Ref sig .tc := ⟨.hbm, 480, rfl⟩
abbrev main_call15_v0 : Ref sig .tc := ⟨.hbm, 481, rfl⟩
abbrev main_call15_v1 : Ref sig .tc := ⟨.hbm, 482, rfl⟩
abbrev main_call15_v2 : Ref sig .tc := ⟨.hbm, 483, rfl⟩
abbrev main_call15_cst : Ref sig .tc := ⟨.hbm, 484, rfl⟩
abbrev main_call15_v3 : Ref sig .tc := ⟨.hbm, 485, rfl⟩
abbrev main_call15_v4 : Ref sig .tc := ⟨.hbm, 486, rfl⟩
abbrev main_call15_cst_0 : Ref sig .tc := ⟨.hbm, 487, rfl⟩
abbrev main_call15_v5 : Ref sig .tc := ⟨.hbm, 488, rfl⟩
abbrev main_call15_v6 : Ref sig .tc := ⟨.hbm, 489, rfl⟩
abbrev main_call15_v7 : Ref sig .tc := ⟨.hbm, 490, rfl⟩
abbrev main_call15_cst_1 : Ref sig .tc := ⟨.hbm, 491, rfl⟩
abbrev main_call15_v8 : Ref sig .tc := ⟨.hbm, 492, rfl⟩
abbrev main_call15_v9 : Ref sig .tc := ⟨.hbm, 493, rfl⟩
abbrev main_call15_v10 : Ref sig .tc := ⟨.hbm, 494, rfl⟩
abbrev main_call15_v11 : Ref sig .tc := ⟨.hbm, 495, rfl⟩
abbrev main_call15_v12 : Ref sig .tc := ⟨.hbm, 496, rfl⟩
abbrev main_call15_v13 : Ref sig .tc := ⟨.hbm, 497, rfl⟩
abbrev main_call15_v14 : Ref sig .tc := ⟨.hbm, 498, rfl⟩
abbrev main_call15_v15 : Ref sig .tc := ⟨.hbm, 499, rfl⟩
abbrev main_call15_v16 : Ref sig .tc := ⟨.hbm, 500, rfl⟩
abbrev main_v266 : Ref sig .tc := ⟨.hbm, 501, rfl⟩
abbrev main_v267 : Ref sig .tc := ⟨.hbm, 502, rfl⟩
abbrev main_v268 : Ref sig .tc := ⟨.hbm, 503, rfl⟩
abbrev main_v269 : Ref sig .tc := ⟨.hbm, 504, rfl⟩
abbrev main_v270 : Ref sig .tc := ⟨.hbm, 505, rfl⟩
abbrev main_v271 : Ref sig .tc := ⟨.hbm, 506, rfl⟩
abbrev main_cst_33 : Ref sig .tc := ⟨.hbm, 507, rfl⟩
abbrev main_v272 : Ref sig .tc := ⟨.hbm, 508, rfl⟩
abbrev main_v273 : Ref sig .tc := ⟨.hbm, 509, rfl⟩
abbrev main_v274 : Ref sig .tc := ⟨.hbm, 510, rfl⟩
abbrev main_v275 : Ref sig .tc := ⟨.hbm, 511, rfl⟩
abbrev main_v276 : Ref sig .tc := ⟨.hbm, 512, rfl⟩
abbrev main_v277 : Ref sig .tc := ⟨.hbm, 513, rfl⟩
abbrev main_v278 : Ref sig .tc := ⟨.hbm, 514, rfl⟩
abbrev main_v279 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_cst_34 : Ref sig .tc := ⟨.hbm, 519, rfl⟩
abbrev main_v283 : Ref sig .tc := ⟨.hbm, 520, rfl⟩
abbrev main_cst_35 : Ref sig .tc := ⟨.hbm, 521, rfl⟩
abbrev main_v284 : Ref sig .tc := ⟨.hbm, 522, rfl⟩
abbrev main_v285 : Ref sig .tc := ⟨.hbm, 523, rfl⟩
abbrev main_v286 : Ref sig .tc := ⟨.hbm, 524, rfl⟩
abbrev main_v287 : Ref sig .tc := ⟨.hbm, 525, rfl⟩
abbrev main_v288 : Ref sig .tc := ⟨.hbm, 526, rfl⟩
abbrev main_call16_c : Ref sig .tc := ⟨.hbm, 527, rfl⟩
abbrev main_call16_v0 : Ref sig .tc := ⟨.hbm, 528, rfl⟩
abbrev main_call16_v1 : Ref sig .tc := ⟨.hbm, 529, rfl⟩
abbrev main_call16_c_0 : Ref sig .tc := ⟨.hbm, 530, rfl⟩
abbrev main_call16_v2 : Ref sig .tc := ⟨.hbm, 531, rfl⟩
abbrev main_call16_v3 : Ref sig .tc := ⟨.hbm, 532, rfl⟩
abbrev main_call16_v4 : Ref sig .tc := ⟨.hbm, 533, rfl⟩
abbrev main_call16_c_1 : Ref sig .tc := ⟨.hbm, 534, rfl⟩
abbrev main_call16_c_2 : Ref sig .tc := ⟨.hbm, 535, rfl⟩
abbrev main_call16_v5 : Ref sig .tc := ⟨.hbm, 536, rfl⟩
abbrev main_call16_v6 : Ref sig .tc := ⟨.hbm, 537, rfl⟩
abbrev main_call16_v7 : Ref sig .tc := ⟨.hbm, 538, rfl⟩
abbrev main_call16_v8 : Ref sig .tc := ⟨.hbm, 539, rfl⟩
abbrev main_call16_v9 : Ref sig .tc := ⟨.hbm, 540, rfl⟩
abbrev main_call16_v10 : Ref sig .tc := ⟨.hbm, 541, rfl⟩
abbrev main_call16_c_3 : Ref sig .tc := ⟨.hbm, 542, rfl⟩
abbrev main_call16_v11 : Ref sig .tc := ⟨.hbm, 543, rfl⟩
abbrev main_call16_v12 : Ref sig .tc := ⟨.hbm, 544, rfl⟩
abbrev main_call16_v13 : Ref sig .tc := ⟨.hbm, 545, rfl⟩
abbrev main_call16_cst : Ref sig .tc := ⟨.hbm, 546, rfl⟩
abbrev main_call16_v14 : Ref sig .tc := ⟨.hbm, 547, rfl⟩
abbrev main_v289 : Ref sig .tc := ⟨.hbm, 548, rfl⟩
abbrev main_v290 : Ref sig .tc := ⟨.hbm, 549, rfl⟩
abbrev main_cst_36 : Ref sig .tc := ⟨.hbm, 550, rfl⟩
abbrev main_cst_37 : Ref sig .tc := ⟨.hbm, 551, rfl⟩
abbrev main_call17_v0 : Ref sig .tc := ⟨.hbm, 552, rfl⟩
abbrev main_call17_v1 : Ref sig .tc := ⟨.hbm, 553, rfl⟩
abbrev main_call17_v2 : Ref sig .tc := ⟨.hbm, 554, rfl⟩
abbrev main_call17_cst : Ref sig .tc := ⟨.hbm, 555, rfl⟩
abbrev main_call17_v3 : Ref sig .tc := ⟨.hbm, 556, rfl⟩
abbrev main_call17_v4 : Ref sig .tc := ⟨.hbm, 557, rfl⟩
abbrev main_call17_cst_0 : Ref sig .tc := ⟨.hbm, 558, rfl⟩
abbrev main_call17_v5 : Ref sig .tc := ⟨.hbm, 559, rfl⟩
abbrev main_call17_v6 : Ref sig .tc := ⟨.hbm, 560, rfl⟩
abbrev main_call17_v7 : Ref sig .tc := ⟨.hbm, 561, rfl⟩
abbrev main_call17_cst_1 : Ref sig .tc := ⟨.hbm, 562, rfl⟩
abbrev main_call17_v8 : Ref sig .tc := ⟨.hbm, 563, rfl⟩
abbrev main_call17_v9 : Ref sig .tc := ⟨.hbm, 564, rfl⟩
abbrev main_call17_v10 : Ref sig .tc := ⟨.hbm, 565, rfl⟩
abbrev main_call17_v11 : Ref sig .tc := ⟨.hbm, 566, rfl⟩
abbrev main_call17_v12 : Ref sig .tc := ⟨.hbm, 567, rfl⟩
abbrev main_call17_v13 : Ref sig .tc := ⟨.hbm, 568, rfl⟩
abbrev main_call17_v14 : Ref sig .tc := ⟨.hbm, 569, rfl⟩
abbrev main_call17_v15 : Ref sig .tc := ⟨.hbm, 570, rfl⟩
abbrev main_call17_v16 : Ref sig .tc := ⟨.hbm, 571, rfl⟩
abbrev main_v291 : Ref sig .tc := ⟨.hbm, 572, rfl⟩
abbrev main_v292 : Ref sig .tc := ⟨.hbm, 573, rfl⟩
abbrev main_v293 : Ref sig .tc := ⟨.hbm, 574, rfl⟩
abbrev main_v294 : Ref sig .tc := ⟨.hbm, 575, rfl⟩
abbrev main_v295 : Ref sig .tc := ⟨.hbm, 576, rfl⟩
abbrev main_v296 : Ref sig .tc := ⟨.hbm, 577, rfl⟩
abbrev main_cst_38 : Ref sig .tc := ⟨.hbm, 578, rfl⟩
abbrev main_v297 : Ref sig .tc := ⟨.hbm, 579, rfl⟩
abbrev main_v298 : Ref sig .tc := ⟨.hbm, 580, rfl⟩
abbrev main_v299 : Ref sig .tc := ⟨.hbm, 581, rfl⟩
abbrev main_v300 : Ref sig .tc := ⟨.hbm, 582, rfl⟩
abbrev main_v301 : Ref sig .tc := ⟨.hbm, 583, rfl⟩
abbrev main_v302 : Ref sig .tc := ⟨.hbm, 584, rfl⟩
abbrev main_v303 : Ref sig .tc := ⟨.hbm, 585, rfl⟩
abbrev main_v304 : Ref sig .tc := ⟨.hbm, 586, rfl⟩
abbrev main_v305 : Ref sig .tc := ⟨.hbm, 587, rfl⟩
abbrev main_v306 : Ref sig .tc := ⟨.hbm, 588, rfl⟩
abbrev main_v307 : Ref sig .tc := ⟨.hbm, 589, rfl⟩
abbrev main_cst_39 : Ref sig .tc := ⟨.hbm, 590, rfl⟩
abbrev main_v308 : Ref sig .tc := ⟨.hbm, 591, rfl⟩
abbrev main_cst_40 : Ref sig .tc := ⟨.hbm, 592, rfl⟩
abbrev main_v309 : Ref sig .tc := ⟨.hbm, 593, rfl⟩
abbrev main_v310 : Ref sig .tc := ⟨.hbm, 594, rfl⟩
abbrev main_v311 : Ref sig .tc := ⟨.hbm, 595, rfl⟩
abbrev main_v312 : Ref sig .tc := ⟨.hbm, 596, rfl⟩
abbrev main_v313 : Ref sig .tc := ⟨.hbm, 597, rfl⟩
abbrev main_call18_c : Ref sig .tc := ⟨.hbm, 598, rfl⟩
abbrev main_call18_v0 : Ref sig .tc := ⟨.hbm, 599, rfl⟩
abbrev main_call18_v1 : Ref sig .tc := ⟨.hbm, 600, rfl⟩
abbrev main_call18_c_0 : Ref sig .tc := ⟨.hbm, 601, rfl⟩
abbrev main_call18_v2 : Ref sig .tc := ⟨.hbm, 602, rfl⟩
abbrev main_call18_v3 : Ref sig .tc := ⟨.hbm, 603, rfl⟩
abbrev main_call18_v4 : Ref sig .tc := ⟨.hbm, 604, rfl⟩
abbrev main_call18_c_1 : Ref sig .tc := ⟨.hbm, 605, rfl⟩
abbrev main_call18_c_2 : Ref sig .tc := ⟨.hbm, 606, rfl⟩
abbrev main_call18_v5 : Ref sig .tc := ⟨.hbm, 607, rfl⟩
abbrev main_call18_v6 : Ref sig .tc := ⟨.hbm, 608, rfl⟩
abbrev main_call18_v7 : Ref sig .tc := ⟨.hbm, 609, rfl⟩
abbrev main_call18_v8 : Ref sig .tc := ⟨.hbm, 610, rfl⟩
abbrev main_call18_v9 : Ref sig .tc := ⟨.hbm, 611, rfl⟩
abbrev main_call18_v10 : Ref sig .tc := ⟨.hbm, 612, rfl⟩
abbrev main_call18_c_3 : Ref sig .tc := ⟨.hbm, 613, rfl⟩
abbrev main_call18_v11 : Ref sig .tc := ⟨.hbm, 614, rfl⟩
abbrev main_call18_v12 : Ref sig .tc := ⟨.hbm, 615, rfl⟩
abbrev main_call18_v13 : Ref sig .tc := ⟨.hbm, 616, rfl⟩
abbrev main_call18_cst : Ref sig .tc := ⟨.hbm, 617, rfl⟩
abbrev main_call18_v14 : Ref sig .tc := ⟨.hbm, 618, rfl⟩
abbrev main_v314 : Ref sig .tc := ⟨.hbm, 619, rfl⟩
abbrev main_v315 : Ref sig .tc := ⟨.hbm, 620, rfl⟩
abbrev main_cst_41 : Ref sig .tc := ⟨.hbm, 621, rfl⟩
abbrev main_cst_42 : Ref sig .tc := ⟨.hbm, 622, rfl⟩
abbrev main_call19_v0 : Ref sig .tc := ⟨.hbm, 623, rfl⟩
abbrev main_call19_v1 : Ref sig .tc := ⟨.hbm, 624, rfl⟩
abbrev main_call19_v2 : Ref sig .tc := ⟨.hbm, 625, rfl⟩
abbrev main_call19_cst : Ref sig .tc := ⟨.hbm, 626, rfl⟩
abbrev main_call19_v3 : Ref sig .tc := ⟨.hbm, 627, rfl⟩
abbrev main_call19_v4 : Ref sig .tc := ⟨.hbm, 628, rfl⟩
abbrev main_call19_cst_0 : Ref sig .tc := ⟨.hbm, 629, rfl⟩
abbrev main_call19_v5 : Ref sig .tc := ⟨.hbm, 630, rfl⟩
abbrev main_call19_v6 : Ref sig .tc := ⟨.hbm, 631, rfl⟩
abbrev main_call19_v7 : Ref sig .tc := ⟨.hbm, 632, rfl⟩
abbrev main_call19_cst_1 : Ref sig .tc := ⟨.hbm, 633, rfl⟩
abbrev main_call19_v8 : Ref sig .tc := ⟨.hbm, 634, rfl⟩
abbrev main_call19_v9 : Ref sig .tc := ⟨.hbm, 635, rfl⟩
abbrev main_call19_v10 : Ref sig .tc := ⟨.hbm, 636, rfl⟩
abbrev main_call19_v11 : Ref sig .tc := ⟨.hbm, 637, rfl⟩
abbrev main_call19_v12 : Ref sig .tc := ⟨.hbm, 638, rfl⟩
abbrev main_call19_v13 : Ref sig .tc := ⟨.hbm, 639, rfl⟩
abbrev main_call19_v14 : Ref sig .tc := ⟨.hbm, 640, rfl⟩
abbrev main_call19_v15 : Ref sig .tc := ⟨.hbm, 641, rfl⟩
abbrev main_call19_v16 : Ref sig .tc := ⟨.hbm, 642, rfl⟩
abbrev main_v316 : Ref sig .tc := ⟨.hbm, 643, rfl⟩
abbrev main_v317 : Ref sig .tc := ⟨.hbm, 644, rfl⟩
abbrev main_v318 : Ref sig .tc := ⟨.hbm, 645, rfl⟩
abbrev main_v319 : Ref sig .tc := ⟨.hbm, 646, rfl⟩
abbrev main_v320 : Ref sig .tc := ⟨.hbm, 647, rfl⟩
abbrev main_v321 : Ref sig .tc := ⟨.hbm, 648, rfl⟩
abbrev main_cst_43 : Ref sig .tc := ⟨.hbm, 649, rfl⟩
abbrev main_v322 : Ref sig .tc := ⟨.hbm, 650, rfl⟩
abbrev main_v323 : Ref sig .tc := ⟨.hbm, 651, rfl⟩
abbrev main_v324 : Ref sig .tc := ⟨.hbm, 652, rfl⟩
abbrev main_v325 : Ref sig .tc := ⟨.hbm, 653, rfl⟩
abbrev main_v326 : Ref sig .tc := ⟨.hbm, 654, rfl⟩
abbrev main_v327 : Ref sig .tc := ⟨.hbm, 655, rfl⟩
abbrev main_v328 : Ref sig .tc := ⟨.hbm, 656, rfl⟩
abbrev main_v329 : Ref sig .tc := ⟨.hbm, 657, rfl⟩
abbrev main_v330 : Ref sig .tc := ⟨.hbm, 658, rfl⟩
abbrev main_v331 : Ref sig .tc := ⟨.hbm, 659, rfl⟩
abbrev main_v332 : Ref sig .tc := ⟨.hbm, 660, rfl⟩
abbrev main_cst_44 : Ref sig .tc := ⟨.hbm, 661, rfl⟩
abbrev main_v333 : Ref sig .tc := ⟨.hbm, 662, rfl⟩
abbrev main_cst_45 : Ref sig .tc := ⟨.hbm, 663, rfl⟩
abbrev main_v334 : Ref sig .tc := ⟨.hbm, 664, rfl⟩
abbrev main_v335 : Ref sig .tc := ⟨.hbm, 665, rfl⟩
abbrev main_v336 : Ref sig .tc := ⟨.hbm, 666, rfl⟩
abbrev main_v337 : Ref sig .tc := ⟨.hbm, 667, rfl⟩
abbrev main_v338 : Ref sig .tc := ⟨.hbm, 668, rfl⟩
abbrev main_call20_c : Ref sig .tc := ⟨.hbm, 669, rfl⟩
abbrev main_call20_v0 : Ref sig .tc := ⟨.hbm, 670, rfl⟩
abbrev main_call20_v1 : Ref sig .tc := ⟨.hbm, 671, rfl⟩
abbrev main_call20_c_0 : Ref sig .tc := ⟨.hbm, 672, rfl⟩
abbrev main_call20_v2 : Ref sig .tc := ⟨.hbm, 673, rfl⟩
abbrev main_call20_v3 : Ref sig .tc := ⟨.hbm, 674, rfl⟩
abbrev main_call20_v4 : Ref sig .tc := ⟨.hbm, 675, rfl⟩
abbrev main_call20_c_1 : Ref sig .tc := ⟨.hbm, 676, rfl⟩
abbrev main_call20_c_2 : Ref sig .tc := ⟨.hbm, 677, rfl⟩
abbrev main_call20_v5 : Ref sig .tc := ⟨.hbm, 678, rfl⟩
abbrev main_call20_v6 : Ref sig .tc := ⟨.hbm, 679, rfl⟩
abbrev main_call20_v7 : Ref sig .tc := ⟨.hbm, 680, rfl⟩
abbrev main_call20_v8 : Ref sig .tc := ⟨.hbm, 681, rfl⟩
abbrev main_call20_v9 : Ref sig .tc := ⟨.hbm, 682, rfl⟩
abbrev main_call20_v10 : Ref sig .tc := ⟨.hbm, 683, rfl⟩
abbrev main_call20_c_3 : Ref sig .tc := ⟨.hbm, 684, rfl⟩
abbrev main_call20_v11 : Ref sig .tc := ⟨.hbm, 685, rfl⟩
abbrev main_call20_v12 : Ref sig .tc := ⟨.hbm, 686, rfl⟩
abbrev main_call20_v13 : Ref sig .tc := ⟨.hbm, 687, rfl⟩
abbrev main_call20_cst : Ref sig .tc := ⟨.hbm, 688, rfl⟩
abbrev main_call20_v14 : Ref sig .tc := ⟨.hbm, 689, rfl⟩
abbrev main_v339 : Ref sig .tc := ⟨.hbm, 690, rfl⟩
abbrev main_v340 : Ref sig .tc := ⟨.hbm, 691, rfl⟩
abbrev main_cst_46 : Ref sig .tc := ⟨.hbm, 692, rfl⟩
abbrev main_cst_47 : Ref sig .tc := ⟨.hbm, 693, rfl⟩
abbrev main_call21_v0 : Ref sig .tc := ⟨.hbm, 694, rfl⟩
abbrev main_call21_v1 : Ref sig .tc := ⟨.hbm, 695, rfl⟩
abbrev main_call21_v2 : Ref sig .tc := ⟨.hbm, 696, rfl⟩
abbrev main_call21_cst : Ref sig .tc := ⟨.hbm, 697, rfl⟩
abbrev main_call21_v3 : Ref sig .tc := ⟨.hbm, 698, rfl⟩
abbrev main_call21_v4 : Ref sig .tc := ⟨.hbm, 699, rfl⟩
abbrev main_call21_cst_0 : Ref sig .tc := ⟨.hbm, 700, rfl⟩
abbrev main_call21_v5 : Ref sig .tc := ⟨.hbm, 701, rfl⟩
abbrev main_call21_v6 : Ref sig .tc := ⟨.hbm, 702, rfl⟩
abbrev main_call21_v7 : Ref sig .tc := ⟨.hbm, 703, rfl⟩
abbrev main_call21_cst_1 : Ref sig .tc := ⟨.hbm, 704, rfl⟩
abbrev main_call21_v8 : Ref sig .tc := ⟨.hbm, 705, rfl⟩
abbrev main_call21_v9 : Ref sig .tc := ⟨.hbm, 706, rfl⟩
abbrev main_call21_v10 : Ref sig .tc := ⟨.hbm, 707, rfl⟩
abbrev main_call21_v11 : Ref sig .tc := ⟨.hbm, 708, rfl⟩
abbrev main_call21_v12 : Ref sig .tc := ⟨.hbm, 709, rfl⟩
abbrev main_call21_v13 : Ref sig .tc := ⟨.hbm, 710, rfl⟩
abbrev main_call21_v14 : Ref sig .tc := ⟨.hbm, 711, rfl⟩
abbrev main_call21_v15 : Ref sig .tc := ⟨.hbm, 712, rfl⟩
abbrev main_call21_v16 : Ref sig .tc := ⟨.hbm, 713, rfl⟩
abbrev main_v341 : Ref sig .tc := ⟨.hbm, 714, rfl⟩
abbrev main_v342 : Ref sig .tc := ⟨.hbm, 715, rfl⟩
abbrev main_v343 : Ref sig .tc := ⟨.hbm, 716, rfl⟩
abbrev main_v344 : Ref sig .tc := ⟨.hbm, 717, rfl⟩
abbrev main_v345 : Ref sig .tc := ⟨.hbm, 718, rfl⟩
abbrev main_v346 : Ref sig .tc := ⟨.hbm, 719, rfl⟩
abbrev main_cst_48 : Ref sig .tc := ⟨.hbm, 720, rfl⟩
abbrev main_v347 : Ref sig .tc := ⟨.hbm, 721, rfl⟩
abbrev main_v348 : Ref sig .tc := ⟨.hbm, 722, rfl⟩
abbrev main_v349 : Ref sig .tc := ⟨.hbm, 723, rfl⟩
abbrev main_v350 : Ref sig .tc := ⟨.hbm, 724, rfl⟩
abbrev main_v351 : Ref sig .tc := ⟨.hbm, 725, rfl⟩
abbrev main_v352 : Ref sig .tc := ⟨.hbm, 726, rfl⟩
abbrev main_v353 : Ref sig .tc := ⟨.hbm, 727, rfl⟩
abbrev main_v354 : Ref sig .tc := ⟨.hbm, 728, rfl⟩
abbrev main_v355 : Ref sig .tc := ⟨.hbm, 729, rfl⟩
abbrev main_v356 : Ref sig .tc := ⟨.hbm, 730, rfl⟩
abbrev main_v357 : Ref sig .tc := ⟨.hbm, 731, rfl⟩
abbrev main_cst_49 : Ref sig .tc := ⟨.hbm, 732, rfl⟩
abbrev main_v358 : Ref sig .tc := ⟨.hbm, 733, rfl⟩
abbrev main_cst_50 : Ref sig .tc := ⟨.hbm, 734, rfl⟩
abbrev main_v359 : Ref sig .tc := ⟨.hbm, 735, rfl⟩
abbrev main_v360 : Ref sig .tc := ⟨.hbm, 736, rfl⟩
abbrev main_v361 : Ref sig .tc := ⟨.hbm, 737, rfl⟩
abbrev main_v362 : Ref sig .tc := ⟨.hbm, 738, rfl⟩
abbrev main_v363 : Ref sig .tc := ⟨.hbm, 739, rfl⟩
abbrev main_call22_c : Ref sig .tc := ⟨.hbm, 740, rfl⟩
abbrev main_call22_v0 : Ref sig .tc := ⟨.hbm, 741, rfl⟩
abbrev main_call22_v1 : Ref sig .tc := ⟨.hbm, 742, rfl⟩
abbrev main_call22_c_0 : Ref sig .tc := ⟨.hbm, 743, rfl⟩
abbrev main_call22_v2 : Ref sig .tc := ⟨.hbm, 744, rfl⟩
abbrev main_call22_v3 : Ref sig .tc := ⟨.hbm, 745, rfl⟩
abbrev main_call22_v4 : Ref sig .tc := ⟨.hbm, 746, rfl⟩
abbrev main_call22_c_1 : Ref sig .tc := ⟨.hbm, 747, rfl⟩
abbrev main_call22_c_2 : Ref sig .tc := ⟨.hbm, 748, rfl⟩
abbrev main_call22_v5 : Ref sig .tc := ⟨.hbm, 749, rfl⟩
abbrev main_call22_v6 : Ref sig .tc := ⟨.hbm, 750, rfl⟩
abbrev main_call22_v7 : Ref sig .tc := ⟨.hbm, 751, rfl⟩
abbrev main_call22_v8 : Ref sig .tc := ⟨.hbm, 752, rfl⟩
abbrev main_call22_v9 : Ref sig .tc := ⟨.hbm, 753, rfl⟩
abbrev main_call22_v10 : Ref sig .tc := ⟨.hbm, 754, rfl⟩
abbrev main_call22_c_3 : Ref sig .tc := ⟨.hbm, 755, rfl⟩
abbrev main_call22_v11 : Ref sig .tc := ⟨.hbm, 756, rfl⟩
abbrev main_call22_v12 : Ref sig .tc := ⟨.hbm, 757, rfl⟩
abbrev main_call22_v13 : Ref sig .tc := ⟨.hbm, 758, rfl⟩
abbrev main_call22_cst : Ref sig .tc := ⟨.hbm, 759, rfl⟩
abbrev main_call22_v14 : Ref sig .tc := ⟨.hbm, 760, rfl⟩
abbrev main_v364 : Ref sig .tc := ⟨.hbm, 761, rfl⟩
abbrev main_v365 : Ref sig .tc := ⟨.hbm, 762, rfl⟩
abbrev main_cst_51 : Ref sig .tc := ⟨.hbm, 763, rfl⟩
abbrev main_cst_52 : Ref sig .tc := ⟨.hbm, 764, rfl⟩
abbrev main_call23_v0 : Ref sig .tc := ⟨.hbm, 765, rfl⟩
abbrev main_call23_v1 : Ref sig .tc := ⟨.hbm, 766, rfl⟩
abbrev main_call23_v2 : Ref sig .tc := ⟨.hbm, 767, rfl⟩
abbrev main_call23_cst : Ref sig .tc := ⟨.hbm, 768, rfl⟩
abbrev main_call23_v3 : Ref sig .tc := ⟨.hbm, 769, rfl⟩
abbrev main_call23_v4 : Ref sig .tc := ⟨.hbm, 770, rfl⟩
abbrev main_call23_cst_0 : Ref sig .tc := ⟨.hbm, 771, rfl⟩
abbrev main_call23_v5 : Ref sig .tc := ⟨.hbm, 772, rfl⟩
abbrev main_call23_v6 : Ref sig .tc := ⟨.hbm, 773, rfl⟩
abbrev main_call23_v7 : Ref sig .tc := ⟨.hbm, 774, rfl⟩
abbrev main_call23_cst_1 : Ref sig .tc := ⟨.hbm, 775, rfl⟩
abbrev main_call23_v8 : Ref sig .tc := ⟨.hbm, 776, rfl⟩
abbrev main_call23_v9 : Ref sig .tc := ⟨.hbm, 777, rfl⟩
abbrev main_call23_v10 : Ref sig .tc := ⟨.hbm, 778, rfl⟩
abbrev main_call23_v11 : Ref sig .tc := ⟨.hbm, 779, rfl⟩
abbrev main_call23_v12 : Ref sig .tc := ⟨.hbm, 780, rfl⟩
abbrev main_call23_v13 : Ref sig .tc := ⟨.hbm, 781, rfl⟩
abbrev main_call23_v14 : Ref sig .tc := ⟨.hbm, 782, rfl⟩
abbrev main_call23_v15 : Ref sig .tc := ⟨.hbm, 783, rfl⟩
abbrev main_call23_v16 : Ref sig .tc := ⟨.hbm, 784, rfl⟩
abbrev main_v366 : Ref sig .tc := ⟨.hbm, 785, rfl⟩
abbrev main_v367 : Ref sig .tc := ⟨.hbm, 786, rfl⟩
abbrev main_v368 : Ref sig .tc := ⟨.hbm, 787, rfl⟩
abbrev main_v369 : Ref sig .tc := ⟨.hbm, 788, rfl⟩
abbrev main_v370 : Ref sig .tc := ⟨.hbm, 789, rfl⟩
abbrev main_v371 : Ref sig .tc := ⟨.hbm, 790, rfl⟩
abbrev main_cst_53 : Ref sig .tc := ⟨.hbm, 791, rfl⟩
abbrev main_v372 : Ref sig .tc := ⟨.hbm, 792, rfl⟩
abbrev main_v373 : Ref sig .tc := ⟨.hbm, 793, rfl⟩
abbrev main_v374 : Ref sig .tc := ⟨.hbm, 794, rfl⟩
abbrev main_v375 : Ref sig .tc := ⟨.hbm, 795, rfl⟩
abbrev main_v376 : Ref sig .tc := ⟨.hbm, 796, rfl⟩
abbrev main_v377 : Ref sig .tc := ⟨.hbm, 797, rfl⟩
abbrev main_v378 : Ref sig .tc := ⟨.hbm, 798, rfl⟩
abbrev main_v379 : Ref sig .tc := ⟨.hbm, 799, rfl⟩
abbrev main_v380 : Ref sig .tc := ⟨.hbm, 800, rfl⟩
abbrev main_v381 : Ref sig .tc := ⟨.hbm, 801, rfl⟩
abbrev main_v382 : Ref sig .tc := ⟨.hbm, 802, rfl⟩
abbrev main_cst_54 : Ref sig .tc := ⟨.hbm, 803, rfl⟩
abbrev main_v383 : Ref sig .tc := ⟨.hbm, 804, rfl⟩
abbrev main_cst_55 : Ref sig .tc := ⟨.hbm, 805, rfl⟩
abbrev main_v384 : Ref sig .tc := ⟨.hbm, 806, rfl⟩
abbrev main_v385 : Ref sig .tc := ⟨.hbm, 807, rfl⟩
abbrev main_v386 : Ref sig .tc := ⟨.hbm, 808, rfl⟩
abbrev main_v387 : Ref sig .tc := ⟨.hbm, 809, rfl⟩
abbrev main_v388 : Ref sig .tc := ⟨.hbm, 810, rfl⟩
abbrev main_call24_c : Ref sig .tc := ⟨.hbm, 811, rfl⟩
abbrev main_call24_v0 : Ref sig .tc := ⟨.hbm, 812, rfl⟩
abbrev main_call24_v1 : Ref sig .tc := ⟨.hbm, 813, rfl⟩
abbrev main_call24_c_0 : Ref sig .tc := ⟨.hbm, 814, rfl⟩
abbrev main_call24_v2 : Ref sig .tc := ⟨.hbm, 815, rfl⟩
abbrev main_call24_v3 : Ref sig .tc := ⟨.hbm, 816, rfl⟩
abbrev main_call24_v4 : Ref sig .tc := ⟨.hbm, 817, rfl⟩
abbrev main_call24_c_1 : Ref sig .tc := ⟨.hbm, 818, rfl⟩
abbrev main_call24_c_2 : Ref sig .tc := ⟨.hbm, 819, rfl⟩
abbrev main_call24_v5 : Ref sig .tc := ⟨.hbm, 820, rfl⟩
abbrev main_call24_v6 : Ref sig .tc := ⟨.hbm, 821, rfl⟩
abbrev main_call24_v7 : Ref sig .tc := ⟨.hbm, 822, rfl⟩
abbrev main_call24_v8 : Ref sig .tc := ⟨.hbm, 823, rfl⟩
abbrev main_call24_v9 : Ref sig .tc := ⟨.hbm, 824, rfl⟩
abbrev main_call24_v10 : Ref sig .tc := ⟨.hbm, 825, rfl⟩
abbrev main_call24_c_3 : Ref sig .tc := ⟨.hbm, 826, rfl⟩
abbrev main_call24_v11 : Ref sig .tc := ⟨.hbm, 827, rfl⟩
abbrev main_call24_v12 : Ref sig .tc := ⟨.hbm, 828, rfl⟩
abbrev main_call24_v13 : Ref sig .tc := ⟨.hbm, 829, rfl⟩
abbrev main_call24_cst : Ref sig .tc := ⟨.hbm, 830, rfl⟩
abbrev main_call24_v14 : Ref sig .tc := ⟨.hbm, 831, rfl⟩
abbrev main_v389 : Ref sig .tc := ⟨.hbm, 832, rfl⟩
abbrev main_v390 : Ref sig .tc := ⟨.hbm, 833, rfl⟩
abbrev main_cst_56 : Ref sig .tc := ⟨.hbm, 834, rfl⟩
abbrev main_cst_57 : Ref sig .tc := ⟨.hbm, 835, rfl⟩
abbrev main_call25_v0 : Ref sig .tc := ⟨.hbm, 836, rfl⟩
abbrev main_call25_v1 : Ref sig .tc := ⟨.hbm, 837, rfl⟩
abbrev main_call25_v2 : Ref sig .tc := ⟨.hbm, 838, rfl⟩
abbrev main_call25_cst : Ref sig .tc := ⟨.hbm, 839, rfl⟩
abbrev main_call25_v3 : Ref sig .tc := ⟨.hbm, 840, rfl⟩
abbrev main_call25_v4 : Ref sig .tc := ⟨.hbm, 841, rfl⟩
abbrev main_call25_cst_0 : Ref sig .tc := ⟨.hbm, 842, rfl⟩
abbrev main_call25_v5 : Ref sig .tc := ⟨.hbm, 843, rfl⟩
abbrev main_call25_v6 : Ref sig .tc := ⟨.hbm, 844, rfl⟩
abbrev main_call25_v7 : Ref sig .tc := ⟨.hbm, 845, rfl⟩
abbrev main_call25_cst_1 : Ref sig .tc := ⟨.hbm, 846, rfl⟩
abbrev main_call25_v8 : Ref sig .tc := ⟨.hbm, 847, rfl⟩
abbrev main_call25_v9 : Ref sig .tc := ⟨.hbm, 848, rfl⟩
abbrev main_call25_v10 : Ref sig .tc := ⟨.hbm, 849, rfl⟩
abbrev main_call25_v11 : Ref sig .tc := ⟨.hbm, 850, rfl⟩
abbrev main_call25_v12 : Ref sig .tc := ⟨.hbm, 851, rfl⟩
abbrev main_call25_v13 : Ref sig .tc := ⟨.hbm, 852, rfl⟩
abbrev main_call25_v14 : Ref sig .tc := ⟨.hbm, 853, rfl⟩
abbrev main_call25_v15 : Ref sig .tc := ⟨.hbm, 854, rfl⟩
abbrev main_call25_v16 : Ref sig .tc := ⟨.hbm, 855, rfl⟩
abbrev main_v391 : Ref sig .tc := ⟨.hbm, 856, rfl⟩
abbrev main_v392 : Ref sig .tc := ⟨.hbm, 857, rfl⟩
abbrev main_v393 : Ref sig .tc := ⟨.hbm, 858, rfl⟩
abbrev main_v394 : Ref sig .tc := ⟨.hbm, 859, rfl⟩
abbrev main_v395 : Ref sig .tc := ⟨.hbm, 860, rfl⟩
abbrev main_v396 : Ref sig .tc := ⟨.hbm, 861, rfl⟩
abbrev main_cst_58 : Ref sig .tc := ⟨.hbm, 862, rfl⟩
abbrev main_v397 : Ref sig .tc := ⟨.hbm, 863, rfl⟩
abbrev main_v398 : Ref sig .tc := ⟨.hbm, 864, rfl⟩
abbrev main_v399 : Ref sig .tc := ⟨.hbm, 865, rfl⟩
abbrev main_v400 : Ref sig .tc := ⟨.hbm, 866, rfl⟩
abbrev main_v401 : Ref sig .tc := ⟨.hbm, 867, rfl⟩
abbrev main_v402 : Ref sig .tc := ⟨.hbm, 868, rfl⟩
abbrev main_v403 : Ref sig .tc := ⟨.hbm, 869, rfl⟩
abbrev main_v404 : Ref sig .tc := ⟨.hbm, 870, rfl⟩
abbrev main_v405 : Ref sig .tc := ⟨.hbm, 871, rfl⟩
abbrev main_v406 : Ref sig .tc := ⟨.hbm, 872, rfl⟩
abbrev main_v407 : Ref sig .tc := ⟨.hbm, 873, rfl⟩
abbrev main_cst_59 : Ref sig .tc := ⟨.hbm, 874, rfl⟩
abbrev main_v408 : Ref sig .tc := ⟨.hbm, 875, rfl⟩
abbrev main_cst_60 : Ref sig .tc := ⟨.hbm, 876, rfl⟩
abbrev main_v409 : Ref sig .tc := ⟨.hbm, 877, rfl⟩
abbrev main_v410 : Ref sig .tc := ⟨.hbm, 878, rfl⟩
abbrev main_v411 : Ref sig .tc := ⟨.hbm, 879, rfl⟩
abbrev main_v412 : Ref sig .tc := ⟨.hbm, 880, rfl⟩
abbrev main_v413 : Ref sig .tc := ⟨.hbm, 881, rfl⟩
abbrev main_call26_c : Ref sig .tc := ⟨.hbm, 882, rfl⟩
abbrev main_call26_v0 : Ref sig .tc := ⟨.hbm, 883, rfl⟩
abbrev main_call26_v1 : Ref sig .tc := ⟨.hbm, 884, rfl⟩
abbrev main_call26_c_0 : Ref sig .tc := ⟨.hbm, 885, rfl⟩
abbrev main_call26_v2 : Ref sig .tc := ⟨.hbm, 886, rfl⟩
abbrev main_call26_v3 : Ref sig .tc := ⟨.hbm, 887, rfl⟩
abbrev main_call26_v4 : Ref sig .tc := ⟨.hbm, 888, rfl⟩
abbrev main_call26_c_1 : Ref sig .tc := ⟨.hbm, 889, rfl⟩
abbrev main_call26_c_2 : Ref sig .tc := ⟨.hbm, 890, rfl⟩
abbrev main_call26_v5 : Ref sig .tc := ⟨.hbm, 891, rfl⟩
abbrev main_call26_v6 : Ref sig .tc := ⟨.hbm, 892, rfl⟩
abbrev main_call26_v7 : Ref sig .tc := ⟨.hbm, 893, rfl⟩
abbrev main_call26_v8 : Ref sig .tc := ⟨.hbm, 894, rfl⟩
abbrev main_call26_v9 : Ref sig .tc := ⟨.hbm, 895, rfl⟩
abbrev main_call26_v10 : Ref sig .tc := ⟨.hbm, 896, rfl⟩
abbrev main_call26_c_3 : Ref sig .tc := ⟨.hbm, 897, rfl⟩
abbrev main_call26_v11 : Ref sig .tc := ⟨.hbm, 898, rfl⟩
abbrev main_call26_v12 : Ref sig .tc := ⟨.hbm, 899, rfl⟩
abbrev main_call26_v13 : Ref sig .tc := ⟨.hbm, 900, rfl⟩
abbrev main_call26_cst : Ref sig .tc := ⟨.hbm, 901, rfl⟩
abbrev main_call26_v14 : Ref sig .tc := ⟨.hbm, 902, rfl⟩
abbrev main_v414 : Ref sig .tc := ⟨.hbm, 903, rfl⟩
abbrev main_v415 : Ref sig .tc := ⟨.hbm, 904, rfl⟩
abbrev main_cst_61 : Ref sig .tc := ⟨.hbm, 905, rfl⟩
abbrev main_cst_62 : Ref sig .tc := ⟨.hbm, 906, rfl⟩
abbrev main_call27_v0 : Ref sig .tc := ⟨.hbm, 907, rfl⟩
abbrev main_call27_v1 : Ref sig .tc := ⟨.hbm, 908, rfl⟩
abbrev main_call27_v2 : Ref sig .tc := ⟨.hbm, 909, rfl⟩
abbrev main_call27_cst : Ref sig .tc := ⟨.hbm, 910, rfl⟩
abbrev main_call27_v3 : Ref sig .tc := ⟨.hbm, 911, rfl⟩
abbrev main_call27_v4 : Ref sig .tc := ⟨.hbm, 912, rfl⟩
abbrev main_call27_cst_0 : Ref sig .tc := ⟨.hbm, 913, rfl⟩
abbrev main_call27_v5 : Ref sig .tc := ⟨.hbm, 914, rfl⟩
abbrev main_call27_v6 : Ref sig .tc := ⟨.hbm, 915, rfl⟩
abbrev main_call27_v7 : Ref sig .tc := ⟨.hbm, 916, rfl⟩
abbrev main_call27_cst_1 : Ref sig .tc := ⟨.hbm, 917, rfl⟩
abbrev main_call27_v8 : Ref sig .tc := ⟨.hbm, 918, rfl⟩
abbrev main_call27_v9 : Ref sig .tc := ⟨.hbm, 919, rfl⟩
abbrev main_call27_v10 : Ref sig .tc := ⟨.hbm, 920, rfl⟩
abbrev main_call27_v11 : Ref sig .tc := ⟨.hbm, 921, rfl⟩
abbrev main_call27_v12 : Ref sig .tc := ⟨.hbm, 922, rfl⟩
abbrev main_call27_v13 : Ref sig .tc := ⟨.hbm, 923, rfl⟩
abbrev main_call27_v14 : Ref sig .tc := ⟨.hbm, 924, rfl⟩
abbrev main_call27_v15 : Ref sig .tc := ⟨.hbm, 925, rfl⟩
abbrev main_call27_v16 : Ref sig .tc := ⟨.hbm, 926, rfl⟩
abbrev main_v416 : Ref sig .tc := ⟨.hbm, 927, rfl⟩
abbrev main_v417 : Ref sig .tc := ⟨.hbm, 928, rfl⟩
abbrev main_v418 : Ref sig .tc := ⟨.hbm, 929, rfl⟩
abbrev main_v419 : Ref sig .tc := ⟨.hbm, 930, rfl⟩
abbrev main_v420 : Ref sig .tc := ⟨.hbm, 931, rfl⟩
abbrev main_v421 : Ref sig .tc := ⟨.hbm, 932, rfl⟩
abbrev main_cst_63 : Ref sig .tc := ⟨.hbm, 933, rfl⟩
abbrev main_v422 : Ref sig .tc := ⟨.hbm, 934, rfl⟩
abbrev main_v423 : Ref sig .tc := ⟨.hbm, 935, rfl⟩
abbrev main_v424 : Ref sig .tc := ⟨.hbm, 936, rfl⟩
abbrev main_v425 : Ref sig .tc := ⟨.hbm, 937, rfl⟩
abbrev main_v426 : Ref sig .tc := ⟨.hbm, 938, rfl⟩
abbrev main_v427 : Ref sig .tc := ⟨.hbm, 939, rfl⟩
abbrev main_v428 : Ref sig .tc := ⟨.hbm, 940, rfl⟩
abbrev main_v429 : Ref sig .tc := ⟨.hbm, 941, rfl⟩
abbrev main_v430 : Ref sig .tc := ⟨.hbm, 942, rfl⟩
abbrev main_v431 : Ref sig .tc := ⟨.hbm, 943, rfl⟩
abbrev main_v432 : Ref sig .tc := ⟨.hbm, 944, rfl⟩
abbrev main_v433 : Ref sig .tc := ⟨.hbm, 945, rfl⟩
abbrev main_v434 : Ref sig .tc := ⟨.hbm, 946, rfl⟩
abbrev main_call28_c : Ref sig .tc := ⟨.hbm, 947, rfl⟩
abbrev main_call28_v0 : Ref sig .tc := ⟨.hbm, 948, rfl⟩
abbrev main_call28_v1 : Ref sig .tc := ⟨.hbm, 949, rfl⟩
abbrev main_call28_c_0 : Ref sig .tc := ⟨.hbm, 950, rfl⟩
abbrev main_call28_v2 : Ref sig .tc := ⟨.hbm, 951, rfl⟩
abbrev main_call28_v3 : Ref sig .tc := ⟨.hbm, 952, rfl⟩
abbrev main_call28_v4 : Ref sig .tc := ⟨.hbm, 953, rfl⟩
abbrev main_call28_c_1 : Ref sig .tc := ⟨.hbm, 954, rfl⟩
abbrev main_call28_c_2 : Ref sig .tc := ⟨.hbm, 955, rfl⟩
abbrev main_call28_v5 : Ref sig .tc := ⟨.hbm, 956, rfl⟩
abbrev main_call28_v6 : Ref sig .tc := ⟨.hbm, 957, rfl⟩
abbrev main_call28_v7 : Ref sig .tc := ⟨.hbm, 958, rfl⟩
abbrev main_call28_v8 : Ref sig .tc := ⟨.hbm, 959, rfl⟩
abbrev main_call28_v9 : Ref sig .tc := ⟨.hbm, 960, rfl⟩
abbrev main_call28_v10 : Ref sig .tc := ⟨.hbm, 961, rfl⟩
abbrev main_call28_c_3 : Ref sig .tc := ⟨.hbm, 962, rfl⟩
abbrev main_call28_v11 : Ref sig .tc := ⟨.hbm, 963, rfl⟩
abbrev main_call28_v12 : Ref sig .tc := ⟨.hbm, 964, rfl⟩
abbrev main_call28_v13 : Ref sig .tc := ⟨.hbm, 965, rfl⟩
abbrev main_call28_c_4 : Ref sig .tc := ⟨.hbm, 966, rfl⟩
abbrev main_call28_v14 : Ref sig .tc := ⟨.hbm, 967, rfl⟩
abbrev main_v435 : Ref sig .tc := ⟨.hbm, 968, rfl⟩
abbrev main_v436 : Ref sig .tc := ⟨.hbm, 969, rfl⟩
abbrev main_v437 : Ref sig .tc := ⟨.hbm, 970, rfl⟩
abbrev main_v438 : Ref sig .tc := ⟨.hbm, 971, rfl⟩
abbrev main_v439 : Ref sig .tc := ⟨.hbm, 972, rfl⟩
abbrev main_v440 : Ref sig .tc := ⟨.hbm, 973, rfl⟩
abbrev main_v441 : Ref sig .tc := ⟨.hbm, 974, rfl⟩
abbrev main_c_64 : Ref sig .tc := ⟨.hbm, 975, rfl⟩
abbrev main_v442 : Ref sig .tc := ⟨.hbm, 976, rfl⟩
abbrev main_v443 : Ref sig .tc := ⟨.hbm, 977, rfl⟩
abbrev main_v444 : Ref sig .tc := ⟨.hbm, 978, rfl⟩
abbrev main_v445 : Ref sig .tc := ⟨.hbm, 979, rfl⟩
abbrev main_v446 : Ref sig .tc := ⟨.hbm, 980, rfl⟩
abbrev main_call29_c : Ref sig .tc := ⟨.hbm, 981, rfl⟩
abbrev main_call29_v0 : Ref sig .tc := ⟨.hbm, 982, rfl⟩
abbrev main_call29_v1 : Ref sig .tc := ⟨.hbm, 983, rfl⟩
abbrev main_call29_c_0 : Ref sig .tc := ⟨.hbm, 984, rfl⟩
abbrev main_call29_v2 : Ref sig .tc := ⟨.hbm, 985, rfl⟩
abbrev main_call29_v3 : Ref sig .tc := ⟨.hbm, 986, rfl⟩
abbrev main_call29_v4 : Ref sig .tc := ⟨.hbm, 987, rfl⟩
abbrev main_call29_c_1 : Ref sig .tc := ⟨.hbm, 988, rfl⟩
abbrev main_call29_c_2 : Ref sig .tc := ⟨.hbm, 989, rfl⟩
abbrev main_call29_v5 : Ref sig .tc := ⟨.hbm, 990, rfl⟩
abbrev main_call29_v6 : Ref sig .tc := ⟨.hbm, 991, rfl⟩
abbrev main_call29_v7 : Ref sig .tc := ⟨.hbm, 992, rfl⟩
abbrev main_call29_v8 : Ref sig .tc := ⟨.hbm, 993, rfl⟩
abbrev main_call29_v9 : Ref sig .tc := ⟨.hbm, 994, rfl⟩
abbrev main_call29_v10 : Ref sig .tc := ⟨.hbm, 995, rfl⟩
abbrev main_call29_c_3 : Ref sig .tc := ⟨.hbm, 996, rfl⟩
abbrev main_call29_v11 : Ref sig .tc := ⟨.hbm, 997, rfl⟩
abbrev main_call29_v12 : Ref sig .tc := ⟨.hbm, 998, rfl⟩
abbrev main_call29_v13 : Ref sig .tc := ⟨.hbm, 999, rfl⟩
abbrev main_call29_c_4 : Ref sig .tc := ⟨.hbm, 1000, rfl⟩
abbrev main_call29_v14 : Ref sig .tc := ⟨.hbm, 1001, rfl⟩
abbrev main_v447 : Ref sig .tc := ⟨.hbm, 1002, rfl⟩
abbrev main_v448 : Ref sig .tc := ⟨.hbm, 1003, rfl⟩
abbrev main_c_65 : Ref sig .tc := ⟨.hbm, 1004, rfl⟩
abbrev main_v449 : Ref sig .tc := ⟨.hbm, 1005, rfl⟩
abbrev main_v450 : Ref sig .tc := ⟨.hbm, 1006, rfl⟩
abbrev main_c_66 : Ref sig .tc := ⟨.hbm, 1007, rfl⟩
abbrev main_c_67 : Ref sig .tc := ⟨.hbm, 1008, rfl⟩
abbrev main_call30_v0 : Ref sig .tc := ⟨.hbm, 1009, rfl⟩
abbrev main_call30_v1 : Ref sig .tc := ⟨.hbm, 1010, rfl⟩
abbrev main_call30_v2 : Ref sig .tc := ⟨.hbm, 1011, rfl⟩
abbrev main_call30_v3 : Ref sig .tc := ⟨.hbm, 1012, rfl⟩
abbrev main_call30_v4 : Ref sig .tc := ⟨.hbm, 1013, rfl⟩
abbrev main_v451 : Ref sig .tc := ⟨.hbm, 1014, rfl⟩
abbrev main_v452 : Ref sig .tc := ⟨.hbm, 1015, rfl⟩
abbrev main_c_68 : Ref sig .tc := ⟨.hbm, 1016, rfl⟩
abbrev main_v453 : Ref sig .tc := ⟨.hbm, 1017, rfl⟩
abbrev main_v454 : Ref sig .tc := ⟨.hbm, 1018, rfl⟩
abbrev main_c_69 : Ref sig .tc := ⟨.hbm, 1019, rfl⟩
abbrev main_v455 : Ref sig .tc := ⟨.hbm, 1020, rfl⟩
abbrev main_v456 : Ref sig .tc := ⟨.hbm, 1021, rfl⟩
abbrev main_v457 : Ref sig .tc := ⟨.hbm, 1022, rfl⟩
abbrev main_call31_v0 : Ref sig .tc := ⟨.hbm, 1023, rfl⟩
abbrev main_call31_v1 : Ref sig .tc := ⟨.hbm, 1024, rfl⟩
abbrev main_call31_v2 : Ref sig .tc := ⟨.hbm, 1025, rfl⟩
abbrev main_call31_v3 : Ref sig .tc := ⟨.hbm, 1026, rfl⟩
abbrev main_call31_v4 : Ref sig .tc := ⟨.hbm, 1027, rfl⟩
abbrev main_v458 : Ref sig .tc := ⟨.hbm, 1028, rfl⟩
abbrev main_v459 : Ref sig .tc := ⟨.hbm, 1029, rfl⟩
abbrev main_v460 : Ref sig .tc := ⟨.hbm, 1030, rfl⟩
abbrev main_v461 : Ref sig .tc := ⟨.hbm, 1031, rfl⟩
abbrev main_v462 : Ref sig .tc := ⟨.hbm, 1032, rfl⟩
abbrev main_v463 : Ref sig .tc := ⟨.hbm, 1033, rfl⟩
abbrev main_v464 : Ref sig .tc := ⟨.hbm, 1034, rfl⟩
abbrev main_cst_70 : Ref sig .tc := ⟨.hbm, 1035, rfl⟩
abbrev main_v465 : Ref sig .tc := ⟨.hbm, 1036, rfl⟩
abbrev main_v466 : Ref sig .tc := ⟨.hbm, 1037, rfl⟩
abbrev main_cst_71 : Ref sig .tc := ⟨.hbm, 1038, rfl⟩
abbrev main_v467 : Ref sig .tc := ⟨.hbm, 1039, rfl⟩
abbrev main_v468 : Ref sig .tc := ⟨.hbm, 1040, rfl⟩
abbrev main_v469 : Ref sig .tc := ⟨.hbm, 1041, rfl⟩
abbrev main_v470 : Ref sig .tc := ⟨.hbm, 1042, rfl⟩
abbrev main_v471 : Ref sig .tc := ⟨.hbm, 1043, rfl⟩
abbrev main_cst_72 : Ref sig .tc := ⟨.hbm, 1044, rfl⟩
abbrev main_v472 : Ref sig .tc := ⟨.hbm, 1045, rfl⟩
abbrev main_v473 : Ref sig .tc := ⟨.hbm, 1046, rfl⟩
abbrev main_cst_73 : Ref sig .tc := ⟨.hbm, 1047, rfl⟩
abbrev main_v474 : Ref sig .tc := ⟨.hbm, 1048, rfl⟩
abbrev main_v475 : Ref sig .tc := ⟨.hbm, 1049, rfl⟩
abbrev main_v476 : Ref sig .tc := ⟨.hbm, 1050, rfl⟩
abbrev main_v477 : Ref sig .tc := ⟨.hbm, 1051, rfl⟩
abbrev main_cst_74 : Ref sig .tc := ⟨.hbm, 1052, rfl⟩
abbrev main_v478 : Ref sig .tc := ⟨.hbm, 1053, rfl⟩
abbrev main_v479 : Ref sig .tc := ⟨.hbm, 1054, rfl⟩
abbrev main_v480 : Ref sig .tc := ⟨.hbm, 1055, rfl⟩
abbrev main_v481 : Ref sig .tc := ⟨.hbm, 1056, rfl⟩
abbrev main_v482 : Ref sig .tc := ⟨.hbm, 1057, rfl⟩
abbrev main_v483 : Ref sig .tc := ⟨.hbm, 1058, rfl⟩
abbrev main_v484 : Ref sig .tc := ⟨.hbm, 1059, rfl⟩
abbrev main_v485 : Ref sig .tc := ⟨.hbm, 1060, rfl⟩
abbrev main_v486 : Ref sig .tc := ⟨.hbm, 1061, rfl⟩
abbrev main_v487 : Ref sig .tc := ⟨.hbm, 1062, rfl⟩
abbrev main_v488 : Ref sig .tc := ⟨.hbm, 1063, rfl⟩
abbrev main_v489 : Ref sig .tc := ⟨.hbm, 1064, rfl⟩

abbrev nD : Nat := 1
abbrev τ : Topo := Topo.v7x

variable {F : FTy → Type} [FloatOps F]
-- ==== Proof.Select.lean ====
module

public import Idealize.ShloMosaic.Lib.SortFacts
public import Mathlib.Order.Fin.Basic
public import Mathlib.Data.EReal.Basic
public import Idealize.ShloMosaic.Lib.Pointwise

@[expose] public section

open Idealize.ShloMosaic

namespace Cert.Select

noncomputable section

variable {n : ℕ}

/-- `x` comes before `y` in the order of the values, equal values in the order of the positions. -/
def Before (f : Fin n → EReal) (x y : Fin n) : Prop := f x < f y ∨ (f x = f y ∧ x < y)

/-- The order is transitive. -/
theorem Before.trans {f : Fin n → EReal} {x y z : Fin n} (h : Before f x y) (h' : Before f y z) : Before f x z := by
  unfold Before at *
  rcases h with h | ⟨h, l⟩ <;> rcases h' with h' | ⟨h', l'⟩
  · exact .inl (h.trans h')
  · exact .inl (h' ▸ h)
  · exact .inl (h ▸ h')
  · exact .inr ⟨h.trans h', l.trans l'⟩

/-- Inserting an element that stands before all of an ordered list keeps the list ordered. -/
theorem pairwise_insert (f : Fin n → EReal) (a : Fin n) (l : List (Fin n)) (ha : ∀ b ∈ l, a < b)
    (hl : l.Pairwise (Before f)) :
    (insertBefore (fun k k' => decide (f k < f k')) a l).Pairwise (Before f) := by
  induction l with
  | nil => exact List.pairwise_singleton _ _
  | cons b l ih =>
    rw [List.pairwise_cons] at hl
    unfold insertBefore
    split
    · rename_i h
      refine List.pairwise_cons.mpr ⟨fun c hc => ?_, ih (fun b hb => ha b (List.mem_cons_of_mem _ hb)) hl.2⟩
      rcases List.mem_cons.mp ((perm_insertBefore _ a l).mem_iff.mp hc) with rfl | hc'
      · exact .inl (of_decide_eq_true h)
      · exact hl.1 c hc'
    · rename_i h
      have hab : Before f a b := by
        rcases lt_or_eq_of_le (not_lt.mp (fun h' => h (decide_eq_true h'))) with h' | h'
        · exact .inl h'
        · exact .inr ⟨h', ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an increasing list of positions is ordered by value, then by position. -/
theorem pairwise_sort (f : Fin n → EReal) (l : List (Fin n)) (hl : l.Pairwise (· < ·)) :
    (stableSort (fun k k' => decide (f k < f k')) l).Pairwise (Before f) := by
  induction l with
  | nil => exact List.Pairwise.nil
  | cons a l ih =>
    rw [List.pairwise_cons] at hl
    unfold stableSort
    exact pairwise_insert f a _ (fun b hb => hl.1 b ((perm_stableSort _ l).mem_iff.mp hb)) (ih hl.2)

/-- The position of the `k`-th smallest value. -/
def rank (f : Fin n → EReal) (k : Fin n) : Fin n := sortedFrom (fun k k' => decide (f k < f k')) k

/-- Earlier ranks come before later ones. -/
theorem rank_before (f : Fin n → EReal) {i j : Fin n} (h : i < j) : Before f (rank f i) (rank f j) := by
  have hp : ∀ a b : Fin (sortPositions n fun k k' => decide (f k < f k')).length, a < b →
      Before f ((sortPositions n fun k k' => decide (f k < f k')).get a)
        ((sortPositions n fun k k' => decide (f k < f k')).get b) :=
    List.pairwise_iff_get.mp (pairwise_sort f (List.finRange n) (List.pairwise_lt_finRange n))
  exact hp _ _ (by simp only [Fin.lt_def, Fin.val_cast]; exact h)

/-- No index has two ranks. -/
theorem rank_injective (f : Fin n → EReal) : Function.Injective (rank f) := sortedFrom_injective _
/-- Every index has a rank. -/
theorem rank_surjective (f : Fin n → EReal) : Function.Surjective (rank f) := sortedFrom_surjective _

/-- The values left after `k` rounds: the `k` smallest are replaced by infinity. -/
def left (f : Fin n → EReal) (k : ℕ) (i : Fin n) : EReal := if ∃ j : Fin n, j.val < k ∧ rank f j = i then ⊤ else f i

/-- Before the first round nothing is replaced. -/
theorem left_zero (f : Fin n → EReal) : left f 0 = f := by
  funext i; simp [left]

/-- One more round: the next ranked position is replaced by infinity. -/
theorem left_succ (f : Fin n → EReal) (k : Fin n) :
    left f (k.val + 1) = fun i => if i = rank f k then ⊤ else left f k.val i := by
  funext i
  unfold left
  by_cases h : i = rank f k
  · rw [if_pos h, if_pos ⟨k, Nat.lt_succ_self _, h.symm⟩]
  · rw [if_neg h]
    refine if_congr ⟨?_, ?_⟩ rfl rfl
    · rintro ⟨j, hj, rfl⟩
      rcases Nat.lt_succ_iff_lt_or_eq.mp hj with hj | hj
      · exact ⟨j, hj, rfl⟩
      · exact absurd (by rw [Fin.ext hj]) h
    · rintro ⟨j, hj, e⟩; exact ⟨j, hj.trans (Nat.lt_succ_self _), e⟩

/-- The value of rank `k` is there after `k` rounds. -/
theorem left_rank (f : Fin n → EReal) (k : Fin n) : left f k.val (rank f k) = f (rank f k) := by
  unfold left
  rw [if_neg]
  rintro ⟨j, hj, e⟩
  rw [rank_injective f e] at hj
  exact lt_irrefl _ hj

/-- The value of rank `k` is the least left after `k` rounds. -/
theorem rank_le_left (f : Fin n → EReal) (k i : Fin n) : f (rank f k) ≤ left f k.val i := by
  unfold left
  split
  · exact le_top
  · rename_i h
    obtain ⟨j, rfl⟩ := rank_surjective f i
    have hj : k ≤ j := not_lt.mp fun hj => h ⟨j, hj, rfl⟩
    rcases lt_or_eq_of_le hj with hj | rfl
    · rcases rank_before f hj with h | h
      · exact h.le
      · exact h.1.le
    · exact le_rfl

/-- The least value left after `k` rounds is the one ranked `k`. -/
theorem fold_left (f : Fin n → EReal) (k : Fin n) :
    Finset.univ.fold min ⊤ (left f k.val) = f (rank f k) := by
  apply le_antisymm
  · exact (Finset.le_fold_min _).mp le_rfl |>.2 (rank f k) (Finset.mem_univ _) |>.trans (left_rank f k).le
  · exact (Finset.le_fold_min _).mpr ⟨le_top, fun i _ => rank_le_left f k i⟩

/-- A position holding the least value left is the one ranked `k`, or a later one. -/
theorem rank_le_of_left (f : Fin n → EReal) (hf : ∀ i, f i < ⊤) (k i : Fin n) (h : left f k.val i = f (rank f k)) :
    rank f k ≤ i := by
  unfold left at h
  split at h
  · exact absurd (hf (rank f k)) (by rw [← h]; exact lt_irrefl _)
  · rename_i hn
    obtain ⟨j, rfl⟩ := rank_surjective f i
    have hj : k ≤ j := not_lt.mp fun hj => hn ⟨j, hj, rfl⟩
    rcases lt_or_eq_of_le hj with hj | rfl
    · rcases rank_before f hj with h' | h'
      · exact absurd h' (by rw [h]; exact lt_irrefl _)
      · exact h'.2.le
    · exact le_rfl

/-- The signed minimum of two words, read as integers. -/
theorem toInt_minsi (x y : BitVec 32) : (IntOp.minsi x y).toInt = min x.toInt y.toInt := by
  unfold IntOp.minsi
  by_cases h : x.slt y
  · rw [if_pos h]; rw [BitVec.slt_iff_toInt_lt] at h; exact (min_eq_left h.le).symm
  · rw [if_neg h]; rw [BitVec.slt_iff_toInt_lt] at h; exact (min_eq_right (not_lt.mp h)).symm

/-- The least position whose value left equals the least value left is the one ranked `k`. -/
theorem fold_position (f : Fin 2048 → EReal) (hf : ∀ i, f i < ⊤) (k : Fin 2048) :
    Finset.univ.fold IntOp.minsi 2147483647#32
      (fun i : Fin 2048 => if left f k.val i = f (rank f k) then BitVec.ofNat 32 i.val else 2048#32)
      = BitVec.ofNat 32 (rank f k).val := by
  have hI : ∀ i : Fin 2048, (BitVec.ofNat 32 i.val).toInt = (i.val : ℤ) := fun i => by
    have := i.isLt
    rw [BitVec.toInt_eq_toNat_cond, BitVec.toNat_ofNat, Nat.mod_eq_of_lt (by omega)]
    split <;> omega
  apply BitVec.eq_of_toInt_eq
  rw [hI, ← Finset.fold_hom (op' := min) (m := BitVec.toInt) (fun x y => toInt_minsi x y)]
  apply le_antisymm
  · refine ((Finset.le_fold_min _).mp le_rfl).2 (rank f k) (Finset.mem_univ _) |>.trans ?_
    rw [if_pos (left_rank f k), hI]
  · refine (Finset.le_fold_min _).mpr ⟨?_, fun i _ => ?_⟩
    · have := (rank f k).isLt
      show _ ≤ (2147483647 : ℤ)
      omega
    · split
      · rename_i h
        rw [hI]
        exact_mod_cast rank_le_of_left f hf k i h
      · have := (rank f k).isLt
        show _ ≤ (2048 : ℤ)
        omega

end

end Cert.Select
-- ==== Proof.Gather.lean ====
module

public import proofs.«01_k».proof.Proof.Gen.ReferenceIdeal
public import Idealize.ShloMosaic.Lib.Pointwise

@[expose] public section
set_option maxRecDepth 16384
noncomputable section
namespace Cert.ReferenceIdeal.Value
open Idealize.ShloMosaic Idealize.SL.Sem Cert.ReferenceIdeal Cert.ReferenceIdeal.Gen

variable {α : Type}

/-- A number below 2048 as a 32-bit word, read signed and clamped. -/
theorem clamp (n : Fin 2048) : min (BitVec.ofNat 32 n.val).toInt.toNat 2047 = n.val := by
  have h : (BitVec.ofNat 32 n.val).toInt = n.val := by
    rw [BitVec.toInt_ofNat']
    have := n.isLt
    simp [Int.bmod]; omega
  rw [h]
  simp; omega

/-- The pair gather reads the pair's second place off the indices. -/
theorem gather_pair (x : S2x2048x2048x1.Idx → α) (idx : IVec S2x2048x30x1 32) (b : Fin 2) (l : Fin 2048) (k : Fin 30) (n : Fin 2048)
    (h : idx (ix4 b l k 0) = BitVec.ofNat 32 n.val) :
    Host.gather gather_S2x2048x2048x1_S2x2048x30x1_S2x2048x30x1_3_2_01_01_2_3_1111 x idx (ix4 b l k 0) = x (ix4 b l n 0) := by
  unfold Host.gather
  congr 1
  funext a
  refine Fin.ext ?_
  show GatherDims.start _ _ idx a + GatherDims.batchCoord _ _ a + GatherDims.offCoord _ _ a = _
  fin_cases a
  · exact Nat.zero_add _
  · exact Nat.zero_add _
  · have e : GatherDims.siIdx gather_S2x2048x2048x1_S2x2048x30x1_S2x2048x30x1_3_2_01_01_2_3_1111 (ix4 b l k 0) ⟨0, by decide⟩ = ix4 b l k 0 := by
      funext a; fin_cases a <;> rfl
    exact (congrArg (fun i => min (idx i).toInt.toNat 2047) e).trans ((congrArg (fun w : BitVec 32 => min w.toInt.toNat 2047) h).trans (clamp n))
  · rfl

/-- The point gather reads the row the index names. -/
theorem gather_row3 (x : S2x2048x3.Idx → α) (idx : IVec S2x61440x3x1 32) (b : Fin 2) (p : Fin 61440) (c : Fin 3) (n : Fin 2048)
    (h : idx (ix4 b p c 0) = BitVec.ofNat 32 n.val) :
    Host.gather gather_S2x2048x3_S2x61440x3x1_S2x61440x3_n_1_02_02_1_3_111 x idx (ix3 b p c) = x (ix3 b n c) := by
  unfold Host.gather
  congr 1
  funext a
  refine Fin.ext ?_
  show GatherDims.start _ _ idx a + GatherDims.batchCoord _ _ a + GatherDims.offCoord _ _ a = _
  fin_cases a
  · exact Nat.zero_add _
  · have e : GatherDims.siIdx gather_S2x2048x3_S2x61440x3x1_S2x61440x3_n_1_02_02_1_3_111 (ix3 b p c) ⟨0, by decide⟩ = ix4 b p c 0 := by
      funext a; fin_cases a <;> rfl
    exact (congrArg (fun i => min (idx i).toInt.toNat 2047) e).trans ((congrArg (fun w : BitVec 32 => min w.toInt.toNat 2047) h).trans (clamp n))
  · exact Nat.zero_add _

/-- The frame gather reads the row the index names. -/
theorem gather_row9 (x : S2x2048x9.Idx → α) (idx : IVec S2x61440x9x1 32) (b : Fin 2) (p : Fin 61440) (c : Fin 9) (n : Fin 2048)
    (h : idx (ix4 b p c 0) = BitVec.ofNat 32 n.val) :
    Host.gather gather_S2x2048x9_S2x61440x9x1_S2x61440x9_n_1_02_02_1_3_111 x idx (ix3 b p c) = x (ix3 b n c) := by
  unfold Host.gather
  congr 1
  funext a
  refine Fin.ext ?_
  show GatherDims.start _ _ idx a + GatherDims.batchCoord _ _ a + GatherDims.offCoord _ _ a = _
  fin_cases a
  · exact Nat.zero_add _
  · have e : GatherDims.siIdx gather_S2x2048x9_S2x61440x9x1_S2x61440x9_n_1_02_02_1_3_111 (ix3 b p c) ⟨0, by decide⟩ = ix4 b p c 0 := by
      funext a; fin_cases a <;> rfl
    exact (congrArg (fun i => min (idx i).toInt.toNat 2047) e).trans ((congrArg (fun w : BitVec 32 => min w.toInt.toNat 2047) h).trans (clamp n))
  · exact Nat.zero_add _

/-- The gather of the diagonal. -/
theorem gather_diag (x : S2x2048x30x3x3.Idx → α) (idx : IVec S3x2 32) (b : Fin 2) (l : Fin 2048) (k : Fin 30) (c : Fin 3)
    (h : ∀ a, idx (ix2 c a) = BitVec.ofNat 32 c.val) :
    Host.gather gather_S2x2048x30x3x3_S3x2_S2x2048x30x3_012_34_n_n_34_1_220483011 x idx (ix4 b l k c) = x (ix5 b l k c c) := by
  have hc : min (BitVec.ofNat 32 c.val).toInt.toNat 2 = c.val := by fin_cases c <;> rfl
  unfold Host.gather
  congr 1
  funext a
  refine Fin.ext ?_
  show GatherDims.start _ _ idx a + GatherDims.batchCoord _ _ a + GatherDims.offCoord _ _ a = _
  have e : ∀ i : Fin 2, GatherDims.siIdx gather_S2x2048x30x3x3_S3x2_S2x2048x30x3_012_34_n_n_34_1_220483011 (ix4 b l k c) i = ix2 c i := by
    intro i; funext a; fin_cases a <;> rfl
  fin_cases a
  · exact Nat.zero_add _
  · exact Nat.zero_add _
  · exact Nat.zero_add _
  · exact (congrArg (fun i => min (idx i).toInt.toNat 2) (e 0)).trans ((congrArg (fun w : BitVec 32 => min w.toInt.toNat 2) (h 0)).trans hc)
  · exact (congrArg (fun i => min (idx i).toInt.toNat 2) (e 1)).trans ((congrArg (fun w : BitVec 32 => min w.toInt.toNat 2) (h 1)).trans hc)

/-- A conjunction along a last axis of size one is the one bit there. -/
theorem all_one {a b c : ℕ} {u : Shape} (x : (⟨4, ![a, b, c, 1]⟩ : Shape).Idx → BitVec 1) (init : u.Idx → BitVec 1)
    (h : (⟨4, ![a, b, c, 1]⟩ : Shape).ReducesTo [3] ⟨3, ![a, b, c]⟩) (hu : 0 < u.numel) (i : Fin a) (j : Fin b) (k : Fin c)
    (hi : init (Shape.Idx.first hu) = 1#1) (hx : x (ix4 i j k 0) = 1#1) : Host.reduce IntOp.andi x init h hu (ix3 i j k) = 1#1 := by
  refine (Host.reduce_eq_fold _ _ _ _ _ _).trans ((h.fold_fiber_r4_a3 (ix3 i j k) IntOp.andi _ x).trans ?_)
  rw [Finset.univ_unique, Finset.fold_singleton, hi]
  exact (congrArg (fun w => IntOp.andi w 1#1) hx).trans (by decide)

/-- The indices as the pair gathers take them: a negative one counts from the end. -/
def wrap (idx : IVec S2x2048x30 32) : IVec S2x2048x30x1 32 :=
  select (cmpi .slt (broadcastInDim S2x2048x30x1 ![0, 1, 2] bcast_S2x2048x30_S2x2048x30x1_0_1_2 idx) (broadcastInDim S2x2048x30x1 ![] bcast_S_S2x2048x30x1 (constantI S_ 32 0#32)))
    (addi (broadcastInDim S2x2048x30x1 ![0, 1, 2] bcast_S2x2048x30_S2x2048x30x1_0_1_2 idx) (broadcastInDim S2x2048x30x1 ![] bcast_S_S2x2048x30x1 (constantI S_ 32 2048#32)))
    (broadcastInDim S2x2048x30x1 ![0, 1, 2] bcast_S2x2048x30_S2x2048x30x1_0_1_2 idx)

/-- Whether the indices are in bounds. -/
def inside (w : IVec S2x2048x30x1 32) : IVec S2x2048x30 1 :=
  Host.reduce IntOp.andi (andi (cmpi .sge w (broadcastInDim S2x2048x30x1 ![] bcast_S_S2x2048x30x1 (constantI S_ 32 0#32))) (cmpi .sle w (broadcastInDim S2x2048x30x1 ![0, 1, 2, 3] bcast_S1x1x1x1_S2x2048x30x1_0_1_2_3 (broadcastInDim S1x1x1x1 ![3] bcast_S1_S1x1x1x1_3 (constantI S1 32 2047#32))))) (constantI S_ 1 1#1) reducesTo_S2x2048x30x1_S2x2048x30_d3 h_S_

/-- The values of a pair array at the neighbours. -/
def picked (idx : IVec S2x2048x30 32) (x : S2x2048x2048.Idx → α) (fill : S2x2048x30x1.Idx → α) : S2x2048x30.Idx → α :=
  shapeCast _ (select (broadcastInDim S2x2048x30x1 ![0, 1, 2] bcast_S2x2048x30_S2x2048x30x1_0_1_2 (inside (wrap idx)))
    (Host.gather gather_S2x2048x2048x1_S2x2048x30x1_S2x2048x30x1_3_2_01_01_2_3_1111 (broadcastInDim S2x2048x2048x1 ![0, 1, 2] bcast_S2x2048x2048_S2x2048x2048x1_0_1_2 x) (wrap idx)) fill) shapeCasts_S2x2048x30x1_S2x2048x30

/-- A number below 2048, read signed, is itself. -/
theorem toInt_small (n : Fin 2048) : (BitVec.ofNat 32 n.val).toInt = n.val := by
  have := n.isLt
  rw [BitVec.toInt_ofNat']
  simp [Int.bmod]; omega
/-- A number below 2048 is not negative. -/
theorem slt_zero (n : Fin 2048) : IntOp.cmpi .slt (BitVec.ofNat 32 n.val) 0#32 = 0#1 := by
  have h := toInt_small n
  have e : (BitVec.ofNat 32 n.val).slt 0#32 = false := by
    rw [Bool.eq_false_iff]; intro hs; rw [BitVec.slt_iff_toInt_lt, h] at hs
    have : (0#32 : BitVec 32).toInt = 0 := rfl
    omega
  show BitVec.ofBool ((BitVec.ofNat 32 n.val).slt 0#32) = _
  rw [e]; rfl
/-- A number below 2048 is at least zero. -/
theorem sge_zero (n : Fin 2048) : IntOp.cmpi .sge (BitVec.ofNat 32 n.val) 0#32 = 1#1 := by
  refine IntOp.cmpi_sge.2 ?_
  rw [toInt_small]
  exact Int.natCast_nonneg _
/-- A number below 2048 is at most 2047. -/
theorem sle_last (n : Fin 2048) : IntOp.cmpi .sle (BitVec.ofNat 32 n.val) 2047#32 = 1#1 := by
  refine IntOp.cmpi_sle.2 ?_
  rw [toInt_small]
  have : (2047#32 : BitVec 32).toInt = 2047 := rfl
  have := n.isLt
  omega

/-- Wrapping leaves an index below 2048 as it is. -/
theorem wrap_apply (idx : IVec S2x2048x30 32) (b : Fin 2) (l : Fin 2048) (k : Fin 30) (n : Fin 2048) (h : idx (ix3 b l k) = BitVec.ofNat 32 n.val) :
    wrap idx (ix4 b l k 0) = BitVec.ofNat 32 n.val := by
  pointwise [wrap]
  rw [h, slt_zero]
  rfl

/-- A pair array picked at the neighbours, read. -/
theorem picked_apply (idx : IVec S2x2048x30 32) (x : S2x2048x2048.Idx → α) (fill : S2x2048x30x1.Idx → α) (b : Fin 2) (l : Fin 2048) (k : Fin 30) (n : Fin 2048)
    (h : idx (ix3 b l k) = BitVec.ofNat 32 n.val) : picked idx x fill (ix3 b l k) = x (ix3 b l n) := by
  have hw := wrap_apply idx b l k n h
  have hm : inside (wrap idx) (ix3 b l k) = 1#1 := by
    refine all_one _ _ _ _ b l k rfl ?_
    pointwise [andi, cmpi]
    rw [hw, sge_zero, sle_last]
    rfl
  pointwise [picked]
  rw [hm, gather_pair _ _ b l k n hw]
  pointwise [Scalar.select]
  exact if_pos rfl

/-- The indices as the row gathers take them, over `w` columns. -/
def inside3 (w : IVec S2x61440x3x1 32) : IVec S2x61440x3 1 :=
  Host.reduce IntOp.andi (andi (cmpi .sge w (broadcastInDim S2x61440x3x1 ![] bcast_S_S2x61440x3x1 (constantI S_ 32 0#32))) (cmpi .sle w (broadcastInDim S2x61440x3x1 ![0, 1, 2, 3] bcast_S1x1x1x1_S2x61440x3x1_0_1_2_3 (broadcastInDim S1x1x1x1 ![3] bcast_S1_S1x1x1x1_3 (constantI S1 32 2047#32))))) (constantI S_ 1 1#1) reducesTo_S2x61440x3x1_S2x61440x3_d3 h_S_
/-- Whether a wrapped index lies inside, for rows of nine. -/
def inside9 (w : IVec S2x61440x9x1 32) : IVec S2x61440x9 1 :=
  Host.reduce IntOp.andi (andi (cmpi .sge w (broadcastInDim S2x61440x9x1 ![] bcast_S_S2x61440x9x1 (constantI S_ 32 0#32))) (cmpi .sle w (broadcastInDim S2x61440x9x1 ![0, 1, 2, 3] bcast_S1x1x1x1_S2x61440x9x1_0_1_2_3 (broadcastInDim S1x1x1x1 ![3] bcast_S1_S1x1x1x1_3 (constantI S1 32 2047#32))))) (constantI S_ 1 1#1) reducesTo_S2x61440x9x1_S2x61440x9_d3 h_S_

/-- Where the neighbour `k` of `l` stands when the pairs are numbered through. -/
def pair (l : Fin 2048) (k : Fin 30) : Fin 61440 := ⟨30 * l + k, by omega⟩

/-- The wrapped indices, for rows of three. -/
def wrap3 (idx : IVec S2x2048x30 32) : IVec S2x61440x3x1 32 :=
  let w : IVec S2x61440x3 32 := broadcastInDim S2x61440x3 ![0, 1, 2] bcast_S2x61440x1_S2x61440x3_0_1_2 (broadcastInDim S2x61440x1 ![0, 1] bcast_S2x61440_S2x61440x1_0_1 (shapeCast _ idx shapeCasts_S2x2048x30_S2x61440))
  shapeCast _ (select (cmpi .slt w (broadcastInDim S2x61440x3 ![] bcast_S_S2x61440x3 (constantI S_ 32 0#32))) (addi w (broadcastInDim S2x61440x3 ![] bcast_S_S2x61440x3 (constantI S_ 32 2048#32))) w) shapeCasts_S2x61440x3_S2x61440x3x1
/-- The wrapped indices, for rows of nine. -/
def wrap9 (idx : IVec S2x2048x30 32) : IVec S2x61440x9x1 32 :=
  let w : IVec S2x61440x9 32 := broadcastInDim S2x61440x9 ![0, 1, 2] bcast_S2x61440x1_S2x61440x9_0_1_2 (broadcastInDim S2x61440x1 ![0, 1] bcast_S2x61440_S2x61440x1_0_1 (shapeCast _ idx shapeCasts_S2x2048x30_S2x61440))
  shapeCast _ (select (cmpi .slt w (broadcastInDim S2x61440x9 ![] bcast_S_S2x61440x9 (constantI S_ 32 0#32))) (addi w (broadcastInDim S2x61440x9 ![] bcast_S_S2x61440x9 (constantI S_ 32 2048#32))) w) shapeCasts_S2x61440x9_S2x61440x9x1

/-- The flat list of indices at a pair is the index of its residue and neighbour. -/
theorem numbered (idx : IVec S2x2048x30 32) (b : Fin 2) (l : Fin 2048) (k : Fin 30) :
    (shapeCast S2x61440 idx shapeCasts_S2x2048x30_S2x61440) (ix2 b (pair l k)) = idx (ix3 b l k) :=
  shapeCast_apply idx _ _ _ (by rw [Shape.rowMajor_val_two, Shape.rowMajor_val_three]; show (b.val * 2048 + l.val) * 30 + k.val = b.val * 61440 + (30 * l.val + k.val); omega)

/-- Wrapping leaves an index below 2048 as it is, for rows of three. -/
theorem wrap3_apply (idx : IVec S2x2048x30 32) (b : Fin 2) (l : Fin 2048) (k : Fin 30) (c : Fin 3) (n : Fin 2048) (h : idx (ix3 b l k) = BitVec.ofNat 32 n.val) :
    wrap3 idx (ix4 b (pair l k) c 0) = BitVec.ofNat 32 n.val := by
  unfold wrap3
  refine (shapeCast_apply _ _ _ (ix3 b (pair l k) c) ?_).trans ?_
  · rw [Shape.rowMajor_val_three, Shape.rowMajor_val_four]
    show (b.val * 61440 + (pair l k).val) * 3 + c.val = ((b.val * 61440 + (pair l k).val) * 3 + c.val) * 1 + 0
    omega
  show Scalar.select (IntOp.cmpi .slt (shapeCast S2x61440 idx shapeCasts_S2x2048x30_S2x61440 (ix2 b (pair l k))) 0#32)
    (IntOp.addi (shapeCast S2x61440 idx shapeCasts_S2x2048x30_S2x61440 (ix2 b (pair l k))) 2048#32) (shapeCast S2x61440 idx shapeCasts_S2x2048x30_S2x61440 (ix2 b (pair l k))) = _
  rw [numbered, h, slt_zero]
  rfl
/-- Wrapping leaves an index below 2048 as it is, for rows of nine. -/
theorem wrap9_apply (idx : IVec S2x2048x30 32) (b : Fin 2) (l : Fin 2048) (k : Fin 30) (c : Fin 9) (n : Fin 2048) (h : idx (ix3 b l k) = BitVec.ofNat 32 n.val) :
    wrap9 idx (ix4 b (pair l k) c 0) = BitVec.ofNat 32 n.val := by
  unfold wrap9
  refine (shapeCast_apply _ _ _ (ix3 b (pair l k) c) ?_).trans ?_
  · rw [Shape.rowMajor_val_three, Shape.rowMajor_val_four]
    show (b.val * 61440 + (pair l k).val) * 9 + c.val = ((b.val * 61440 + (pair l k).val) * 9 + c.val) * 1 + 0
    omega
  show Scalar.select (IntOp.cmpi .slt (shapeCast S2x61440 idx shapeCasts_S2x2048x30_S2x61440 (ix2 b (pair l k))) 0#32)
    (IntOp.addi (shapeCast S2x61440 idx shapeCasts_S2x2048x30_S2x61440 (ix2 b (pair l k))) 2048#32) (shapeCast S2x61440 idx shapeCasts_S2x2048x30_S2x61440 (ix2 b (pair l k))) = _
  rw [numbered, h, slt_zero]
  rfl

/-- The neighbours' rows of three. -/
def rows3 (idx : IVec S2x2048x30 32) (x : S2x2048x3.Idx → α) (fill : S2x61440x3.Idx → α) : S2x2048x30x3.Idx → α :=
  shapeCast _ (select (inside3 (wrap3 idx)) (Host.gather gather_S2x2048x3_S2x61440x3x1_S2x61440x3_n_1_02_02_1_3_111 x (wrap3 idx)) fill) shapeCasts_S2x61440x3_S2x2048x30x3
/-- The neighbours' rows of nine. -/
def rows9 (idx : IVec S2x2048x30 32) (x : S2x2048x9.Idx → α) (fill : S2x61440x9.Idx → α) : S2x2048x30x9.Idx → α :=
  shapeCast _ (select (inside9 (wrap9 idx)) (Host.gather gather_S2x2048x9_S2x61440x9x1_S2x61440x9_n_1_02_02_1_3_111 x (wrap9 idx)) fill) shapeCasts_S2x61440x9_S2x2048x30x9

/-- Gathering rows of three at an index `n` reads row `n`. -/
theorem rows3_apply (idx : IVec S2x2048x30 32) (x : S2x2048x3.Idx → α) (fill : S2x61440x3.Idx → α) (b : Fin 2) (l : Fin 2048) (k : Fin 30) (c : Fin 3) (n : Fin 2048)
    (h : idx (ix3 b l k) = BitVec.ofNat 32 n.val) : rows3 idx x fill (ix4 b l k c) = x (ix3 b n c) := by
  have hw := wrap3_apply idx b l k c n h
  have hm : inside3 (wrap3 idx) (ix3 b (pair l k) c) = 1#1 := by
    refine all_one _ _ _ _ b (pair l k) c rfl ?_
    pointwise [andi, cmpi]
    rw [hw, sge_zero, sle_last]
    rfl
  refine (shapeCast_apply _ _ _ (ix3 b (pair l k) c) (by rw [Shape.rowMajor_val_three, Shape.rowMajor_val_four]; show (b.val * 61440 + (30 * l.val + k.val)) * 3 + c.val = ((b.val * 2048 + l.val) * 30 + k.val) * 3 + c.val; omega)).trans ?_
  show Scalar.select (inside3 (wrap3 idx) (ix3 b (pair l k) c)) (Host.gather _ x (wrap3 idx) (ix3 b (pair l k) c)) _ = _
  rw [hm, gather_row3 _ _ b (pair l k) c n hw]
  rfl
/-- Gathering rows of nine at an index `n` reads row `n`. -/
theorem rows9_apply (idx : IVec S2x2048x30 32) (x : S2x2048x9.Idx → α) (fill : S2x61440x9.Idx → α) (b : Fin 2) (l : Fin 2048) (k : Fin 30) (c : Fin 9) (n : Fin 2048)
    (h : idx (ix3 b l k) = BitVec.ofNat 32 n.val) : rows9 idx x fill (ix4 b l k c) = x (ix3 b n c) := by
  have hw := wrap9_apply idx b l k c n h
  have hm : inside9 (wrap9 idx) (ix3 b (pair l k) c) = 1#1 := by
    refine all_one _ _ _ _ b (pair l k) c rfl ?_
    pointwise [andi, cmpi]
    rw [hw, sge_zero, sle_last]
    rfl
  refine (shapeCast_apply _ _ _ (ix3 b (pair l k) c) (by rw [Shape.rowMajor_val_three, Shape.rowMajor_val_four]; show (b.val * 61440 + (30 * l.val + k.val)) * 9 + c.val = ((b.val * 2048 + l.val) * 30 + k.val) * 9 + c.val; omega)).trans ?_
  show Scalar.select (inside9 (wrap9 idx) (ix3 b (pair l k) c)) (Host.gather _ x (wrap9 idx) (ix3 b (pair l k) c)) _ = _
  rw [hm, gather_row9 _ _ b (pair l k) c n hw]
  rfl
end Cert.ReferenceIdeal.Value
end
-- ==== Proof.Spec.lean ====
module

public import Idealize.ShloMosaic.Lib.Pointwise

@[expose] public section
set_option maxRecDepth 16384
noncomputable section
namespace Cert.Spec
open Idealize.ShloMosaic

/-- An integer word as the real it stands for. -/
def real (w : BitVec 32) : EReal := ((w.toInt : ℝ) : EReal)

/-- The sixteen radial functions of a distance: a bell around each of the centres 2, 2 + 4/3, …, 22. -/
def radial (d : EReal) (c : ℕ) : EReal :=
  Ideal.exp (-(Ideal.div (d - ((2 + 4 / 3 * c : ℝ) : EReal)) (Ideal.ofBits .f32 0x3FA00000#32)
    * Ideal.div (d - ((2 + 4 / 3 * c : ℝ) : EReal)) (Ideal.ofBits .f32 0x3FA00000#32)))

/-- The distance of two points. -/
def dist (a b : Fin 3 → EReal) : EReal :=
  Ideal.sqrt (∑ x, (a x - b x) * (a x - b x) + Ideal.ofBits .f32 0x358637BD#32)

/-- The square of a difference does not depend on the order. -/
theorem sub_sq_comm (a b : EReal) : (a - b) * (a - b) = (b - a) * (b - a) := by
  induction a <;> induction b <;> simp [← EReal.coe_sub, ← EReal.coe_mul]
  ring

/-- The distance does not depend on the order. -/
theorem dist_comm (a b : Fin 3 → EReal) : dist a b = dist b a := by
  unfold dist
  congr 2
  exact Finset.sum_congr rfl fun x _ => sub_sq_comm _ _

/-- A coordinate of the direction to a neighbour, in the frame `o`. -/
def dir (o : Fin 3 → Fin 3 → EReal) (d : Fin 3 → EReal) (a : Fin 3) : EReal := ∑ x, o a x * d x

/-- The direction's length, kept from zero. -/
def dirLen (o : Fin 3 → Fin 3 → EReal) (d : Fin 3 → EReal) : EReal :=
  max (Ideal.sqrt (∑ a, dir o d a * dir o d a)) (Ideal.ofBits .f32 0x2B8CBCCC#32)

/-- The relative rotation of two frames. -/
def rot (o p : Fin 3 → Fin 3 → EReal) (a b : Fin 3) : EReal := ∑ x, o x a * p x b

/-- The sign of a number. -/
def sgn (x : EReal) : EReal := if x < 0 then -1 else if 0 < x then 1 else 0

/-- A quaternion component's size. -/
def size (u : EReal) : EReal :=
  Ideal.ofBits .f32 0x3F000000#32 * Ideal.sqrt (max u (-u) + Ideal.ofBits .f32 0x322BCC77#32)

/-- The four components of the relative rotation's quaternion, before the length is divided out. -/
def quat (R : Fin 3 → Fin 3 → EReal) : Fin 4 → EReal :=
  ![sgn (R 2 1 - R 1 2) * size (1 + (R 0 0 - R 1 1 - R 2 2)),
    sgn (R 0 2 - R 2 0) * size (1 + (-R 0 0 + R 1 1 - R 2 2)),
    sgn (R 1 0 - R 0 1) * size (1 + (-R 0 0 - R 1 1 + R 2 2)),
    Ideal.div (Ideal.sqrt (max (1 + ∑ a, R a a) 0 + Ideal.ofBits .f32 0x322BCC77#32)) (Ideal.ofBits .f32 0x40000000#32)]

/-- The quaternion's length, kept from zero. -/
def quatLen (R : Fin 3 → Fin 3 → EReal) : EReal :=
  max (Ideal.sqrt (∑ a, quat R a * quat R a)) (Ideal.ofBits .f32 0x2B8CBCCC#32)

/-- The class of a residue offset: clipped to 0 … 64 where the chains agree, else 65. -/
def bucket (ri ci rj cj : BitVec 32) : ℕ := if ci = cj then min 64 (ri.toNat + 32 - rj.toNat) else 65

/-- The class of an offset is below 66. -/
theorem bucket_lt (ri ci rj cj : BitVec 32) : bucket ri ci rj cj < 66 := by unfold bucket; split <;> omega

/-- What an edge is computed from at one end: three points, the frame, the residue number and the chain. -/
structure End where
  here : Fin 3 → EReal
  before : Fin 3 → EReal
  after : Fin 3 → EReal
  frame : Fin 3 → Fin 3 → EReal
  resid : BitVec 32
  chain : BitVec 32

/-- The 167 features of the edge from `i` to `j` at distance `v`. -/
def feat (i j : End) (v : EReal) (pew : Fin 66 → Fin 16 → EReal) (peb : Fin 16 → EReal) (c : Fin 167) : EReal :=
  if h : c.val < 16 then pew ⟨bucket i.resid i.chain j.resid j.chain, bucket_lt _ _ _ _⟩ ⟨c, h⟩ + peb ⟨c, h⟩
  else if c.val < 32 then radial v (c - 16)
  else if c.val < 48 then radial (dist i.before j.before) (c - 32)
  else if c.val < 64 then radial (dist i.after j.after) (c - 48)
  else if c.val < 80 then radial (dist i.before j.here) (c - 64)
  else if c.val < 96 then radial (dist i.before j.after) (c - 80)
  else if c.val < 112 then radial (dist i.here j.before) (c - 96)
  else if c.val < 128 then radial (dist i.here j.after) (c - 112)
  else if c.val < 144 then radial (dist i.after j.before) (c - 128)
  else if c.val < 160 then radial (dist i.after j.here) (c - 144)
  else if h : c.val < 163 then
    Ideal.div (dir i.frame (fun x => j.here x - i.here x) ⟨c - 160, by omega⟩) (dirLen i.frame fun x => j.here x - i.here x)
  else Ideal.div (quat (rot i.frame j.frame) ⟨c - 163, by omega⟩) (quatLen (rot i.frame j.frame))

/-- The mean of 128 numbers. -/
def mean (x : Fin 128 → EReal) : EReal := Ideal.div (∑ o, x o) (Ideal.ofBits .f32 0x43000000#32)

/-- The normalized numbers, scaled and shifted. -/
def layer (x : Fin 128 → EReal) (g b : Fin 128 → EReal) (o : Fin 128) : EReal :=
  Ideal.div (x o - mean x) (Ideal.sqrt (mean (fun o => (x o - mean x) * (x o - mean x)) + Ideal.ofBits .f32 0x3727C5AC#32)) * g o + b o

/-- The 128 outputs of an edge with the features `f`. -/
def edge (f : Fin 167 → EReal) (w : Fin 167 → Fin 128 → EReal) (g b : Fin 128 → EReal) (o : Fin 128) : EReal :=
  layer (fun o => ∑ c, f c * w c o) g b o

/-- The real a small number's word stands for. -/
theorem real_ofNat (n : ℕ) (h : n < 2147483648) : real (BitVec.ofNat 32 n) = ((n : ℝ) : EReal) := by
  have e : (BitVec.ofNat 32 n).toInt = n := by rw [BitVec.toInt_ofNat']; simp [Int.bmod]; omega
  unfold real; rw [e]; norm_cast

/-- A bit as a word as a real. -/
theorem real_bit (p : Prop) [Decidable p] : real (BitVec.setWidth 32 (BitVec.ofBool (decide p))) = if p then 1 else 0 := by
  by_cases h : p <;> simp [h, real]

/-- A sum against the indicator of one place is the value there. -/
theorem sum_indicator {n : ℕ} (hn : n ≤ 4294967296) (k : Fin n) (g : Fin n → EReal) (e : Fin n → EReal)
    (he : ∀ x : Fin n, e x = if BitVec.ofNat 32 x.val = BitVec.ofNat 32 k.val then 1 else 0) : ∑ x, e x * g x = g k := by
  have h : ∀ x : Fin n, e x * g x = if x = k then g x else 0 := by
    intro x
    rw [he]
    by_cases hx : x = k
    · rw [if_pos hx, if_pos (by rw [hx]), one_mul]
    · rw [if_neg hx, if_neg, zero_mul]
      intro hw
      have := congrArg BitVec.toNat hw
      simp only [BitVec.toNat_ofNat] at this
      have hx' : x.val ≠ k.val := fun h => hx (Fin.ext h)
      omega
  simp [h]

/-- Two words are equal when their values are. -/
theorem real_inj {a b : BitVec 32} : real a = real b ↔ a = b := by
  unfold real
  rw [EReal.coe_eq_coe_iff, Int.cast_inj]
  exact BitVec.toInt_inj

/-- The value of a word below 2048. -/
theorem real_small (w : BitVec 32) (h : w.toNat < 2048) : real w = ((w.toNat : ℝ) : EReal) := by
  have e := real_ofNat w.toNat (by omega)
  rwa [BitVec.ofNat_toNat, BitVec.setWidth_eq] at e

/-- The word read off the real of a small number is the number's. -/
theorem fptosi_nat (n : ℕ) (h : n < 2147483648) : Ideal.fptosi 32 ((n : ℝ) : EReal) = BitVec.ofNat 32 n := by
  have e : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    omega
  unfold Ideal.fptosi
  rw [e, BitVec.ofInt_natCast]

end Cert.Spec
end
-- ==== Proof.Near.lean ====
module

public import proofs.«01_k».proof.Proof.Spec

@[expose] public section
set_option maxRecDepth 16384
noncomputable section
namespace Cert.Spec
open Idealize.ShloMosaic

/-- The distance of two residues where both are present, else nought. -/
def full (X : Fin 2048 → Fin 3 → EReal) (M : Fin 2048 → EReal) (l j : Fin 2048) : EReal := M l * M j * dist (X l) (X j)

/-- The adjusted distance: a missing pair is put as far as the row's farthest. -/
def apart (X : Fin 2048 → Fin 3 → EReal) (M : Fin 2048 → EReal) (l j : Fin 2048) : EReal :=
  full X M l j + (1 - M l * M j) * Finset.univ.fold max (Ideal.ofBits .f32 0xFF800000#32) (full X M l)

/-- A value that is a real number. -/
def Finite (x : EReal) : Prop := ∃ r : ℝ, x = r

/-- A number whose absolute value is below infinity is real. -/
theorem finite_of_abs {x : EReal} (h : max x (-x) < ⊤) : Finite x := by
  induction x with
  | bot => simp at h
  | top => simp at h
  | coe r => exact ⟨r, rfl⟩

/-- A difference of reals is real. -/
theorem Finite.sub {x y : EReal} (hx : Finite x) (hy : Finite y) : Finite (x - y) := by
  obtain ⟨a, rfl⟩ := hx; obtain ⟨b, rfl⟩ := hy; exact ⟨a - b, (EReal.coe_sub a b).symm⟩
/-- A sum of reals is real. -/
theorem Finite.add {x y : EReal} (hx : Finite x) (hy : Finite y) : Finite (x + y) := by
  obtain ⟨a, rfl⟩ := hx; obtain ⟨b, rfl⟩ := hy; exact ⟨a + b, (EReal.coe_add a b).symm⟩
/-- A product of reals is real. -/
theorem Finite.mul {x y : EReal} (hx : Finite x) (hy : Finite y) : Finite (x * y) := by
  obtain ⟨a, rfl⟩ := hx; obtain ⟨b, rfl⟩ := hy; exact ⟨a * b, (EReal.coe_mul a b).symm⟩

/-- The pattern of minus infinity. -/
theorem bits_bot : Ideal.ofBits .f32 0xFF800000#32 = ⊥ := by simp [Ideal.ofBits, Ideal.ieee]

/-- The number added under the root is a real number, not negative. -/
theorem finite_small : ∃ r : ℝ, 0 ≤ r ∧ Ideal.ofBits .f32 0x358637BD#32 = r := by
  simp [Ideal.ofBits, Ideal.ieee, -EReal.coe_mul]

/-- The distance of two points that are numbers is a number. -/
theorem finite_dist {a b : Fin 3 → EReal} (ha : ∀ x, Finite (a x)) (hb : ∀ x, Finite (b x)) : Finite (dist a b) := by
  obtain ⟨e, he, hbits⟩ := finite_small
  choose p hp using ha
  choose q hq using hb
  unfold dist
  rw [hbits, Fin.sum_univ_three, hp, hp, hp, hq, hq, hq]
  simp only [← EReal.coe_sub, ← EReal.coe_mul, ← EReal.coe_add]
  refine ⟨Real.sqrt _, if_neg (not_lt.mpr ?_)⟩
  exact add_nonneg (add_nonneg (add_nonneg (mul_self_nonneg _) (mul_self_nonneg _)) (mul_self_nonneg _)) he

/-- With real coordinates and mask the masked distance is real. -/
theorem finite_full {X : Fin 2048 → Fin 3 → EReal} {M : Fin 2048 → EReal} (hX : ∀ l x, Finite (X l x)) (hM : ∀ l, Finite (M l)) (l j : Fin 2048) :
    Finite (full X M l j) := ((hM l).mul (hM j)).mul (finite_dist (hX l) (hX j))

/-- The adjusted distances of finite points are below infinity. -/
theorem apart_lt_top {X : Fin 2048 → Fin 3 → EReal} {M : Fin 2048 → EReal} (hX : ∀ l x, Finite (X l x)) (hM : ∀ l, Finite (M l)) (l j : Fin 2048) :
    apart X M l j < ⊤ := by
  have hf := finite_full hX hM l
  have hmax : Finite (Finset.univ.fold max (Ideal.ofBits .f32 0xFF800000#32) (full X M l)) := by
    have hb : ⊥ < Finset.univ.fold max (Ideal.ofBits .f32 0xFF800000#32) (full X M l) := by
      rw [bits_bot, Finset.lt_fold_max]
      obtain ⟨r, hr⟩ := hf 0
      exact .inr ⟨0, Finset.mem_univ _, by rw [hr]; exact EReal.bot_lt_coe r⟩
    have ht : Finset.univ.fold max (Ideal.ofBits .f32 0xFF800000#32) (full X M l) < ⊤ := by
      rw [bits_bot, Finset.fold_max_lt]
      refine ⟨bot_lt_top, fun x _ => ?_⟩
      obtain ⟨r, hr⟩ := hf x; rw [hr]; exact EReal.coe_lt_top r
    exact ⟨_, (EReal.coe_toReal ht.ne hb.ne').symm⟩
  have h1 : Finite (1 - M l * M j) := Finite.sub ⟨1, rfl⟩ ((hM l).mul (hM j))
  obtain ⟨r, hr⟩ := (hf j).add (h1.mul hmax)
  unfold apart
  rw [hr]
  exact EReal.coe_lt_top r
end Cert.Spec
end
-- ==== Proof.Neighbours.lean ====
module

public import proofs.«01_k».proof.Proof.Gen.ReferenceIdeal.Run
public import proofs.«01_k».proof.Proof.Gather
public import proofs.«01_k».proof.Proof.Select
public import proofs.«01_k».proof.Proof.Near
public import Idealize.ShloMosaic.Lib.Pointwise

@[expose] public section
set_option maxRecDepth 16384
noncomputable section
namespace Cert.ReferenceIdeal.Value
open Idealize.ShloMosaic Idealize.SL.Sem Cert.ReferenceIdeal Cert.ReferenceIdeal.Gen Idealize.ShloMosaic.StableHlo
variable (V0 : Valuation τ sig (Elt Ideal))

/-- The arguments, each with its shape. -/
abbrev aX : FVec Ideal S2x2048x3 .f32 := V0 (Proc.devRef .tc main_arg0)
/-- The mask. -/
abbrev aM : FVec Ideal S2x2048 .f32 := V0 (Proc.devRef .tc main_arg1)
/-- The residue numbers. -/
abbrev aR : IVec S2x2048 32 := V0 (Proc.devRef .tc main_arg2)
/-- The chain labels. -/
abbrev aC : IVec S2x2048 32 := V0 (Proc.devRef .tc main_arg3)

/-- The adjusted distances of a residue. -/
def away (b : Fin 2) (l : Fin 2048) : Fin 2048 → EReal := Spec.apart (fun j x => aX V0 (ix3 b j x)) (fun j => aM V0 (ix2 b j)) l

/-- The reference's masked distances. -/
theorem full_apply (b : Fin 2) (l j : Fin 2048) : (res_main_v15 (F := Ideal) V0 : FVec Ideal S2x2048x2048 .f32) (ix3 b l j)
    = Spec.full (fun j x => aX V0 (ix3 b j x)) (fun j => aM V0 (ix2 b j)) l j := by
  pointwise [res_main_v15, res_main_v9, res_main_v4]
  unfold Spec.full
  rw [Spec.dist_comm, mul_comm (aM V0 (ix2 b l))]
  rfl

/-- The reference sorts by the adjusted distance, negated. -/
theorem away_apply (b : Fin 2) (l j : Fin 2048) : (res_main_v23 (F := Ideal) V0 : FVec Ideal S2x2048x2048 .f32) (ix3 b l j) = - away V0 b l j := by
  have hm : (Finset.univ.filter fun i => reducesTo_S2x2048x2048_S2x2048_d2.drop i = ix2 b l).fold max (Ideal.ofBits .f32 0xFF800000#32) (res_main_v15 (F := Ideal) V0 : FVec Ideal S2x2048x2048 .f32)
      = Finset.univ.fold max (Ideal.ofBits .f32 0xFF800000#32) (Spec.full (fun j x => aX V0 (ix3 b j x)) (fun j => aM V0 (ix2 b j)) l) := by
    refine (Shape.ReducesTo.fold_fiber_r3_a2 _ (ix2 b l) max _ _).trans ?_
    exact Finset.fold_congr fun x _ => full_apply V0 b l x
  pointwise [res_main_v23, res_main_v4]
  erw [hm, full_apply]
  unfold away Spec.apart
  rw [mul_comm (aM V0 (ix2 b l))]

/-- The order of the negated values, decreasing, is that of the values. -/
theorem order_neg (f : Fin 2048 → EReal) : (fun k k' => FloatOps.cmpfTotal (F := Ideal) (φ := .f32) .gt (-(f k)) (-(f k')) == 1#1) = fun k k' => decide (f k < f k') := by
  funext k k'
  show (BitVec.ofBool (decide (-(f k') < -(f k))) == 1#1) = _
  rw [show decide (-(f k') < -(f k)) = decide (f k < f k') from by rw [decide_eq_decide]; exact EReal.neg_lt_neg_iff]
  cases decide (f k < f k') <;> rfl

/-- The neighbours, nearest first. -/
def nbr (b : Fin 2) (l : Fin 2048) (k : Fin 30) : Fin 2048 := Select.rank (away V0 b l) ⟨k, by omega⟩

/-- Moving along the last axis changes the last index. -/
theorem along_last (b : Fin 2) (l j k : Fin 2048) : (ix3 b l j : S2x2048x2048.Idx).along 2 k = ix3 b l k := by
  funext a; fin_cases a <;> rfl

/-- The first thirty entries of a row. -/
theorem slice_first (b : Fin 2) (l : Fin 2048) (k : Fin 30) {α : Type} (x : S2x2048x2048.Idx → α) :
    extractStridedSlice S2x2048x30 (fun _ => 0) x sliceFits_S2x2048x2048_S2x2048x30 (ix3 b l k) = x (ix3 b l ⟨k, by omega⟩) := by
  exact congrArg x (by funext a; fin_cases a <;> exact Fin.ext (Nat.zero_add _))

/-- A stable sort along the last axis, read. -/
theorem sort_last {β : Type} (c : EReal × β → EReal × β → BitVec 1) (x : S2x2048x2048.Idx → EReal) (y : S2x2048x2048.Idx → β) (b : Fin 2) (l j : Fin 2048) :
    (Host.sort2 S2x2048x2048 2 c x y).1 (ix3 b l j) = x (ix3 b l (sortedFrom (fun k k' => c (x (ix3 b l k), y (ix3 b l k)) (x (ix3 b l k'), y (ix3 b l k')) == 1#1) j))
    ∧ (Host.sort2 S2x2048x2048 2 c x y).2 (ix3 b l j) = y (ix3 b l (sortedFrom (fun k k' => c (x (ix3 b l k), y (ix3 b l k)) (x (ix3 b l k'), y (ix3 b l k')) == 1#1) j)) := by
  have ha : ∀ k : Fin 2048, (ix3 b l j : S2x2048x2048.Idx).along 2 k = ix3 b l k := along_last b l j
  unfold Host.sort2
  rw [dif_pos (show 2 < S2x2048x2048.rank by decide)]
  have hF : (fun k k' : Fin 2048 => c (x ((ix3 b l j : S2x2048x2048.Idx).along 2 k), y ((ix3 b l j : S2x2048x2048.Idx).along 2 k)) (x ((ix3 b l j : S2x2048x2048.Idx).along 2 k'), y ((ix3 b l j : S2x2048x2048.Idx).along 2 k')) == 1#1)
      = fun k k' => c (x (ix3 b l k), y (ix3 b l k)) (x (ix3 b l k'), y (ix3 b l k')) == 1#1 := by
    funext k k'; rw [ha, ha]
  rw [← hF]
  exact ⟨congrArg x (ha _), congrArg y (ha _)⟩

/-- The largest of negated values are the smallest of the values, equal ones in the order of the positions. -/
theorem topK_neg (x : S2x2048x2048.Idx → EReal) (b : Fin 2) (l : Fin 2048) (f : Fin 2048 → EReal) (hx : ∀ j, x (ix3 b l j) = -(f j)) (k : Fin 30) :
    (Host.topK S2x2048x30 2 (FloatOps.cmpfTotal (F := Ideal) (φ := .f32) .gt) x sliceFits_S2x2048x2048_S2x2048x30).1 (ix3 b l k) = -(f (Select.rank f ⟨k, by omega⟩))
    ∧ (Host.topK S2x2048x30 2 (FloatOps.cmpfTotal (F := Ideal) (φ := .f32) .gt) x sliceFits_S2x2048x2048_S2x2048x30).2 (ix3 b l k) = BitVec.ofNat 32 (Select.rank f ⟨k, by omega⟩).val := by
  constructor
  · show extractStridedSlice S2x2048x30 (fun _ => 0) (Host.sort2 S2x2048x2048 2 (fun l r => FloatOps.cmpfTotal (F := Ideal) (φ := .f32) .gt l.1 r.1) x
      (fun i => if hd : 2 < S2x2048x2048.rank then iotaInDim S2x2048x2048 32 ⟨2, hd⟩ i else 0#32)).1 sliceFits_S2x2048x2048_S2x2048x30 (ix3 b l k) = _
    rw [slice_first, (sort_last _ x _ b l _).1, hx]
    simp only [hx]
    rw [order_neg f]
    rfl
  · show extractStridedSlice S2x2048x30 (fun _ => 0) (Host.sort2 S2x2048x2048 2 (fun l r => FloatOps.cmpfTotal (F := Ideal) (φ := .f32) .gt l.1 r.1) x
      (fun i => if hd : 2 < S2x2048x2048.rank then iotaInDim S2x2048x2048 32 ⟨2, hd⟩ i else 0#32)).2 sliceFits_S2x2048x2048_S2x2048x30 (ix3 b l k) = _
    rw [slice_first, (sort_last _ x _ b l _).2]
    simp only [hx]
    rw [order_neg f]
    rfl

/-- The neighbours' numbers. -/
theorem indices_apply (b : Fin 2) (l : Fin 2048) (k : Fin 30) : (res_main_indices (F := Ideal) V0 : IVec S2x2048x30 32) (ix3 b l k) = BitVec.ofNat 32 (nbr V0 b l k).val :=
  (topK_neg (res_main_v23 (F := Ideal) V0) b l _ (away_apply V0 b l) k).2
/-- The neighbours' distances, negated. -/
theorem values_apply (b : Fin 2) (l : Fin 2048) (k : Fin 30) :
    ((Host.topK S2x2048x30 2 (FloatOps.cmpfTotal (F := Ideal) (φ := .f32) .gt) (res_main_v23 (F := Ideal) V0 : FVec Ideal S2x2048x2048 .f32) sliceFits_S2x2048x2048_S2x2048x30).1 : FVec Ideal S2x2048x30 .f32) (ix3 b l k) = -(away V0 b l (nbr V0 b l k)) :=
  (topK_neg (res_main_v23 (F := Ideal) V0) b l _ (away_apply V0 b l) k).1
end Cert.ReferenceIdeal.Value
end
-- ==== Proof.Radii.lean ====
module

public import proofs.«01_k».proof.Proof.Neighbours

@[expose] public section
set_option maxRecDepth 16384
noncomputable section
namespace Cert.ReferenceIdeal.Value
open Idealize.ShloMosaic Idealize.SL.Sem Cert.ReferenceIdeal Cert.ReferenceIdeal.Gen Idealize.ShloMosaic.StableHlo
variable (V0 : Valuation τ sig (Elt Ideal))

/-- The steps 0, 1/15, …, 14/15. -/
def fifteenths : FVec Ideal S15 .f32 := Host.divf (sitofp .f32 (iotaInDim S15 32 0)) (broadcastInDim S15 ![] bcast_S_S15 (constant S_ .f32 0x41700000#32))
/-- The first centre. -/
def two : FVec Ideal S_ .f32 := id (constant S_ .f32 0x40000000#32)
/-- The last centre. -/
def twentytwo : FVec Ideal S_ .f32 := id (constant S_ .f32 0x41B00000#32)
/-- The sixteen centres from 2 to 22. -/
def centres : FVec Ideal S16 .f32 :=
  concatenate S16 0 [⟨S15, (addf (mulf (broadcastInDim S15 ![0] bcast_S1_S15_0 (shapeCast _ two shapeCasts_S_S1)) (subf (broadcastInDim S15 ![] bcast_S_S15 (constant S_ .f32 0x3F800000#32)) fifteenths)) (mulf (broadcastInDim S15 ![0] bcast_S1_S15_0 (shapeCast _ twentytwo shapeCasts_S_S1)) fifteenths))⟩, ⟨S1, (broadcastInDim S1 ![] bcast_S_S1 twentytwo)⟩] concatenates_S15_S1_S16_d0
/-- The distances from the centres, in widths. -/
def scaled (d : FVec Ideal S2x2048x30 .f32) : FVec Ideal S2x2048x30x16 .f32 :=
  Host.divf (subf (broadcastInDim S2x2048x30x16 ![0, 1, 2, 3] bcast_S2x2048x30x1_S2x2048x30x16_0_1_2_3 (broadcastInDim S2x2048x30x1 ![0, 1, 2] bcast_S2x2048x30_S2x2048x30x1_0_1_2 d)) (broadcastInDim S2x2048x30x16 ![0, 1, 2, 3] bcast_S1x1x1x16_S2x2048x30x16_0_1_2_3 (shapeCast _ centres shapeCasts_S16_S1x1x1x16))) (broadcastInDim S2x2048x30x16 ![] bcast_S_S2x2048x30x16 (constant S_ .f32 0x3FA00000#32))
/-- The radial functions of the distances. -/
def radii (d : FVec Ideal S2x2048x30 .f32) : FVec Ideal S2x2048x30x16 .f32 := Host.exp (Host.negf (mulf (scaled d) (scaled d)))

/-- The pattern of 2. -/
theorem bits_two : Ideal.ofBits .f32 0x40000000#32 = ((2 : ℝ) : EReal) := by simp [Ideal.ofBits, Ideal.ieee, -EReal.coe_mul]; norm_num
/-- The pattern of 22. -/
theorem bits_22 : Ideal.ofBits .f32 0x41B00000#32 = ((22 : ℝ) : EReal) := by simp [Ideal.ofBits, Ideal.ieee, -EReal.coe_mul]; norm_num
/-- The pattern of 15. -/
theorem bits_15 : Ideal.ofBits .f32 0x41700000#32 = ((15 : ℝ) : EReal) := by simp [Ideal.ofBits, Ideal.ieee, -EReal.coe_mul]; norm_num

/-- The centres lie 4/3 apart, from 2 on. -/
theorem centres_apply (c : Fin 16) : centres (ix1 c) = ((2 + 4 / 3 * c.val : ℝ) : EReal) := by
  pointwise [centres, two, twentytwo, fifteenths]
  have ht : (id (constant (F := Ideal) S_ .f32 0x40000000#32) ix0 : EReal) = ((2 : ℝ) : EReal) := bits_two
  have hu : (id (constant (F := Ideal) S_ .f32 0x41B00000#32) ix0 : EReal) = ((22 : ℝ) : EReal) := bits_22
  have hc : (FloatOps.sitofp (F := Ideal) .f32 (BitVec.ofNat 32 c.val) : EReal) = ((c.val : ℝ) : EReal) := Spec.real_ofNat c.val (by omega)
  rw [ht, hu, hc, bits_15]
  by_cases h : c.val < 15
  · rw [dif_pos h]
    have e : Ideal.div ((c.val : ℝ) : EReal) ((15 : ℝ) : EReal) = ((c.val / 15 : ℝ) : EReal) := by
      rw [Ideal.div, if_neg (by norm_num [← EReal.coe_zero]), ← EReal.coe_inv, ← EReal.coe_mul, div_eq_mul_inv]
    rw [e, ← EReal.coe_one, ← EReal.coe_sub, ← EReal.coe_mul, ← EReal.coe_mul, ← EReal.coe_add]
    congr 1
    ring
  · rw [dif_neg h]
    have : c.val = 15 := by omega
    rw [this]
    norm_num

/-- The radial basis of a distance. -/
theorem radii_apply (d : FVec Ideal S2x2048x30 .f32) (b : Fin 2) (l : Fin 2048) (k : Fin 30) (c : Fin 16) : radii d (ix4 b l k c) = Spec.radial (d (ix3 b l k)) c.val := by
  unfold Spec.radial
  rw [← centres_apply]
  pointwise [radii, scaled]

/-- The distances between the points of `a` and those of `b`. -/
def pairs (p q : FVec Ideal S2x2048x3 .f32) : FVec Ideal S2x2048x2048 .f32 :=
  let d : FVec Ideal S2x2048x2048x3 .f32 := subf (broadcastInDim S2x2048x2048x3 ![0, 1, 2, 3] bcast_S2x2048x1x3_S2x2048x2048x3_0_1_2_3 (broadcastInDim S2x2048x1x3 ![0, 1, 3] bcast_S2x2048x3_S2x2048x1x3_0_1_3 p)) (broadcastInDim S2x2048x2048x3 ![0, 1, 2, 3] bcast_S2x1x2048x3_S2x2048x2048x3_0_1_2_3 (broadcastInDim S2x1x2048x3 ![0, 2, 3] bcast_S2x2048x3_S2x1x2048x3_0_2_3 q))
  Host.sqrt (addf (Host.reduceAdd (mulf d d) (constant S_ .f32 0x00000000#32) reducesTo_S2x2048x2048x3_S2x2048x2048_d3 h_S_) (broadcastInDim S2x2048x2048 ![] bcast_S_S2x2048x2048 (constant S_ .f32 0x358637BD#32)))

/-- The distance of a pair of points. -/
theorem pairs_apply (p q : FVec Ideal S2x2048x3 .f32) (b : Fin 2) (l j : Fin 2048) : pairs p q (ix3 b l j) = Spec.dist (fun x => p (ix3 b l x)) (fun x => q (ix3 b j x)) := by
  pointwise [pairs]
  rfl

/-- The radial functions of the neighbours' distances between two kinds of points. -/
def radiiOf (p q : FVec Ideal S2x2048x3 .f32) : FVec Ideal S2x2048x30x16 .f32 :=
  radii (picked (res_main_indices V0) (pairs p q) (broadcastInDim S2x2048x30x1 ![] bcast_S_S2x2048x30x1 (constant S_ .f32 0x7FC00000#32)))

/-- The radial basis of the distance to a neighbour. -/
theorem radiiOf_apply (p q : FVec Ideal S2x2048x3 .f32) (b : Fin 2) (l : Fin 2048) (k : Fin 30) (c : Fin 16) :
    radiiOf V0 p q (ix4 b l k c) = Spec.radial (Spec.dist (fun x => p (ix3 b l x)) (fun x => q (ix3 b (nbr V0 b l k) x))) c.val := by
  unfold radiiOf
  rw [radii_apply, picked_apply _ _ _ b l k _ (indices_apply V0 b l k), pairs_apply]

/-- The radial basis of the adjusted distance to a neighbour. -/
theorem near_apply (b : Fin 2) (l : Fin 2048) (k : Fin 30) (c : Fin 16) :
    radii (Host.negf (F := Ideal) (φ := .f32) (s := S2x2048x30) (Host.topK S2x2048x30 2 (FloatOps.cmpfTotal (F := Ideal) (φ := .f32) .gt) (res_main_v23 (F := Ideal) V0 : FVec Ideal S2x2048x2048 .f32) sliceFits_S2x2048x2048_S2x2048x30).1) (ix4 b l k c)
      = Spec.radial (away V0 b l (nbr V0 b l k)) c.val := by
  rw [radii_apply]
  exact congrArg (fun d => Spec.radial d c.val) ((congrArg (fun d : EReal => -d) (values_apply V0 b l k)).trans (neg_neg _))

/-- The relative position of the neighbours: the offset of the residue numbers. -/
def offsets : IVec S2x2048x2048 32 :=
  subi (broadcastInDim S2x2048x2048 ![0, 1, 2] bcast_S2x2048x1_S2x2048x2048_0_1_2 (broadcastInDim S2x2048x1 ![0, 1] bcast_S2x2048_S2x2048x1_0_1 (aR V0))) (broadcastInDim S2x2048x2048 ![0, 1, 2] bcast_S2x1x2048_S2x2048x2048_0_1_2 (broadcastInDim S2x1x2048 ![0, 2] bcast_S2x2048_S2x1x2048_0_2 (aR V0)))
/-- Whether two residues share a chain. -/
def chains : IVec S2x2048x2048 32 :=
  extui 32 (cmpi .eq (subi (broadcastInDim S2x2048x2048 ![0, 1, 2] bcast_S2x2048x1_S2x2048x2048_0_1_2 (broadcastInDim S2x2048x1 ![0, 1] bcast_S2x2048_S2x2048x1_0_1 (aC V0))) (broadcastInDim S2x2048x2048 ![0, 1, 2] bcast_S2x1x2048_S2x2048x2048_0_1_2 (broadcastInDim S2x1x2048 ![0, 2] bcast_S2x2048_S2x1x2048_0_2 (aC V0)))) (broadcastInDim S2x2048x2048 ![] bcast_S_S2x2048x2048 (constantI S_ 32 0#32))) natLt_1_32
/-- What a gather outside would give. -/
def fillI : IVec S2x2048x30x1 32 := broadcastInDim S2x2048x30x1 ![] bcast_S_S2x2048x30x1 (constantI S_ 32 2147483648#32)
/-- Whether a neighbour is of the same chain. -/
def same : IVec S2x2048x30 32 := picked (res_main_indices V0) (chains V0) fillI
/-- The class of the neighbours' offset. -/
def classes : IVec S2x2048x30 32 :=
  addi (muli (minsi (broadcastInDim S2x2048x30 ![] bcast_S_S2x2048x30 (id (constantI S_ 32 64#32))) (maxsi (broadcastInDim S2x2048x30 ![] bcast_S_S2x2048x30 (id (constantI S_ 32 0#32))) (addi (picked (res_main_indices V0) (offsets V0) fillI) (broadcastInDim S2x2048x30 ![] bcast_S_S2x2048x30 (constantI S_ 32 32#32))))) (same V0)) (muli (subi (broadcastInDim S2x2048x30 ![] bcast_S_S2x2048x30 (constantI S_ 32 1#32)) (same V0)) (broadcastInDim S2x2048x30 ![] bcast_S_S2x2048x30 (constantI S_ 32 65#32)))

/-- The class from the words, read as a number. -/
theorem classes_word (i j ic jc e : BitVec 32) (hi : i.toNat < 2048) (hj : j.toNat < 2048)
    (he : e = if ic = jc then 1#32 else 0#32) :
    IntOp.addi (IntOp.muli (IntOp.minsi 64#32 (IntOp.maxsi 0#32 (IntOp.addi (IntOp.subi i j) 32#32))) e)
      (IntOp.muli (IntOp.subi 1#32 e) 65#32) = BitVec.ofNat 32 (Spec.bucket i ic j jc) := by
  subst he
  unfold Spec.bucket
  by_cases h : ic = jc
  · rw [if_pos h, if_pos h]
    have e1 : (i - j + 32#32).toInt = (i.toNat : ℤ) - j.toNat + 32 := by
      rw [BitVec.toInt_eq_toNat_cond, BitVec.toNat_add, BitVec.toNat_sub]
      simp only [BitVec.toNat_ofNat]
      split_ifs <;> omega
    have e0 : (0#32 : BitVec 32).toInt = 0 := rfl
    have e64 : (64#32 : BitVec 32).toInt = 64 := rfl
    have e2 : IntOp.minsi 64#32 (IntOp.maxsi 0#32 (i - j + 32#32)) = BitVec.ofNat 32 (min 64 (i.toNat + 32 - j.toNat)) := by
      apply BitVec.eq_of_toInt_eq
      rw [show (BitVec.ofNat 32 (min 64 (i.toNat + 32 - j.toNat))).toInt = (min 64 (i.toNat + 32 - j.toNat) : ℕ) from by
        rw [BitVec.toInt_eq_toNat_cond, BitVec.toNat_ofNat]; split_ifs <;> omega]
      simp only [IntOp.minsi, IntOp.maxsi, BitVec.slt_eq_decide, decide_eq_true_eq, e1, e0, e64]
      by_cases g : (i.toNat : ℤ) - j.toNat + 32 < 0
      · simp only [if_pos g, e0]
        rw [if_neg (by norm_num), e0]
        omega
      · simp only [if_neg g, e1]
        split_ifs
        · rw [e64]; omega
        · rw [e1]; omega
    have e3 : IntOp.addi (IntOp.subi i j) 32#32 = i - j + 32#32 := rfl
    rw [e3, e2]
    simp [IntOp.addi, IntOp.muli, IntOp.subi]
  · rw [if_neg h, if_neg h]
    simp [IntOp.addi, IntOp.muli, IntOp.subi]

/-- The class of a neighbour. -/
theorem classes_apply (b : Fin 2) (l : Fin 2048) (k : Fin 30) (hR : ∀ l, (aR V0 (ix2 b l)).toNat < 2048) :
    classes V0 (ix3 b l k) = BitVec.ofNat 32 (Spec.bucket (aR V0 (ix2 b l)) (aC V0 (ix2 b l)) (aR V0 (ix2 b (nbr V0 b l k))) (aC V0 (ix2 b (nbr V0 b l k)))) := by
  have h1 := picked_apply (res_main_indices V0) (offsets V0) fillI b l k _ (indices_apply V0 b l k)
  have h2 := picked_apply (res_main_indices V0) (chains V0) fillI b l k _ (indices_apply V0 b l k)
  pointwise [classes, same]
  rw [h1, h2]
  pointwise [offsets, chains]
  refine classes_word _ _ _ _ _ (hR _) (hR _) ?_
  generalize aC V0 (ix2 b l) = x
  generalize aC V0 (ix2 b (nbr V0 b l k)) = y
  by_cases h : x = y
  · simp [h, IntOp.cmpi, IntOp.subi]
  · have : x - y ≠ 0#32 := fun e => h (by
      have := congrArg (· + y) e
      simpa [BitVec.sub_add_cancel] using this)
    have e : (x - y == 0#32) = false := by simpa using this
    simp [h, IntOp.cmpi, IntOp.subi, e]

/-- The weights of the positional encoding. -/
abbrev aW : FVec Ideal S66x16 .f32 := V0 (Proc.devRef .tc main_arg4)
/-- The bias of the positional encoding. -/
abbrev aB : FVec Ideal S16 .f32 := V0 (Proc.devRef .tc main_arg5)

/-- The encoding of the classes. -/
def encoded : FVec Ideal S2x2048x30x16 .f32 :=
  addf (Host.dotGeneral dot_S2x2048x30x66_S66x16_S2x2048x30x16_3_0_012_1_n_n none (uitofp .f32 (cmpi .eq (broadcastInDim S2x2048x30x66 ![0, 1, 2, 3] bcast_S2x2048x30x1_S2x2048x30x66_0_1_2_3 (broadcastInDim S2x2048x30x1 ![0, 1, 2] bcast_S2x2048x30_S2x2048x30x1_0_1_2 (classes V0))) (broadcastInDim S2x2048x30x66 ![0, 1, 2, 3] bcast_S1x1x1x66_S2x2048x30x66_0_1_2_3 (iotaInDim S1x1x1x66 32 3)))) (aW V0)) (broadcastInDim S2x2048x30x16 ![0, 1, 2, 3] bcast_S1x1x1x16_S2x2048x30x16_0_1_2_3 (broadcastInDim S1x1x1x16 ![3] bcast_S16_S1x1x1x16_3 (aB V0)))

/-- The encoding of a class is its row of the weights, with the bias. -/
theorem encoded_apply (b : Fin 2) (l : Fin 2048) (k : Fin 30) (c : Fin 16) (n : Fin 66) (h : classes V0 (ix3 b l k) = BitVec.ofNat 32 n.val) :
    encoded V0 (ix4 b l k c) = aW V0 (ix2 n c) + aB V0 (ix1 c) := by
  pointwise [encoded]
  rw [h]
  congr 1
  refine Spec.sum_indicator (by decide) n (fun x => aW V0 (ix2 x c)) _ fun x => ?_
  show (((BitVec.ofBool (BitVec.ofNat 32 n.val == BitVec.ofNat 32 x.val)).toNat : ℝ) : EReal) = _
  by_cases e : BitVec.ofNat 32 n.val = BitVec.ofNat 32 x.val
  · rw [if_pos e.symm]; simp [e]
  · rw [if_neg (fun h => e h.symm)]; simp [beq_eq_false_iff_ne.mpr e]
end Cert.ReferenceIdeal.Value
end
-- ==== Proof.Turns.lean ====
module

public import proofs.«01_k».proof.Proof.Neighbours

@[expose] public section
set_option maxRecDepth 16384
noncomputable section
namespace Cert.ReferenceIdeal.Value
open Idealize.ShloMosaic Idealize.SL.Sem Cert.ReferenceIdeal Cert.ReferenceIdeal.Gen Idealize.ShloMosaic.StableHlo
variable (V0 : Valuation τ sig (Elt Ideal))

/-- The frames. -/
abbrev aO : FVec Ideal S2x2048x9 .f32 := res_main_v119 V0
/-- A residue's frame. -/
def frameOf (b : Fin 2) (l : Fin 2048) (a x : Fin 3) : EReal := aO V0 (ix3 b l ⟨3 * a.val + x.val, by omega⟩)

/-- The steps to the neighbours. -/
def steps : FVec Ideal S2x2048x30x3 .f32 :=
  subf (rows3 (res_main_indices V0) (aX V0) (broadcastInDim S2x61440x3 ![] bcast_S_S2x61440x3 (constant S_ .f32 0x7FC00000#32))) (broadcastInDim S2x2048x30x3 ![0, 1, 2, 3] bcast_S2x2048x1x3_S2x2048x30x3_0_1_2_3 (broadcastInDim S2x2048x1x3 ![0, 1, 3] bcast_S2x2048x3_S2x2048x1x3_0_1_3 (aX V0)))
/-- The step to a neighbour. -/
theorem steps_apply (b : Fin 2) (l : Fin 2048) (k : Fin 30) (x : Fin 3) :
    steps V0 (ix4 b l k x) = aX V0 (ix3 b (nbr V0 b l k) x) - aX V0 (ix3 b l x) := by
  have h1 := rows3_apply (res_main_indices V0) (aX V0) (broadcastInDim S2x61440x3 ![] bcast_S_S2x61440x3 (constant (F := Ideal) S_ .f32 0x7FC00000#32)) b l k x _ (indices_apply V0 b l k)
  pointwise [steps]
  rw [h1]
/-- The frames as squares. -/
theorem square_apply (b : Fin 2) (l : Fin 2048) (a x : Fin 3) : res_main_v130 V0 (ix4 b l a x) = frameOf V0 b l a x := by
  show shapeCast S2x2048x3x3 (aO V0) shapeCasts_S2x2048x9_S2x2048x3x3 (ix4 b l a x) = _
  exact shapeCast_apply _ _ _ (ix3 b l ⟨3 * a.val + x.val, by omega⟩) (by
    rw [Shape.rowMajor_val_three, Shape.rowMajor_val_four]
    show (b.val * 2048 + l.val) * 9 + (3 * a.val + x.val) = ((b.val * 2048 + l.val) * 3 + a.val) * 3 + x.val
    omega)

/-- The residue's own frame. -/
def mine : FVec Ideal S2x2048x3x3 .f32 := shapeCast _ (broadcastInDim S2x2048x1x3x3 ![0, 1, 3, 4] bcast_S2x2048x3x3_S2x2048x1x3x3_0_1_3_4 (res_main_v130 V0)) shapeCasts_S2x2048x1x3x3_S2x2048x3x3
/-- The residue's own frame at one index. -/
theorem mine_apply (b : Fin 2) (l : Fin 2048) (a x : Fin 3) : mine V0 (ix4 b l a x) = frameOf V0 b l a x := by
  rw [← square_apply]
  pointwise [mine]

/-- The axes times the step to a neighbour. -/
def dots : FVec Ideal S2x2048x3x30x1 .f32 := Host.dotGeneral dot_S2x2048x3x3_S2x2048x30x3x1_S2x2048x3x30x1_3_3_2_24_01_01 none (mine V0) (broadcastInDim S2x2048x30x3x1 ![0, 1, 2, 3] bcast_S2x2048x30x3_S2x2048x30x3x1_0_1_2_3 (steps V0))

/-- The direction to a neighbour in the frame. -/
theorem dir_apply (b : Fin 2) (l : Fin 2048) (k : Fin 30) (a : Fin 3) :
    res_main_v140 V0 (ix4 b l k a) = Spec.dir (frameOf V0 b l) (fun x => aX V0 (ix3 b (nbr V0 b l k) x) - aX V0 (ix3 b l x)) a := by
  have h : res_main_v140 V0 = shapeCast _ (transpose S2x2048x30x3x1 [0, 1, 3, 2, 4] (dots V0) transposes_S2x2048x3x30x1_S2x2048x30x3x1_0_1_3_2_4) shapeCasts_S2x2048x30x3x1_S2x2048x30x3 := rfl
  rw [h]
  unfold Spec.dir
  simp only [← mine_apply, ← steps_apply]
  pointwise [dots]

/-- The neighbour's frame. -/
def other : FVec Ideal S2x2048x30x3x3 .f32 :=
  shapeCast _ (rows9 (res_main_indices V0) (aO V0) (broadcastInDim S2x61440x9 ![] bcast_S_S2x61440x9 (constant S_ .f32 0x7FC00000#32))) shapeCasts_S2x2048x30x9_S2x2048x30x3x3
/-- The neighbour's frame at one index. -/
theorem other_apply (b : Fin 2) (l : Fin 2048) (k : Fin 30) (a x : Fin 3) : other V0 (ix5 b l k a x) = frameOf V0 b (nbr V0 b l k) a x := by
  refine (shapeCast_apply _ _ _ (ix4 b l k ⟨3 * a.val + x.val, by omega⟩) ?_).trans (rows9_apply _ _ _ b l k _ _ (indices_apply V0 b l k))
  rw [Shape.rowMajor_val_four, Shape.rowMajor_val_five]
  show ((b.val * 2048 + l.val) * 30 + k.val) * 9 + (3 * a.val + x.val) = (((b.val * 2048 + l.val) * 30 + k.val) * 3 + a.val) * 3 + x.val
  omega
/-- The residue's own frame, transposed. -/
def turned : FVec Ideal S2x2048x3x3 .f32 := shapeCast _ (transpose S2x2048x1x3x3 [0, 1, 2, 4, 3] (broadcastInDim S2x2048x1x3x3 ![0, 1, 3, 4] bcast_S2x2048x3x3_S2x2048x1x3x3_0_1_3_4 (res_main_v130 V0)) transposes_S2x2048x1x3x3_S2x2048x1x3x3_0_1_2_4_3) shapeCasts_S2x2048x1x3x3_S2x2048x3x3
/-- The transposed frame at one index. -/
theorem turned_apply (b : Fin 2) (l : Fin 2048) (a x : Fin 3) : turned V0 (ix4 b l a x) = frameOf V0 b l x a := by
  rw [← square_apply]
  pointwise [turned]

/-- The rotation to a neighbour's frame. -/
abbrev rotOf (b : Fin 2) (l : Fin 2048) (k : Fin 30) : Fin 3 → Fin 3 → EReal := Spec.rot (frameOf V0 b l) (frameOf V0 b (nbr V0 b l k))
/-- The products of the transposed frame with the neighbours' frames. -/
def prods : FVec Ideal S2x2048x3x30x3 .f32 := Host.dotGeneral dot_S2x2048x3x3_S2x2048x30x3x3_S2x2048x3x30x3_3_3_2_24_01_01 none (turned V0) (other V0)
/-- The reference's rotation at one index. -/
theorem rotOf_apply (b : Fin 2) (l : Fin 2048) (k : Fin 30) (x y : Fin 3) : res_main_v150 V0 (ix5 b l k x y) = rotOf V0 b l k x y := by
  have h : res_main_v150 V0 = transpose S2x2048x30x3x3 [0, 1, 3, 2, 4] (prods V0) transposes_S2x2048x3x30x3_S2x2048x30x3x3_0_1_3_2_4 := rfl
  rw [h]
  unfold rotOf Spec.rot
  pointwise [prods]
  simp only [turned_apply, other_apply]

/-- The sign of a number, by cases. -/
theorem sign_sgn (x : EReal) : Ideal.sign x = Spec.sgn x := by
  unfold Spec.sgn
  induction x with
  | bot => exact (if_pos (by simp)).symm
  | top => exact ((if_neg (by simp)).trans (if_pos (by simp))).symm
  | coe r =>
    show ((SignType.sign r : ℝ) : EReal) = _
    rcases lt_trichotomy r 0 with h | h | h
    · rw [if_pos (by exact_mod_cast h), sign_neg h]; simp
    · subst h; simp
    · rw [if_neg (by exact_mod_cast h.not_gt), if_pos (by exact_mod_cast h), sign_pos h]; simp

/-- The places of the diagonal. -/
theorem diag_apply (b : Fin 2) (l : Fin 2048) (k : Fin 30) (c : Fin 3) : res_main_v151 V0 (ix4 b l k c) = rotOf V0 b l k c c := by
  refine (gather_diag (res_main_v150 V0) _ b l k c ?_).trans (rotOf_apply V0 b l k c c)
  intro a
  fin_cases c <;> fin_cases a <;> rfl
/-- The rotation's first diagonal entry. -/
theorem diag0 (b : Fin 2) (l : Fin 2048) (k : Fin 30) : res_main_v153 V0 (ix3 b l k) = rotOf V0 b l k 0 0 := by
  rw [← diag_apply]
  pointwise [res_main_v153]
/-- The rotation's second diagonal entry. -/
theorem diag1 (b : Fin 2) (l : Fin 2048) (k : Fin 30) : res_main_v155 V0 (ix3 b l k) = rotOf V0 b l k 1 1 := by
  rw [← diag_apply]
  pointwise [res_main_v155]
/-- The rotation's third diagonal entry. -/
theorem diag2 (b : Fin 2) (l : Fin 2048) (k : Fin 30) : res_main_v157 V0 (ix3 b l k) = rotOf V0 b l k 2 2 := by
  rw [← diag_apply]
  pointwise [res_main_v157]

/-- The quaternion of the relative rotation. -/
theorem quat_apply (b : Fin 2) (l : Fin 2048) (k : Fin 30) (q : Fin 4) : res_main_v209 V0 (ix4 b l k q) = Spec.quat (rotOf V0 b l k) q := by
  fin_cases q
  all_goals pointwise [res_main_v209]
  on_goal 4 => simp only [diag_apply]
  all_goals try simp only [sign_sgn, rotOf_apply, diag0, diag1, diag2]
  all_goals rfl

/-- The direction's coordinates over its length. -/
def dirs : FVec Ideal S2x2048x30x3 .f32 := Host.divf (res_main_v140 V0) (broadcastInDim S2x2048x30x3 ![0, 1, 2, 3] bcast_S2x2048x30x1_S2x2048x30x3_0_1_2_3 (maximumf (Host.sqrt (broadcastInDim S2x2048x30x1 ![0, 1, 2] bcast_S2x2048x30_S2x2048x30x1_0_1_2 (Host.reduceAdd (mulf (res_main_v140 V0) (res_main_v140 V0)) (constant S_ .f32 0x00000000#32) reducesTo_S2x2048x30x3_S2x2048x30_d3 h_S_))) (broadcastInDim S2x2048x30x1 ![] bcast_S_S2x2048x30x1 (constant S_ .f32 0x2B8CBCCC#32))))
/-- The unit direction to a neighbour. -/
theorem dirs_apply (b : Fin 2) (l : Fin 2048) (k : Fin 30) (a : Fin 3) :
    dirs V0 (ix4 b l k a) = Ideal.div (Spec.dir (frameOf V0 b l) (fun x => aX V0 (ix3 b (nbr V0 b l k) x) - aX V0 (ix3 b l x)) a)
      (Spec.dirLen (frameOf V0 b l) (fun x => aX V0 (ix3 b (nbr V0 b l k) x) - aX V0 (ix3 b l x))) := by
  pointwise [dirs]
  simp only [dir_apply]
  rfl
/-- The quaternion over its length. -/
def quats : FVec Ideal S2x2048x30x4 .f32 := Host.divf (res_main_v209 V0) (broadcastInDim S2x2048x30x4 ![0, 1, 2, 3] bcast_S2x2048x30x1_S2x2048x30x4_0_1_2_3 (maximumf (Host.sqrt (broadcastInDim S2x2048x30x1 ![0, 1, 2] bcast_S2x2048x30_S2x2048x30x1_0_1_2 (Host.reduceAdd (mulf (res_main_v209 V0) (res_main_v209 V0)) (constant S_ .f32 0x00000000#32) reducesTo_S2x2048x30x4_S2x2048x30_d3 h_S_))) (broadcastInDim S2x2048x30x1 ![] bcast_S_S2x2048x30x1 (constant S_ .f32 0x2B8CBCCC#32))))
/-- The unit quaternion of a neighbour. -/
theorem quats_apply (b : Fin 2) (l : Fin 2048) (k : Fin 30) (q : Fin 4) :
    quats V0 (ix4 b l k q) = Ideal.div (Spec.quat (rotOf V0 b l k) q) (Spec.quatLen (rotOf V0 b l k)) := by
  pointwise [quats]
  simp only [quat_apply]
  rfl
end Cert.ReferenceIdeal.Value
end
-- ==== Proof.Features.lean ====
module

public import proofs.«01_k».proof.Proof.Radii
public import proofs.«01_k».proof.Proof.Turns

@[expose] public section
set_option maxRecDepth 16384
noncomputable section
namespace Cert.ReferenceIdeal.Value
open Idealize.ShloMosaic Idealize.SL.Sem Cert.ReferenceIdeal Cert.ReferenceIdeal.Gen Idealize.ShloMosaic.StableHlo
variable (V0 : Valuation τ sig (Elt Ideal))

/-- The points before. -/
abbrev aN : FVec Ideal S2x2048x3 .f32 := res_main_v28 V0
/-- The points after. -/
abbrev aP : FVec Ideal S2x2048x3 .f32 := res_main_v32 V0
section Ends
variable (x n p : FVec Ideal S2x2048x3 .f32) (o : FVec Ideal S2x2048x9 .f32) (ri ch : IVec S2x2048 32) (b : Fin 2) (l : Fin 2048)
/-- What an edge is computed from at the residue `l`. -/
def endAt : Spec.End where
  here a := x (ix3 b l a)
  before a := n (ix3 b l a)
  after a := p (ix3 b l a)
  frame a e := o (ix3 b l ⟨3 * a.val + e.val, by omega⟩)
  resid := ri (ix2 b l)
  chain := ch (ix2 b l)
/-- The end's own point. -/
theorem endAt_here : (endAt x n p o ri ch b l).here = fun a => x (ix3 b l a) := rfl
/-- The end's point before. -/
theorem endAt_before : (endAt x n p o ri ch b l).before = fun a => n (ix3 b l a) := rfl
/-- The end's point after. -/
theorem endAt_after : (endAt x n p o ri ch b l).after = fun a => p (ix3 b l a) := rfl
/-- The end's frame. -/
theorem endAt_frame : (endAt x n p o ri ch b l).frame = fun a e => o (ix3 b l ⟨3 * a.val + e.val, by omega⟩) := rfl
/-- The end's residue number. -/
theorem endAt_resid : (endAt x n p o ri ch b l).resid = ri (ix2 b l) := rfl
/-- The end's chain label. -/
theorem endAt_chain : (endAt x n p o ri ch b l).chain = ch (ix2 b l) := rfl
end Ends
/-- What the reference computes an edge from at the residue `l`. -/
abbrev endOf (b : Fin 2) (l : Fin 2048) : Spec.End := endAt (aX V0) (aN V0) (aP V0) (aO V0) (aR V0) (aC V0) b l

section Cat
variable {α : Type} {N : ℕ} (xs : List (Σ s : Shape, s.Idx → α)) (h : Shape.Concatenates (xs.map (·.1)) ⟨4, ![2, 2048, 30, N]⟩ 3)
  (b : Fin 2) (l : Fin 2048) (k : Fin 30) (c : Fin N) (i : ℕ) (hi : i < xs.length) (pre : ℕ)
  (hpre : (((xs.take i).map (·.1)).map fun s => if h : s.rank = (⟨4, ![2, 2048, 30, N]⟩ : Shape).rank then s.size ((3 : Fin 4).cast h.symm) else 0).sum = pre)
include hpre
/-- A joined array reads the piece its last index falls into. -/
theorem cat (w : ℕ) (x : (⟨4, ![2, 2048, 30, w]⟩ : Shape).Idx → α) (hx : xs[i] = ⟨⟨4, ![2, 2048, 30, w]⟩, x⟩) (q : Fin w) (hq : pre + q.val = c.val) :
    concatenate ⟨4, ![2, 2048, 30, N]⟩ 3 xs h (ix4 b l k c) = x (ix4 b l k q) := by
  refine concatenate_apply_piece 3 xs h (ix4 b l k c) i hi _ x hx rfl pre hpre (ix4 b l k q) (fun a ha => ?_) hq
  fin_cases a
  · rfl
  · rfl
  · rfl
  · exact absurd rfl ha
end Cat

/-- The radial functions of the neighbours' own distances. -/
def nearRadii : FVec Ideal S2x2048x30x16 .f32 :=
  radii (Host.negf (F := Ideal) (φ := .f32) (s := S2x2048x30) (Host.topK S2x2048x30 2 (FloatOps.cmpfTotal (F := Ideal) (φ := .f32) .gt) (res_main_v23 (F := Ideal) V0 : FVec Ideal S2x2048x2048 .f32) sliceFits_S2x2048x2048_S2x2048x30).1)
/-- The nine groups of radial functions. -/
def bells : FVec Ideal S2x2048x30x144 .f32 :=
  concatenate S2x2048x30x144 3 [⟨S2x2048x30x16, nearRadii V0⟩, ⟨S2x2048x30x16, radiiOf V0 (aN V0) (aN V0)⟩, ⟨S2x2048x30x16, radiiOf V0 (aP V0) (aP V0)⟩, ⟨S2x2048x30x16, radiiOf V0 (aN V0) (aX V0)⟩,
    ⟨S2x2048x30x16, radiiOf V0 (aN V0) (aP V0)⟩, ⟨S2x2048x30x16, radiiOf V0 (aX V0) (aN V0)⟩, ⟨S2x2048x30x16, radiiOf V0 (aX V0) (aP V0)⟩, ⟨S2x2048x30x16, radiiOf V0 (aP V0) (aN V0)⟩,
    ⟨S2x2048x30x16, radiiOf V0 (aP V0) (aX V0)⟩] concatenates_S2x2048x30x16_S2x2048x30x16_S2x2048x30x16_S2x2048x30x16_S2x2048x30x16_S2x2048x30x16_S2x2048x30x16_S2x2048x30x16_S2x2048x30x16_S2x2048x30x144_d3
/-- The direction and the quaternion. -/
def turns : FVec Ideal S2x2048x30x7 .f32 :=
  concatenate S2x2048x30x7 3 [⟨S2x2048x30x3, dirs V0⟩, ⟨S2x2048x30x4, quats V0⟩] concatenates_S2x2048x30x3_S2x2048x30x4_S2x2048x30x7_d3
/-- All features. -/
def feats : FVec Ideal S2x2048x30x167 .f32 :=
  concatenate S2x2048x30x167 3 [⟨S2x2048x30x16, encoded V0⟩, ⟨S2x2048x30x144, bells V0⟩, ⟨S2x2048x30x7, turns V0⟩] concatenates_S2x2048x30x16_S2x2048x30x144_S2x2048x30x7_S2x2048x30x167_d3

/-! The parts of the reference's features, under their names here. -/
theorem v223_eq : Host.exp (Host.negf (mulf (res_main_v223 V0) (res_main_v223 V0))) = nearRadii V0 := rfl
/-- The second radial part: the point before to the neighbour's point before. -/
theorem v248_eq : Host.exp (Host.negf (mulf (res_main_v248 V0) (res_main_v248 V0))) = radiiOf V0 (aN V0) (aN V0) := rfl
/-- The third radial part: the point after to the neighbour's point after. -/
theorem v273_eq : Host.exp (Host.negf (mulf (res_main_v273 V0) (res_main_v273 V0))) = radiiOf V0 (aP V0) (aP V0) := rfl
/-- The fourth radial part: the point before to the neighbour's own point. -/
theorem v298_eq : Host.exp (Host.negf (mulf (res_main_v298 V0) (res_main_v298 V0))) = radiiOf V0 (aN V0) (aX V0) := rfl
/-- The fifth radial part: the point before to the neighbour's point after. -/
theorem v323_eq : Host.exp (Host.negf (mulf (res_main_v323 V0) (res_main_v323 V0))) = radiiOf V0 (aN V0) (aP V0) := rfl
/-- The sixth radial part: the own point to the neighbour's point before. -/
theorem v348_eq : Host.exp (Host.negf (mulf (res_main_v348 V0) (res_main_v348 V0))) = radiiOf V0 (aX V0) (aN V0) := rfl
/-- The seventh radial part: the own point to the neighbour's point after. -/
theorem v373_eq : Host.exp (Host.negf (mulf (res_main_v373 V0) (res_main_v373 V0))) = radiiOf V0 (aX V0) (aP V0) := rfl
/-- The eighth radial part: the point after to the neighbour's point before. -/
theorem v398_eq : Host.exp (Host.negf (mulf (res_main_v398 V0) (res_main_v398 V0))) = radiiOf V0 (aP V0) (aN V0) := rfl
/-- The ninth radial part: the point after to the neighbour's own point. -/
theorem v423_eq : Host.exp (Host.negf (mulf (res_main_v423 V0) (res_main_v423 V0))) = radiiOf V0 (aP V0) (aX V0) := rfl
/-- Whether the chains agree, as the reference names it. -/
theorem same_eq : res_main_v448 V0 = same V0 := rfl
/-- The reference's features are the parts, joined. -/
theorem feats_eq : res_main_v463 V0 = feats V0 := by
  unfold res_main_v463
  rw [v223_eq, v248_eq, v273_eq, v298_eq, v323_eq, v348_eq, v373_eq, v398_eq, v423_eq, same_eq]
  rfl

/-- The features from 16 to 159 are the radial parts. -/
theorem bells_at (b : Fin 2) (l : Fin 2048) (k : Fin 30) (c : Fin 167) (h1 : 16 ≤ c.val) (h2 : c.val < 160) :
    feats V0 (ix4 b l k c) = bells V0 (ix4 b l k ⟨c.val - 16, by omega⟩) :=
  cat _ _ b l k c 1 (by simp) 16 rfl 144 _ rfl ⟨c.val - 16, by omega⟩ (Nat.add_sub_cancel' h1)

/-- A group of radial functions among the features. -/
theorem bell_at (b : Fin 2) (l : Fin 2048) (k : Fin 30) (c : Fin 167) (n pre : ℕ) (x : FVec Ideal S2x2048x30x16 .f32) (d : EReal)
    (hb : ∀ q : Fin 16, ∀ c' : Fin 144, pre + q.val = c'.val → bells V0 (ix4 b l k c') = x (ix4 b l k q)) (hn : n = pre + 16) (h1 : n ≤ c.val) (h2 : c.val < n + 16) (h3 : n ≤ 144)
    (hx : ∀ q : Fin 16, x (ix4 b l k q) = Spec.radial d q.val) : feats V0 (ix4 b l k c) = Spec.radial d (c - n) := by
  rw [bells_at V0 b l k c (by omega) (by omega), hb ⟨c.val - n, by omega⟩ _ (by show pre + (c.val - n) = c.val - 16; omega), hx]

/-- A group of radial functions between two kinds of points among the features. -/
theorem pair_at (b : Fin 2) (l : Fin 2048) (k : Fin 30) (c : Fin 167) (n pre : ℕ) (p q : FVec Ideal S2x2048x3 .f32)
    (hb : ∀ i : Fin 16, ∀ c' : Fin 144, pre + i.val = c'.val → bells V0 (ix4 b l k c') = radiiOf V0 p q (ix4 b l k i)) (hn : n = pre + 16) (h1 : n ≤ c.val) (h2 : c.val < n + 16) (h3 : n ≤ 144) :
    feats V0 (ix4 b l k c) = Spec.radial (Spec.dist (fun x => p (ix3 b l x)) (fun x => q (ix3 b (nbr V0 b l k) x))) (c - n) :=
  bell_at V0 b l k c n pre _ _ hb hn h1 h2 h3 (radiiOf_apply V0 p q b l k)

set_option maxHeartbeats 2000000 in
/-- A feature of an edge is that of its two ends. -/
theorem feats_apply (b : Fin 2) (l : Fin 2048) (k : Fin 30) (c : Fin 167) (hR : ∀ l, (aR V0 (ix2 b l)).toNat < 2048) :
    feats V0 (ix4 b l k c) = Spec.feat (endOf V0 b l) (endOf V0 b (nbr V0 b l k)) (away V0 b l (nbr V0 b l k)) (fun a c => aW V0 (ix2 a c)) (fun c => aB V0 (ix1 c)) c := by
  unfold Spec.feat
  simp only [endAt_here, endAt_before, endAt_after, endAt_frame, endAt_resid, endAt_chain]
  by_cases g0 : c.val < 16
  · rw [dif_pos g0]
    exact (cat _ _ b l k c 0 (by simp) 0 rfl 16 _ rfl ⟨c.val, g0⟩ (Nat.zero_add _)).trans
      (encoded_apply V0 b l k ⟨c.val, g0⟩ ⟨_, Spec.bucket_lt _ _ _ _⟩ (classes_apply V0 b l k hR))
  rw [dif_neg g0]
  by_cases g1 : c.val < 32
  · rw [if_pos g1]
    exact bell_at V0 b l k c 16 0 _ _ (fun q c' h => cat _ _ b l k c' 0 (by simp) 0 rfl 16 _ rfl q h) rfl (by omega) g1 (by omega) (near_apply V0 b l k)
  rw [if_neg g1]
  by_cases g2 : c.val < 48
  · rw [if_pos g2]
    exact pair_at V0 b l k c 32 16 (aN V0) (aN V0) (fun q c' h => cat _ _ b l k c' 1 (by simp) 16 rfl 16 _ rfl q h) rfl (by omega) g2 (by omega)
  rw [if_neg g2]
  by_cases g3 : c.val < 64
  · rw [if_pos g3]
    exact pair_at V0 b l k c 48 32 (aP V0) (aP V0) (fun q c' h => cat _ _ b l k c' 2 (by simp) 32 rfl 16 _ rfl q h) rfl (by omega) g3 (by omega)
  rw [if_neg g3]
  by_cases g4 : c.val < 80
  · rw [if_pos g4]
    exact pair_at V0 b l k c 64 48 (aN V0) (aX V0) (fun q c' h => cat _ _ b l k c' 3 (by simp) 48 rfl 16 _ rfl q h) rfl (by omega) g4 (by omega)
  rw [if_neg g4]
  by_cases g5 : c.val < 96
  · rw [if_pos g5]
    exact pair_at V0 b l k c 80 64 (aN V0) (aP V0) (fun q c' h => cat _ _ b l k c' 4 (by simp) 64 rfl 16 _ rfl q h) rfl (by omega) g5 (by omega)
  rw [if_neg g5]
  by_cases g6 : c.val < 112
  · rw [if_pos g6]
    exact pair_at V0 b l k c 96 80 (aX V0) (aN V0) (fun q c' h => cat _ _ b l k c' 5 (by simp) 80 rfl 16 _ rfl q h) rfl (by omega) g6 (by omega)
  rw [if_neg g6]
  by_cases g7 : c.val < 128
  · rw [if_pos g7]
    exact pair_at V0 b l k c 112 96 (aX V0) (aP V0) (fun q c' h => cat _ _ b l k c' 6 (by simp) 96 rfl 16 _ rfl q h) rfl (by omega) g7 (by omega)
  rw [if_neg g7]
  by_cases g8 : c.val < 144
  · rw [if_pos g8]
    exact pair_at V0 b l k c 128 112 (aP V0) (aN V0) (fun q c' h => cat _ _ b l k c' 7 (by simp) 112 rfl 16 _ rfl q h) rfl (by omega) g8 (by omega)
  rw [if_neg g8]
  by_cases g9 : c.val < 160
  · rw [if_pos g9]
    exact pair_at V0 b l k c 144 128 (aP V0) (aX V0) (fun q c' h => cat _ _ b l k c' 8 (by simp) 128 rfl 16 _ rfl q h) rfl (by omega) g9 (by omega)
  rw [if_neg g9]
  have ht : feats V0 (ix4 b l k c) = turns V0 (ix4 b l k ⟨c.val - 160, by omega⟩) :=
    cat _ _ b l k c 2 (by simp) 160 rfl 7 _ rfl ⟨c.val - 160, by omega⟩ (Nat.add_sub_cancel' (by omega : 160 ≤ c.val))
  by_cases g10 : c.val < 163
  · rw [dif_pos g10, ht]
    have hd : turns V0 (ix4 b l k ⟨c.val - 160, by omega⟩) = dirs V0 (ix4 b l k ⟨c.val - 160, by omega⟩) :=
      cat _ _ b l k ⟨c.val - 160, by omega⟩ 0 (by simp) 0 rfl 3 _ rfl ⟨c.val - 160, by omega⟩ (Nat.zero_add _)
    exact hd.trans (dirs_apply V0 b l k _)
  rw [dif_neg g10, ht]
  have hq : turns V0 (ix4 b l k ⟨c.val - 160, by omega⟩) = quats V0 (ix4 b l k ⟨c.val - 163, by omega⟩) :=
    cat _ _ b l k ⟨c.val - 160, by omega⟩ 1 (by simp) 3 rfl 4 _ rfl ⟨c.val - 163, by omega⟩ (by show 3 + (c.val - 163) = c.val - 160; omega)
  exact hq.trans (quats_apply V0 b l k _)

/-- The reference's result, before it is laid out. -/
def scaledEdges : FVec Ideal S2x2048x30x128 .f32 :=
  addf (mulf (Host.divf (subf (res_main_v464 V0) (broadcastInDim S2x2048x30x128 ![0, 1, 2, 3] bcast_S2x2048x30x1_S2x2048x30x128_0_1_2_3 (res_main_v468 V0))) (broadcastInDim S2x2048x30x128 ![0, 1, 2, 3] bcast_S2x2048x30x1_S2x2048x30x128_0_1_2_3 (Host.sqrt (addf (Host.divf (broadcastInDim S2x2048x30x1 ![0, 1, 2] bcast_S2x2048x30_S2x2048x30x1_0_1_2 (Host.reduceAdd (mulf (res_main_v470 V0) (res_main_v470 V0)) (constant S_ .f32 0x00000000#32) reducesTo_S2x2048x30x128_S2x2048x30_d3 h_S_)) (broadcastInDim S2x2048x30x1 ![] bcast_S_S2x2048x30x1 (constant S_ .f32 0x43000000#32))) (broadcastInDim S2x2048x30x1 ![] bcast_S_S2x2048x30x1 (constant S_ .f32 0x3727C5AC#32)))))) (broadcastInDim S2x2048x30x128 ![0, 1, 2, 3] bcast_S1x1x1x128_S2x2048x30x128_0_1_2_3 (broadcastInDim S1x1x1x128 ![3] bcast_S128_S1x1x1x128_3 (V0 (Proc.devRef .tc main_arg7))))) (broadcastInDim S2x2048x30x128 ![0, 1, 2, 3] bcast_S1x1x1x128_S2x2048x30x128_0_1_2_3 (broadcastInDim S1x1x1x128 ![3] bcast_S128_S1x1x1x128_3 (V0 (Proc.devRef .tc main_arg8))))

/-- The edge weights. -/
abbrev aE : FVec Ideal S167x128 .f32 := V0 (Proc.devRef .tc main_arg6)
/-- The normalisation's scale. -/
abbrev aG : FVec Ideal S128 .f32 := V0 (Proc.devRef .tc main_arg7)
/-- The normalisation's shift. -/
abbrev aH : FVec Ideal S128 .f32 := V0 (Proc.devRef .tc main_arg8)

/-- The edge of a neighbour, as the reference computes it. -/
def edgeOf (b : Fin 2) (l : Fin 2048) (k : Fin 30) (o : Fin 128) : EReal :=
  Spec.edge (Spec.feat (endOf V0 b l) (endOf V0 b (nbr V0 b l k)) (away V0 b l (nbr V0 b l k)) (fun a c => aW V0 (ix2 a c)) (fun c => aB V0 (ix1 c)))
    (fun c o => aE V0 (ix2 c o)) (fun o => aG V0 (ix1 o)) (fun o => aH V0 (ix1 o)) o

/-- The product with the edge weights at one index. -/
theorem product_apply (b : Fin 2) (l : Fin 2048) (k : Fin 30) (o : Fin 128) :
    res_main_v464 V0 (ix4 b l k o) = ∑ c, feats V0 (ix4 b l k c) * aE V0 (ix2 c o) := by
  have h : res_main_v464 V0 = Host.dotGeneral (F := Ideal) (φ₁ := .f32) (φ₂ := .f32) dot_S2x2048x30x167_S167x128_S2x2048x30x128_3_0_012_1_n_n none (feats V0) (aE V0) := by
    rw [← feats_eq]; rfl
  rw [h]
  pointwise []

/-- The normalised edges at one index. -/
theorem scaledEdges_apply (b : Fin 2) (l : Fin 2048) (k : Fin 30) (o : Fin 128) (hR : ∀ l, (aR V0 (ix2 b l)).toNat < 2048) :
    scaledEdges V0 (ix4 b l k o) = edgeOf V0 b l k o := by
  unfold edgeOf Spec.edge
  simp only [← feats_apply V0 b l k _ hR, ← product_apply]
  pointwise [scaledEdges, res_main_v470, res_main_v468]
  rfl

/-- The laid-out result. -/
theorem result_apply (b : Fin 2) (l : Fin 2048) (k : Fin 30) (o : Fin 128) (hR : ∀ l, (aR V0 (ix2 b l)).toNat < 2048) :
    shapeCast S2x2048x3840 (scaledEdges V0) shapeCasts_S2x2048x30x128_S2x2048x3840 (ix3 b l ⟨128 * k + o, by omega⟩) = edgeOf V0 b l k o := by
  refine (shapeCast_apply _ _ _ (ix4 b l k o) ?_).trans (scaledEdges_apply V0 b l k o hR)
  rw [Shape.rowMajor_val_three, Shape.rowMajor_val_four]
  show ((b.val * 2048 + l.val) * 30 + k.val) * 128 + o.val = (b.val * 2048 + l.val) * 3840 + (128 * k.val + o.val)
  omega
end Cert.ReferenceIdeal.Value
end
-- ==== Proof.Edge.lean ====
module

public import proofs.«01_k».proof.Proof.Gen.KernelIdeal.Skeleton

@[expose] public section

noncomputable section

namespace Cert.KernelIdeal.Edge

open Idealize.ShloMosaic Idealize.SL.Sem Cert.KernelIdeal Cert.KernelIdeal.Gen

variable {F : FTy → Type} [FloatOps F] [Named F]

/-- The column numbers of a 128 by 2048 tile. -/
def cols : IVec S128x2048 32 := iota .tc S128x2048 32 [1] iota_S128x2048_d1_w32

/-- The least value of each row. -/
def rowMin (d : FVec F S128x2048 .f32) : FVec F S128x1 .f32 :=
  shapeCast S128x1 (multiReduction .minimumf [1] S128 d 0x7F800000#32 reduces_S128x2048_S128 (.inl rfl) rfl) shapeCasts_S128_S128x1

/-- The first column of each row that holds the row's least value. -/
def rowArg (d : FVec F S128x2048 .f32) : IVec S128x1 32 :=
  shapeCast S128x1 (multiReductionI .minsi [1] S128
    (select (cmpf .oeq d (broadcastTo S128x2048 (rowMin d) broadcasts_S128x1_S128x2048)) cols (broadcast S128x2048 2048#32))
    2147483647#32 reduces_S128x2048_S128 rfl) shapeCasts_S128_S128x1

/-- The tile after a round: the column taken in each row is filled with the large constant. -/
def drop (d : FVec F S128x2048 .f32) : FVec F S128x2048 .f32 :=
  select (cmpi .eq cols (broadcastTo S128x2048 (rowArg d) broadcasts_S128x1_S128x2048))
    (broadcast S128x2048 (Named.named κ "taken" 0x7149F2CA#32)) d

/-- The tile after `k` rounds. -/
def rounds (d : FVec F S128x2048 .f32) : ℕ → FVec F S128x2048 .f32
  | 0 => d
  | k + 1 => drop (rounds d k)

/-- The table's rows at the numbers taken, by a product with their indicators. -/
def pick (g : FVec F S2048x20 .f32) (ik : IVec S128x1 32) : FVec F S128x20 .f32 :=
  matmul dot_S128x2048_S2048x20_S128x20_1_0_0_1_n_n (some .fp32)
    (sitofp .f32 (extui 32 (cmpi .eq cols (broadcastTo S128x2048 ik broadcasts_S128x1_S128x2048)) natLt_1_32)) g
    (constant S128x20 .f32 0x00000000#32)

/-- The coordinates, the previous and the next coordinates, the frame, the residue number and the chain of a table. -/
def xyz0 (t : FVec F S128x20 .f32) : FVec F S128x3 .f32 := extractStridedSlice S128x3 ![0, 0] t slices_S128x20_o0_0_S128x3
/-- The columns of the point before. -/
def xyz1 (t : FVec F S128x20 .f32) : FVec F S128x3 .f32 := extractStridedSlice S128x3 ![0, 3] t slices_S128x20_o0_3_S128x3
/-- The columns of the point after. -/
def xyz2 (t : FVec F S128x20 .f32) : FVec F S128x3 .f32 := extractStridedSlice S128x3 ![0, 6] t slices_S128x20_o0_6_S128x3
/-- The nine columns of the frame. -/
def axes (t : FVec F S128x20 .f32) : FVec F S128x9 .f32 := extractStridedSlice S128x9 ![0, 9] t slices_S128x20_o0_9_S128x9
/-- The column of the residue number. -/
def resid (t : FVec F S128x20 .f32) : FVec F S128x1 .f32 := extractStridedSlice S128x1 ![0, 18] t slices_S128x20_o0_18_S128x1
/-- The column of the chain label. -/
def chain (t : FVec F S128x20 .f32) : FVec F S128x1 .f32 := extractStridedSlice S128x1 ![0, 19] t slices_S128x20_o0_19_S128x1

/-- The scalar spread over a column. -/
def col (b : BitVec 32) : FVec F S128x1 .f32 := broadcast S128x1 (Scalar.ofBits .f32 b)

/-- One where the chains agree, else zero. -/
def same (ci cj : FVec F S128x1 .f32) : FVec F S128x1 .f32 := sitofp .f32 (extui 32 (cmpf .oeq ci cj) natLt_1_32)

/-- The class of the residue offset: clipped where the chains agree, else the last one. -/
def bucket (ri ci rj cj : FVec F S128x1 .f32) : IVec S128x1 32 :=
  fptosi 32 (addf
    (mulf (minimumf (col 0x42800000#32) (maximumf (col 0x00000000#32) (addf (subf ri rj) (col 0x42000000#32)))) (same ci cj))
    (mulf (subf (col 0x3F800000#32) (same ci cj)) (col 0x42820000#32)))

/-- The embedding of the offset's class. -/
def position (ri ci : FVec F S128x1 .f32) (pew : Vec F S66x16 .f32) (peb : FVec F S1x16 .f32) (rj cj : FVec F S128x1 .f32) :
    FVec F S128x16 .f32 :=
  addf (matmul dot_S128x66_S66x16_S128x16_1_0_0_1_n_n (some .fp32)
      (sitofp .f32 (extui 32 (cmpi .eq (iota .tc S128x66 32 [1] iota_S128x66_d1_w32)
        (broadcastTo S128x66 (bucket ri ci rj cj) broadcasts_S128x1_S128x66)) natLt_1_32)) pew
      (constant S128x16 .f32 0x00000000#32))
    (broadcastTo S128x16 peb broadcasts_S1x16_S128x16)

/-- How far a distance is from each centre, in widths. -/
def scaled (d : FVec F S128x1 .f32) : FVec F S128x16 .f32 :=
  divf (subf (broadcastTo S128x16 d broadcasts_S128x1_S128x16)
      (broadcastTo S128x16 (addf (broadcast S1x16 (Scalar.ofBits .f32 0x40000000#32))
        (mulf (broadcast S1x16 (Named.named κ "rbf_step" 0x3FAAAAAB#32)) (sitofp .f32 (iota .tc S1x16 32 [1] iota_S1x16_d1_w32))))
        broadcasts_S1x16_S128x16))
    (broadcast S128x16 (Scalar.ofBits .f32 0x3FA00000#32))

/-- The sixteen radial functions of a distance. -/
def radial (d : FVec F S128x1 .f32) : FVec F S128x16 .f32 :=
  exp (subf (broadcast S128x16 (Scalar.ofBits .f32 0x00000000#32)) (mulf (scaled d) (scaled d)))

/-- The sum of each row of three. -/
def sum3 (x : FVec F S128x3 .f32) : FVec F S128x1 .f32 :=
  shapeCast S128x1 (multiReduction .add [1] S128 x 0x00000000#32 reduces_S128x3_S128 (.inl rfl) rfl) shapeCasts_S128_S128x1

/-- The distance of two points. -/
def dist (a b : FVec F S128x3 .f32) : FVec F S128x1 .f32 :=
  sqrt (addf (sum3 (mulf (subf a b) (subf a b))) (col 0x358637BD#32))

/-- Three numbers of a frame, and one of them. -/
def ax (c : ℕ) (h : S128x9.Slices ![0, c] S128x3) (o : FVec F S128x9 .f32) : FVec F S128x3 .f32 := extractStridedSlice S128x3 ![0, c] o h
/-- One column of the frame. -/
def at' (c : ℕ) (h : S128x9.Slices ![0, c] S128x1) (o : FVec F S128x9 .f32) : FVec F S128x1 .f32 := extractStridedSlice S128x1 ![0, c] o h

/-- The direction to the neighbour in the frame, before its length is divided out. -/
def dir0 (o : FVec F S128x9 .f32) (d : FVec F S128x3 .f32) : FVec F S128x1 .f32 := sum3 (mulf (ax 0 slices_S128x9_o0_0_S128x3 o) d)
/-- The second component of the direction. -/
def dir1 (o : FVec F S128x9 .f32) (d : FVec F S128x3 .f32) : FVec F S128x1 .f32 := sum3 (mulf (ax 3 slices_S128x9_o0_3_S128x3 o) d)
/-- The third component of the direction. -/
def dir2 (o : FVec F S128x9 .f32) (d : FVec F S128x3 .f32) : FVec F S128x1 .f32 := sum3 (mulf (ax 6 slices_S128x9_o0_6_S128x3 o) d)

/-- The length of that direction, kept from zero. -/
def dirLen (o : FVec F S128x9 .f32) (d : FVec F S128x3 .f32) : FVec F S128x1 .f32 :=
  maximumf (sqrt (addf (addf (mulf (dir0 o d) (dir0 o d)) (mulf (dir1 o d) (dir1 o d))) (mulf (dir2 o d) (dir2 o d)))) (col 0x2B8CBCCC#32)

/-- The sum of three products. -/
def dot3 (a a' b b' c c' : FVec F S128x1 .f32) : FVec F S128x1 .f32 := addf (addf (mulf a a') (mulf b b')) (mulf c c')

/-- The entries of the relative rotation. -/
def rot00 (o p : FVec F S128x9 .f32) := dot3 (at' 0 slices_S128x9_o0_0_S128x1 o) (at' 0 slices_S128x9_o0_0_S128x1 p) (at' 3 slices_S128x9_o0_3_S128x1 o) (at' 3 slices_S128x9_o0_3_S128x1 p) (at' 6 slices_S128x9_o0_6_S128x1 o) (at' 6 slices_S128x9_o0_6_S128x1 p)
/-- Entry (0, 1) of the rotation between two frames. -/
def rot01 (o p : FVec F S128x9 .f32) := dot3 (at' 0 slices_S128x9_o0_0_S128x1 o) (at' 1 slices_S128x9_o0_1_S128x1 p) (at' 3 slices_S128x9_o0_3_S128x1 o) (at' 4 slices_S128x9_o0_4_S128x1 p) (at' 6 slices_S128x9_o0_6_S128x1 o) (at' 7 slices_S128x9_o0_7_S128x1 p)
/-- Entry (0, 2) of the rotation between two frames. -/
def rot02 (o p : FVec F S128x9 .f32) := dot3 (at' 0 slices_S128x9_o0_0_S128x1 o) (at' 2 slices_S128x9_o0_2_S128x1 p) (at' 3 slices_S128x9_o0_3_S128x1 o) (at' 5 slices_S128x9_o0_5_S128x1 p) (at' 6 slices_S128x9_o0_6_S128x1 o) (at' 8 slices_S128x9_o0_8_S128x1 p)
/-- Entry (1, 0) of the rotation between two frames. -/
def rot10 (o p : FVec F S128x9 .f32) := dot3 (at' 1 slices_S128x9_o0_1_S128x1 o) (at' 0 slices_S128x9_o0_0_S128x1 p) (at' 4 slices_S128x9_o0_4_S128x1 o) (at' 3 slices_S128x9_o0_3_S128x1 p) (at' 7 slices_S128x9_o0_7_S128x1 o) (at' 6 slices_S128x9_o0_6_S128x1 p)
/-- Entry (1, 1) of the rotation between two frames. -/
def rot11 (o p : FVec F S128x9 .f32) := dot3 (at' 1 slices_S128x9_o0_1_S128x1 o) (at' 1 slices_S128x9_o0_1_S128x1 p) (at' 4 slices_S128x9_o0_4_S128x1 o) (at' 4 slices_S128x9_o0_4_S128x1 p) (at' 7 slices_S128x9_o0_7_S128x1 o) (at' 7 slices_S128x9_o0_7_S128x1 p)
/-- Entry (1, 2) of the rotation between two frames. -/
def rot12 (o p : FVec F S128x9 .f32) := dot3 (at' 1 slices_S128x9_o0_1_S128x1 o) (at' 2 slices_S128x9_o0_2_S128x1 p) (at' 4 slices_S128x9_o0_4_S128x1 o) (at' 5 slices_S128x9_o0_5_S128x1 p) (at' 7 slices_S128x9_o0_7_S128x1 o) (at' 8 slices_S128x9_o0_8_S128x1 p)
/-- Entry (2, 0) of the rotation between two frames. -/
def rot20 (o p : FVec F S128x9 .f32) := dot3 (at' 2 slices_S128x9_o0_2_S128x1 o) (at' 0 slices_S128x9_o0_0_S128x1 p) (at' 5 slices_S128x9_o0_5_S128x1 o) (at' 3 slices_S128x9_o0_3_S128x1 p) (at' 8 slices_S128x9_o0_8_S128x1 o) (at' 6 slices_S128x9_o0_6_S128x1 p)
/-- Entry (2, 1) of the rotation between two frames. -/
def rot21 (o p : FVec F S128x9 .f32) := dot3 (at' 2 slices_S128x9_o0_2_S128x1 o) (at' 1 slices_S128x9_o0_1_S128x1 p) (at' 5 slices_S128x9_o0_5_S128x1 o) (at' 4 slices_S128x9_o0_4_S128x1 p) (at' 8 slices_S128x9_o0_8_S128x1 o) (at' 7 slices_S128x9_o0_7_S128x1 p)
/-- Entry (2, 2) of the rotation between two frames. -/
def rot22 (o p : FVec F S128x9 .f32) := dot3 (at' 2 slices_S128x9_o0_2_S128x1 o) (at' 2 slices_S128x9_o0_2_S128x1 p) (at' 5 slices_S128x9_o0_5_S128x1 o) (at' 5 slices_S128x9_o0_5_S128x1 p) (at' 8 slices_S128x9_o0_8_S128x1 o) (at' 8 slices_S128x9_o0_8_S128x1 p)

/-- A quaternion component's size, and the component with the sign of an antisymmetric entry. -/
def size (u : FVec F S128x1 .f32) : FVec F S128x1 .f32 := mulf (col 0x3F000000#32) (sqrt (addf (absf u) (col 0x322BCC77#32)))
/-- The size `m` with the sign of `x`. -/
def signed (x m : FVec F S128x1 .f32) : FVec F S128x1 .f32 :=
  mulf (select (cmpf .ogt (absf x) (col 0x00000000#32))
    (select (cmpf .olt x (constant S128x1 .f32 0x00000000#32)) (constant S128x1 .f32 0xBF800000#32) (constant S128x1 .f32 0x3F800000#32)) x) m

/-- The four components of the quaternion, before their length is divided out. -/
def qx (o p : FVec F S128x9 .f32) : FVec F S128x1 .f32 :=
  signed (subf (rot21 o p) (rot12 o p)) (size (subf (subf (addf (col 0x3F800000#32) (rot00 o p)) (rot11 o p)) (rot22 o p)))
/-- The quaternion's second component. -/
def qy (o p : FVec F S128x9 .f32) : FVec F S128x1 .f32 :=
  signed (subf (rot02 o p) (rot20 o p)) (size (subf (addf (subf (col 0x3F800000#32) (rot00 o p)) (rot11 o p)) (rot22 o p)))
/-- The quaternion's third component. -/
def qz (o p : FVec F S128x9 .f32) : FVec F S128x1 .f32 :=
  signed (subf (rot10 o p) (rot01 o p)) (size (addf (subf (subf (col 0x3F800000#32) (rot00 o p)) (rot11 o p)) (rot22 o p)))
/-- The quaternion's real component. -/
def qw (o p : FVec F S128x9 .f32) : FVec F S128x1 .f32 :=
  divf (sqrt (addf (maximumf (addf (addf (addf (col 0x3F800000#32) (rot00 o p)) (rot11 o p)) (rot22 o p)) (col 0x00000000#32)) (col 0x322BCC77#32)))
    (col 0x40000000#32)

/-- The quaternion's length, kept from zero. -/
def qLen (o p : FVec F S128x9 .f32) : FVec F S128x1 .f32 :=
  maximumf (sqrt (addf (addf (addf (mulf (qx o p) (qx o p)) (mulf (qy o p) (qy o p))) (mulf (qz o p) (qz o p))) (mulf (qw o p) (qw o p))))
    (col 0x2B8CBCCC#32)

/-- The 167 features of an edge, from the two rows of the table, the distance and the offset's embedding. -/
def feat (i j : FVec F S128x20 .f32) (v : FVec F S128x1 .f32) (pew : Vec F S66x16 .f32) (peb : FVec F S1x16 .f32) : FVec F S128x167 .f32 :=
  concatenate S128x167 1 [⟨S128x16, position (resid i) (chain i) pew peb (resid j) (chain j)⟩, ⟨S128x16, radial v⟩,
    ⟨S128x16, radial (dist (xyz1 i) (xyz1 j))⟩, ⟨S128x16, radial (dist (xyz2 i) (xyz2 j))⟩,
    ⟨S128x16, radial (dist (xyz1 i) (xyz0 j))⟩, ⟨S128x16, radial (dist (xyz1 i) (xyz2 j))⟩,
    ⟨S128x16, radial (dist (xyz0 i) (xyz1 j))⟩, ⟨S128x16, radial (dist (xyz0 i) (xyz2 j))⟩,
    ⟨S128x16, radial (dist (xyz2 i) (xyz1 j))⟩, ⟨S128x16, radial (dist (xyz2 i) (xyz0 j))⟩,
    ⟨S128x1, divf (dir0 (axes i) (subf (xyz0 j) (xyz0 i))) (dirLen (axes i) (subf (xyz0 j) (xyz0 i)))⟩,
    ⟨S128x1, divf (dir1 (axes i) (subf (xyz0 j) (xyz0 i))) (dirLen (axes i) (subf (xyz0 j) (xyz0 i)))⟩,
    ⟨S128x1, divf (dir2 (axes i) (subf (xyz0 j) (xyz0 i))) (dirLen (axes i) (subf (xyz0 j) (xyz0 i)))⟩,
    ⟨S128x1, divf (qx (axes i) (axes j)) (qLen (axes i) (axes j))⟩, ⟨S128x1, divf (qy (axes i) (axes j)) (qLen (axes i) (axes j))⟩,
    ⟨S128x1, divf (qz (axes i) (axes j)) (qLen (axes i) (axes j))⟩, ⟨S128x1, divf (qw (axes i) (axes j)) (qLen (axes i) (axes j))⟩]
    concatenates_S128x16_S128x16_S128x16_S128x16_S128x16_S128x16_S128x16_S128x16_S128x16_S128x16_S128x1_S128x1_S128x1_S128x1_S128x1_S128x1_S128x1_S128x167_d1

/-- The mean of each row of 128. -/
def mean (x : FVec F S128x128 .f32) : FVec F S128x1 .f32 :=
  divf (shapeCast S128x1 (multiReduction .add [1] S128 x 0x00000000#32 reduces_S128x128_S128 (.inl rfl) rfl) shapeCasts_S128_S128x1)
    (col 0x43000000#32)

/-- The rows with their means taken away. -/
def centred (x : FVec F S128x128 .f32) : FVec F S128x128 .f32 := subf x (broadcastTo S128x128 (mean x) broadcasts_S128x1_S128x128)

/-- The normalized rows, scaled and shifted. -/
def layer (x : FVec F S128x128 .f32) (lng lnb : FVec F S1x128 .f32) : FVec F S128x128 .f32 :=
  addf (mulf (divf (centred x)
      (broadcastTo S128x128 (sqrt (addf (mean (mulf (centred x) (centred x))) (col 0x3727C5AC#32))) broadcasts_S128x1_S128x128))
    (broadcastTo S128x128 lng broadcasts_S1x128_S128x128)) (broadcastTo S128x128 lnb broadcasts_S1x128_S128x128)

/-- The 128 outputs of each edge: the features' product with the weights, normalized. -/
def edge (i : FVec F S128x20 .f32) (g : FVec F S2048x20 .f32) (pew : Vec F S66x16 .f32) (peb : FVec F S1x16 .f32)
    (ew : Vec F S167x128 .f32) (lng lnb : FVec F S1x128 .f32) (ik : IVec S128x1 32) (v : FVec F S128x1 .f32) : FVec F S1x128x128 .f32 :=
  shapeCast S1x128x128 (layer (matmul dot_S128x167_S167x128_S128x128_1_0_0_1_n_n (some .fp32) (feat i (pick g ik) v pew peb) ew
    (constant S128x128 .f32 0x00000000#32)) lng lnb) shapeCasts_S128x128_S1x128x128

end Cert.KernelIdeal.Edge

end
-- ==== Proof.Bridge.lean ====
module

public import proofs.«01_k».proof.Proof.Edge
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Edge

open Idealize.ShloMosaic Idealize.SL.Sem Cert.KernelIdeal Cert.KernelIdeal.Gen

variable {F : FTy → Type} [FloatOps F] [Named F]
variable (x0 : Vec F S1x3x2048 .f32) (x1 : Vec F S1x2048x20 .f32) (x2 : Vec F S1x128x20 .f32) (x3 : Vec F S1x1x2048 .f32) (x4 : Vec F S1x128x1 .f32)
  (x5 : Vec F S66x16 .f32) (x6 : Vec F S1x16 .f32) (x7 : Vec F S167x128 .f32) (x8 x9 : Vec F S1x128 .f32)

/-- The adjusted distances of a block's 128 residues to all 2048. -/
def start : FVec F S128x2048 .f32 :=
  k0_pay9 (k0_pay1647 x0 x1 x2 x3 x4 x5 x6 x7 x8 x9) (k0_pay1649 x0 x1 x2 x3 x4 x5 x6 x7 x8 x9)
    (k0_pay1650 x0 x1 x2 x3 x4 x5 x6 x7 x8 x9) (k0_pay1651 x0 x1 x2 x3 x4 x5 x6 x7 x8 x9)

/-- The outputs of the `k`-th neighbours of a block's residues. -/
def tile (k : ℕ) : FVec F S1x128x128 .f32 :=
  edge (k0_pay1648 x0 x1 x2 x3 x4 x5 x6 x7 x8 x9) (k0_pay1646 x0 x1 x2 x3 x4 x5 x6 x7 x8 x9) (View.ld x5 r0_6)
    (k0_pay1704 x0 x1 x2 x3 x4 x5 x6 x7 x8 x9) (View.ld x7 r0_8) (k0_pay1705 x0 x1 x2 x3 x4 x5 x6 x7 x8 x9)
    (k0_pay1706 x0 x1 x2 x3 x4 x5 x6 x7 x8 x9) (rowArg (rounds (start x0 x1 x2 x3 x4 x5 x6 x7 x8 x9) k))
    (rowMin (rounds (start x0 x1 x2 x3 x4 x5 x6 x7 x8 x9) k))

/-- The table's rows at the `k`-th neighbours. -/
def near (k : ℕ) : FVec F S128x20 .f32 :=
  pick (k0_pay1646 x0 x1 x2 x3 x4 x5 x6 x7 x8 x9) (rowArg (rounds (start x0 x1 x2 x3 x4 x5 x6 x7 x8 x9) k))

/-- The tile from its 17 parts, each named. -/
theorem tile_of (k : ℕ) (p0 p1 p2 p3 p4 p5 p6 p7 p8 p9 : FVec F S128x16 .f32) (p10 p11 p12 p13 p14 p15 p16 : FVec F S128x1 .f32) {i j : FVec F S128x20 .f32}
    (hi : i = k0_pay1648 x0 x1 x2 x3 x4 x5 x6 x7 x8 x9) (hj : j = near x0 x1 x2 x3 x4 x5 x6 x7 x8 x9 k)
    {v : FVec F S128x1 .f32} (hv : v = rowMin (rounds (start x0 x1 x2 x3 x4 x5 x6 x7 x8 x9) k))
    (h0 : p0 = position (resid i) (chain i) (View.ld x5 r0_6) (k0_pay1704 x0 x1 x2 x3 x4 x5 x6 x7 x8 x9) (resid j) (chain j))
    (h1 : p1 = radial v)
    (h2 : p2 = radial (dist (xyz1 i) (xyz1 j)))
    (h3 : p3 = radial (dist (xyz2 i) (xyz2 j)))
    (h4 : p4 = radial (dist (xyz1 i) (xyz0 j)))
    (h5 : p5 = radial (dist (xyz1 i) (xyz2 j)))
    (h6 : p6 = radial (dist (xyz0 i) (xyz1 j)))
    (h7 : p7 = radial (dist (xyz0 i) (xyz2 j)))
    (h8 : p8 = radial (dist (xyz2 i) (xyz1 j)))
    (h9 : p9 = radial (dist (xyz2 i) (xyz0 j)))
    (h10 : p10 = divf (dir0 (axes i) (subf (xyz0 j) (xyz0 i))) (dirLen (axes i) (subf (xyz0 j) (xyz0 i))))
    (h11 : p11 = divf (dir1 (axes i) (subf (xyz0 j) (xyz0 i))) (dirLen (axes i) (subf (xyz0 j) (xyz0 i))))
    (h12 : p12 = divf (dir2 (axes i) (subf (xyz0 j) (xyz0 i))) (dirLen (axes i) (subf (xyz0 j) (xyz0 i))))
    (h13 : p13 = divf (qx (axes i) (axes j)) (qLen (axes i) (axes j)))
    (h14 : p14 = divf (qy (axes i) (axes j)) (qLen (axes i) (axes j)))
    (h15 : p15 = divf (qz (axes i) (axes j)) (qLen (axes i) (axes j)))
    (h16 : p16 = divf (qw (axes i) (axes j)) (qLen (axes i) (axes j)))
    : shapeCast S1x128x128 (layer (matmul dot_S128x167_S167x128_S128x128_1_0_0_1_n_n (some .fp32)
        (concatenate S128x167 1 [⟨S128x16, p0⟩, ⟨S128x16, p1⟩, ⟨S128x16, p2⟩, ⟨S128x16, p3⟩, ⟨S128x16, p4⟩, ⟨S128x16, p5⟩, ⟨S128x16, p6⟩, ⟨S128x16, p7⟩, ⟨S128x16, p8⟩, ⟨S128x16, p9⟩, ⟨S128x1, p10⟩, ⟨S128x1, p11⟩, ⟨S128x1, p12⟩, ⟨S128x1, p13⟩, ⟨S128x1, p14⟩, ⟨S128x1, p15⟩, ⟨S128x1, p16⟩]
          concatenates_S128x16_S128x16_S128x16_S128x16_S128x16_S128x16_S128x16_S128x16_S128x16_S128x16_S128x1_S128x1_S128x1_S128x1_S128x1_S128x1_S128x1_S128x167_d1)
        (View.ld x7 r0_8) (constant S128x128 .f32 0x00000000#32)) (k0_pay1705 x0 x1 x2 x3 x4 x5 x6 x7 x8 x9) (k0_pay1706 x0 x1 x2 x3 x4 x5 x6 x7 x8 x9)) shapeCasts_S128x128_S1x128x128
      = tile x0 x1 x2 x3 x4 x5 x6 x7 x8 x9 k := by
  subst hi hj hv h0 h1 h2 h3 h4 h5 h6 h7 h8 h9 h10 h11 h12 h13 h14 h15 h16
  rfl

/-- An element of the tile that starts at column `o`, at its place in the whole block. -/
theorem tile_at (y : S1x128x3840.Idx) (x : S1x128x128.Idx) (o : ℕ) (h2 : (y 2 : ℕ) = o + (x 2 : ℕ)) (ho : o % 128 = 0)
    (h0 : (y 0 : ℕ) = (x 0 : ℕ)) (h1 : (y 1 : ℕ) = (x 1 : ℕ)) (hx : (x 2 : ℕ) < 128) :
    tile x0 x1 x2 x3 x4 x5 x6 x7 x8 x9 (o / 128) x
      = tile x0 x1 x2 x3 x4 x5 x6 x7 x8 x9 ((y 2 : ℕ) / 128) (ix3 (y 0) (y 1) ⟨(y 2 : ℕ) % 128, Nat.mod_lt _ (by decide)⟩) := by
  have e : o / 128 = (y 2 : ℕ) / 128 := by omega
  rw [e]
  congr 1
  funext a
  apply Fin.ext
  fin_cases a
  · exact h0.symm
  · exact h1.symm
  · show (x 2 : ℕ) = (y 2 : ℕ) % 128
    omega

set_option maxHeartbeats 2000000 in
/-- The first result's block, at an index: the tile of the neighbour that the column belongs to. -/
theorem out10_apply (y : S1x128x3840.Idx) :
    out0_10 x0 x1 x2 x3 x4 x5 x6 x7 x8 x9 y
      = tile x0 x1 x2 x3 x4 x5 x6 x7 x8 x9 ((y 2 : ℕ) / 128) (ix3 (y 0) (y 1) ⟨(y 2 : ℕ) % 128, Nat.mod_lt _ (by decide)⟩) := by
  canon_tiles x h
  case' piece29 => replace h2 := h2.trans (Nat.zero_add _).symm
  all_goals refine Eq.trans ?_ (tile_at x0 x1 x2 x3 x4 x5 x6 x7 x8 x9 y x _ h2 (by decide) h0 h1 x2_lt)
  all_goals refine congrFun (tile_of x0 x1 x2 x3 x4 x5 x6 x7 x8 x9 _ _ _ _ _ _ _ _ _ _ _ _ _ _ _ _ _ _ rfl rfl rfl ?_ ?_ ?_ ?_ ?_ ?_ ?_ ?_ ?_ ?_ ?_ ?_ ?_ ?_ ?_ ?_ ?_) x <;> rfl

/-- The second result's block, at an index: the number of the neighbour in its place. -/
theorem out11_apply (y : S1x128x30.Idx) :
    out0_11 x0 x1 x2 x3 x4 x5 x6 x7 x8 x9 y
      = rowArg (rounds (start x0 x1 x2 x3 x4 x5 x6 x7 x8 x9) (y 2 : ℕ)) (ix2 (y 1) 0) := by
  canon_tiles x h
  unfold k0_pay105
  refine (shapeCast_apply _ _ x (ix2 (y 1) (y 2)) ?_).trans ?_
  · rw [Shape.rowMajor_val_two, Shape.rowMajor_val_three]
    show (y 1 : ℕ) * 30 + (y 2 : ℕ) = _
    simp
    omega
  concat_tiles i h
  all_goals
    replace h : (y 2 : ℕ) = _ := h
    obtain rfl : i = ix2 (y 1) 0 := by
      funext a
      apply Fin.ext
      fin_cases a
      · exact h0
      · exact h1
    rw [h]
    rfl

end Cert.KernelIdeal.Edge

end
-- ==== Proof.Row.lean ====
module

public import proofs.«01_k».proof.Proof.Edge
public import proofs.«01_k».proof.Proof.Spec
public import Idealize.ShloMosaic.PureOps.IdealRules
public import proofs.«01_k».proof.Proof.Select

@[expose] public section
set_option maxRecDepth 16384
noncomputable section
namespace Cert.KernelIdeal.Edge
open Idealize.ShloMosaic Idealize.SL.Sem Cert.KernelIdeal Cert.KernelIdeal.Gen

/-- The mark on a residue already picked is infinity. -/
theorem named_taken : (Named.named (F := Ideal) (φ := .f32) κ "taken" 0x7149F2CA#32 : EReal) = ⊤ := IdealRules.named_const.ideal_named_scalar _ _ _ _ rfl
/-- The step between centres is 4/3. -/
theorem named_step : (Named.named (F := Ideal) (φ := .f32) κ "rbf_step" 0x3FAAAAAB#32 : EReal) = ((4 / 3 : ℝ) : EReal) := IdealRules.named_const.ideal_named_scalar _ _ _ _ rfl
/-- The pattern of 2. -/
theorem bits_two : Ideal.ofBits .f32 0x40000000#32 = ((2 : ℝ) : EReal) := by simp [Ideal.ofBits, Ideal.ieee, -EReal.coe_mul]; norm_num
/-- The pattern of infinity. -/
theorem bits_inf : Ideal.ofBits .f32 0x7F800000#32 = ⊤ := by simp [Ideal.ofBits, Ideal.ieee]

/-- The pattern of −1. -/
theorem bits_neg_one : Ideal.ofBits .f32 0xBF800000#32 = -1 := by simp [Ideal.ofBits, Ideal.ieee, -EReal.coe_mul]; norm_num
/-- The pattern of 64. -/
theorem bits_c64 : Ideal.ofBits .f32 0x42800000#32 = ((64 : ℝ) : EReal) := by simp [Ideal.ofBits, Ideal.ieee, -EReal.coe_mul]; norm_num
/-- The pattern of 32. -/
theorem bits_c32 : Ideal.ofBits .f32 0x42000000#32 = ((32 : ℝ) : EReal) := by simp [Ideal.ofBits, Ideal.ieee, -EReal.coe_mul]; norm_num
/-- The pattern of 65. -/
theorem bits_c65 : Ideal.ofBits .f32 0x42820000#32 = ((65 : ℝ) : EReal) := by simp [Ideal.ofBits, Ideal.ieee, -EReal.coe_mul]; norm_num

/-- The radial basis of a column of distances. -/
theorem radial_apply (d : FVec Ideal S128x1 .f32) (r : Fin 128) (c : Fin 16) : radial d (ix2 r c) = Spec.radial (d (ix2 r 0)) c.val := by
  pointwise [radial, scaled]
  have hc : (FloatOps.sitofp (F := Ideal) .f32 (BitVec.ofNat 32 c.val) : EReal) = ((c.val : ℝ) : EReal) :=
    Spec.real_ofNat c.val (by omega)
  rw [named_step, bits_two, hc, zero_sub, ← EReal.coe_mul, ← EReal.coe_add]
  rfl
/-- The distance of two points. -/
theorem dist_apply (a b : FVec Ideal S128x3 .f32) (r : Fin 128) : dist a b (ix2 r 0) = Spec.dist (fun x => a (ix2 r x)) (fun x => b (ix2 r x)) := by
  pointwise [dist, sum3, col]
  rfl
/-- The least of a row. -/
theorem rowMin_apply (d : FVec Ideal S128x2048 .f32) (r : Fin 128) : rowMin d (ix2 r 0) = Finset.univ.fold min ⊤ fun x => d (ix2 r x) := by
  pointwise [rowMin]
  rw [← bits_inf]
/-- The first index at which a row is least. -/
theorem rowArg_apply (d : FVec Ideal S128x2048 .f32) (r : Fin 128) : rowArg d (ix2 r 0) =
    Finset.univ.fold IntOp.minsi 2147483647#32 fun x : Fin 2048 => if d (ix2 r x) = Finset.univ.fold min ⊤ (fun x => d (ix2 r x)) then BitVec.ofNat 32 x.val else 2048#32 := by
  pointwise [rowArg, rowMin, cols]
  rw [← bits_inf]
/-- After `k` rounds the `k` least entries are marked. -/
theorem rounds_apply (d : FVec Ideal S128x2048 .f32) (r : Fin 128) (hf : ∀ l, d (ix2 r l) < ⊤) (k : ℕ) (hk : k ≤ 2047) :
    (fun l => rounds d k (ix2 r l)) = Select.left (fun l => d (ix2 r l)) k := by
  induction k with
  | zero => exact (Select.left_zero _).symm
  | succ k ih =>
    have ih := ih (by omega)
    have hr : rowArg (rounds d k) (ix2 r 0) = BitVec.ofNat 32 (Select.rank (fun l => d (ix2 r l)) ⟨k, by omega⟩).val := by
      rw [rowArg_apply, ← Select.fold_position _ hf ⟨k, by omega⟩, ← Select.fold_left (fun l => d (ix2 r l)) ⟨k, by omega⟩, ← ih]
    rw [Select.left_succ _ ⟨k, by omega⟩, ← ih]
    funext l
    show drop (rounds d k) (ix2 r l) = _
    pointwise [drop, cols]
    rw [named_taken, hr]
    by_cases h : l = Select.rank (fun l => d (ix2 r l)) ⟨k, by omega⟩
    · rw [if_pos h, ← h]; simp [Scalar.select, IntOp.cmpi]
    · rw [if_neg h]
      have hw : ¬ BitVec.ofNat 32 l.val = BitVec.ofNat 32 (Select.rank (fun l => d (ix2 r l)) ⟨k, by omega⟩).val := by
        intro hw
        have := congrArg BitVec.toNat hw
        simp only [BitVec.toNat_ofNat] at this
        exact h (Fin.ext (by omega))
      have hb : IntOp.cmpi .eq (BitVec.ofNat 32 l.val) (BitVec.ofNat 32 (Select.rank (fun l => d (ix2 r l)) ⟨k, by omega⟩).val) = 0#1 :=
        congrArg BitVec.ofBool (beq_eq_false_iff_ne.mpr hw)
      rw [hb]; simp [Scalar.select]
/-- The class of the offset of two residues. -/
theorem feat_pos (ri ci rj cj : FVec Ideal S128x1 .f32) (r : Fin 128) (i ic j jc : BitVec 32) (hi : i.toNat < 2048) (hj : j.toNat < 2048)
    (h1 : ri (ix2 r 0) = Spec.real i) (h2 : ci (ix2 r 0) = Spec.real ic) (h3 : rj (ix2 r 0) = Spec.real j) (h4 : cj (ix2 r 0) = Spec.real jc) :
    bucket ri ci rj cj (ix2 r 0) = BitVec.ofNat 32 (Spec.bucket i ic j jc) := by
  pointwise [bucket, same, col]
  rw [h1, h2, h3, h4]
  have hs : (FloatOps.sitofp (F := Ideal) .f32 (BitVec.setWidth 32 (BitVec.ofBool (decide (Spec.real ic = Spec.real jc)))) : EReal)
      = if ic = jc then 1 else 0 := (Spec.real_bit _).trans (if_congr Spec.real_inj rfl rfl)
  have hr : Spec.real i = ((i.toNat : ℝ) : EReal) := Spec.real_small i hi
  have hr' : Spec.real j = ((j.toNat : ℝ) : EReal) := Spec.real_small j hj
  rw [hs, hr, hr', bits_c64, bits_c32, bits_c65]
  show Ideal.fptosi 32 _ = _
  unfold Spec.bucket
  by_cases h : ic = jc
  · rw [if_pos h, if_pos h]
    refine (congrArg (Ideal.fptosi 32) ?_).trans (Spec.fptosi_nat _ (by omega))
    rw [show (1 : EReal) - 1 = 0 from by rw [← EReal.coe_one, ← EReal.coe_sub]; simp, zero_mul, add_zero, mul_one]
    rw [← EReal.coe_sub, ← EReal.coe_add, ← EReal.coe_zero, ← EReal.coe_strictMono.monotone.map_max, ← EReal.coe_strictMono.monotone.map_min]
    congr 1
    have : ((min 64 (i.toNat + 32 - j.toNat) : ℕ) : ℝ) = min 64 (((i.toNat + 32 - j.toNat : ℕ) : ℝ)) := by push_cast; rfl
    rw [this]
    congr 1
    rcases le_total j.toNat (i.toNat + 32) with hl | hl
    · rw [Nat.cast_sub hl, max_eq_right]
      · push_cast; ring
      · have : (j.toNat : ℝ) ≤ i.toNat + 32 := by exact_mod_cast hl
        linarith
    · rw [Nat.sub_eq_zero_of_le hl, max_eq_left]
      · simp
      · have : (i.toNat : ℝ) + 32 ≤ j.toNat := by exact_mod_cast hl
        linarith
  · rw [if_neg h, if_neg h]
    refine (congrArg (Ideal.fptosi 32) ?_).trans (Spec.fptosi_nat 65 (by omega))
    rw [mul_zero, zero_add, sub_zero, one_mul]; norm_num
/-- The first component of the unit direction. -/
theorem dir_apply (o : FVec Ideal S128x9 .f32) (d : FVec Ideal S128x3 .f32) (r : Fin 128) : divf (dir0 o d) (dirLen o d) (ix2 r 0) =
   Ideal.div (Spec.dir (fun a x => o (ix2 r ⟨3 * a.val + x.val, by omega⟩)) (fun x => d (ix2 r x)) 0) (Spec.dirLen (fun a x => o (ix2 r ⟨3 * a.val + x.val, by omega⟩)) (fun x => d (ix2 r x))) := by
  pointwise [dir0, dir1, dir2, dirLen, ax, sum3, col]
  simp only [Spec.dir, Spec.dirLen, Fin.sum_univ_three]
  rfl
/-- The product with a one-hot row reads the table's row. -/
theorem pick_apply (g : FVec Ideal S2048x20 .f32) (ik : IVec S128x1 32) (r : Fin 128) (c : Fin 20) (n : Fin 2048) (h : ik (ix2 r 0) = BitVec.ofNat 32 n.val) : pick g ik (ix2 r c) = g (ix2 n c) := by
  pointwise [pick, cols]
  refine Spec.sum_indicator (by decide) n (fun x => g (ix2 x c)) _ fun x => ?_
  rw [h]
  exact Spec.real_bit _
/-- The normalisation of a row. -/
theorem layer_apply (x : FVec Ideal S128x128 .f32) (lng lnb : FVec Ideal S1x128 .f32) (r : Fin 128) (c : Fin 128) : layer x lng lnb (ix2 r c) =
    Spec.layer (fun o => x (ix2 r o)) (fun o => lng (ix2 0 o)) (fun o => lnb (ix2 0 o)) c := by
  pointwise [layer, centred, mean, col]
  rfl
/-- The frame in a row of nine numbers. -/
def frameAt (o : FVec Ideal S128x9 .f32) (r : Fin 128) (a x : Fin 3) : EReal := o (ix2 r ⟨3 * a.val + x.val, by omega⟩)

/-- A size with a sign. -/
theorem signed_apply (x m : FVec Ideal S128x1 .f32) (r : Fin 128) : signed x m (ix2 r 0) = Spec.sgn (x (ix2 r 0)) * m (ix2 r 0) := by
  pointwise [signed, col]
  congr 1
  show (if 0 < max (x (ix2 r 0)) (-x (ix2 r 0)) then _ else _) = _
  generalize x (ix2 r 0) = y
  unfold Spec.sgn
  rcases lt_trichotomy y 0 with h | rfl | h
  · rw [if_pos (lt_max_of_lt_right (EReal.neg_pos.mpr h)), if_pos h, if_pos h, bits_neg_one]
  · simp
  · rw [if_pos (lt_max_of_lt_left h), if_neg h.not_gt, if_neg h.not_gt, if_pos h]
/-- A quaternion component's size. -/
theorem size_apply (x : FVec Ideal S128x1 .f32) (r : Fin 128) : size x (ix2 r 0) = Spec.size (x (ix2 r 0)) := by
  pointwise [size, col]
  rfl
/-- The nine entries of the rotation between two frames. -/
theorem rot_apply (o p : FVec Ideal S128x9 .f32) (r : Fin 128) :
    (rot00 o p (ix2 r 0) = Spec.rot (frameAt o r) (frameAt p r) 0 0 ∧ rot01 o p (ix2 r 0) = Spec.rot (frameAt o r) (frameAt p r) 0 1
      ∧ rot02 o p (ix2 r 0) = Spec.rot (frameAt o r) (frameAt p r) 0 2) ∧
    (rot10 o p (ix2 r 0) = Spec.rot (frameAt o r) (frameAt p r) 1 0 ∧ rot11 o p (ix2 r 0) = Spec.rot (frameAt o r) (frameAt p r) 1 1
      ∧ rot12 o p (ix2 r 0) = Spec.rot (frameAt o r) (frameAt p r) 1 2) ∧
    (rot20 o p (ix2 r 0) = Spec.rot (frameAt o r) (frameAt p r) 2 0 ∧ rot21 o p (ix2 r 0) = Spec.rot (frameAt o r) (frameAt p r) 2 1
      ∧ rot22 o p (ix2 r 0) = Spec.rot (frameAt o r) (frameAt p r) 2 2) := by
  refine ⟨⟨?_, ?_, ?_⟩, ⟨?_, ?_, ?_⟩, ?_, ?_, ?_⟩ <;>
    (pointwise [rot00, rot01, rot02, rot10, rot11, rot12, rot20, rot21, rot22, dot3, at'] ; simp only [Spec.rot, Fin.sum_univ_three]; rfl)
/-- The four components of the quaternion. -/
theorem quat_apply (o p : FVec Ideal S128x9 .f32) (r : Fin 128) :
    qx o p (ix2 r 0) = Spec.quat (Spec.rot (frameAt o r) (frameAt p r)) 0 ∧ qy o p (ix2 r 0) = Spec.quat (Spec.rot (frameAt o r) (frameAt p r)) 1
    ∧ qz o p (ix2 r 0) = Spec.quat (Spec.rot (frameAt o r) (frameAt p r)) 2 ∧ qw o p (ix2 r 0) = Spec.quat (Spec.rot (frameAt o r) (frameAt p r)) 3 := by
  obtain ⟨⟨h00, h01, h02⟩, ⟨h10, h11, h12⟩, h20, h21, h22⟩ := rot_apply o p r
  refine ⟨?_, ?_, ?_, ?_⟩
  · unfold qx
    rw [signed_apply, size_apply]
    pointwise [col]
    rw [h21, h12, h00, h11, h22]
    simp only [Spec.quat, sub_eq_add_neg, add_assoc]; rfl
  · unfold qy
    rw [signed_apply, size_apply]
    pointwise [col]
    rw [h02, h20, h00, h11, h22]
    simp only [Spec.quat, sub_eq_add_neg, add_assoc]; rfl
  · unfold qz
    rw [signed_apply, size_apply]
    pointwise [col]
    rw [h10, h01, h00, h11, h22]
    simp only [Spec.quat, sub_eq_add_neg, add_assoc]; rfl
  · pointwise [qw, col]
    rw [h00, h11, h22]
    simp only [Spec.quat, Fin.sum_univ_three, add_assoc]; rfl
/-- The quaternion's length. -/
theorem qLen_apply (o p : FVec Ideal S128x9 .f32) (r : Fin 128) :
    qLen o p (ix2 r 0) = Spec.quatLen (Spec.rot (frameAt o r) (frameAt p r)) := by
  obtain ⟨h0, h1, h2, h3⟩ := quat_apply o p r
  pointwise [qLen, col]
  rw [h0, h1, h2, h3]
  simp only [Spec.quatLen, Fin.sum_univ_four]
/-- The encoding of a class is its row of the weights, with the bias. -/
theorem position_apply (ri ci rj cj : FVec Ideal S128x1 .f32) (pew : FVec Ideal S66x16 .f32) (peb : FVec Ideal S1x16 .f32) (r : Fin 128) (c : Fin 16) (n : Fin 66)
    (h : bucket ri ci rj cj (ix2 r 0) = BitVec.ofNat 32 n.val) :
    position ri ci pew peb rj cj (ix2 r c) = pew (ix2 n c) + peb (ix2 0 c) := by
  pointwise [position]
  congr 1
  refine Spec.sum_indicator (by decide) n (fun x => pew (ix2 x c)) _ fun x => ?_
  rw [h]
  exact Spec.real_bit _
/-- The three components of the direction in the frame. -/
theorem dir_frame (o : FVec Ideal S128x9 .f32) (d : FVec Ideal S128x3 .f32) (r : Fin 128) :
    dir0 o d (ix2 r 0) = Spec.dir (frameAt o r) (fun x => d (ix2 r x)) 0 ∧ dir1 o d (ix2 r 0) = Spec.dir (frameAt o r) (fun x => d (ix2 r x)) 1
    ∧ dir2 o d (ix2 r 0) = Spec.dir (frameAt o r) (fun x => d (ix2 r x)) 2 := by
  refine ⟨?_, ?_, ?_⟩ <;> (pointwise [dir0, dir1, dir2, ax, sum3]; simp only [Spec.dir, Fin.sum_univ_three]; rfl)
/-- The direction's length. -/
theorem dirLen_apply (o : FVec Ideal S128x9 .f32) (d : FVec Ideal S128x3 .f32) (r : Fin 128) :
    dirLen o d (ix2 r 0) = Spec.dirLen (frameAt o r) (fun x => d (ix2 r x)) := by
  obtain ⟨h0, h1, h2⟩ := dir_frame o d r
  pointwise [dirLen, col]
  rw [h0, h1, h2]
  simp only [Spec.dirLen, Fin.sum_univ_three]

/-- Row `r` of the table tile holds the data of the end `e`. -/
structure Reads (t : FVec Ideal S128x20 .f32) (r : Fin 128) (e : Spec.End) : Prop where
  here : ∀ x : Fin 3, t (ix2 r ⟨x.val, by omega⟩) = e.here x
  before : ∀ x : Fin 3, t (ix2 r ⟨3 + x.val, by omega⟩) = e.before x
  after : ∀ x : Fin 3, t (ix2 r ⟨6 + x.val, by omega⟩) = e.after x
  frame : ∀ a x : Fin 3, t (ix2 r ⟨9 + (3 * a.val + x.val), by omega⟩) = e.frame a x
  resid : t (ix2 r 18) = Spec.real e.resid
  chain : t (ix2 r 19) = Spec.real e.chain
  small : e.resid.toNat < 2048

section Cat
variable {α : Type} (xs : List ((s : Shape) × (s.Idx → α))) (h : Shape.Concatenates (xs.map (·.1)) S128x167 1) (r : Fin 128) (c : Fin 167)
  (k : ℕ) (hk : k < xs.length) (pre : ℕ)
  (hpre : (((xs.take k).map (·.1)).map fun s => if h : s.rank = S128x167.rank then s.size ((1 : Fin S128x167.rank).cast h.symm) else 0).sum = pre)
include hpre
/-- A feature inside a part of sixteen columns. -/
theorem cat_wide (x : S128x16.Idx → α) (hx : xs[k] = ⟨S128x16, x⟩) (q : Fin 16) (hq : pre + q.val = c.val) :
    concatenate S128x167 1 xs h (ix2 r c) = x (ix2 r q) := by
  refine concatenate_apply_piece 1 xs h (ix2 r c) k hk S128x16 x hx rfl pre hpre (ix2 r q) (fun b hb => ?_) hq
  fin_cases b
  · rfl
  · exact absurd rfl hb
/-- A feature that is a part of one column. -/
theorem cat_narrow (x : S128x1.Idx → α) (hx : xs[k] = ⟨S128x1, x⟩) (hq : pre = c.val) :
    concatenate S128x167 1 xs h (ix2 r c) = x (ix2 r 0) := by
  refine concatenate_apply_piece 1 xs h (ix2 r c) k hk S128x1 x hx rfl pre hpre (ix2 r 0) (fun b hb => ?_) hq
  fin_cases b
  · rfl
  · exact absurd rfl hb
end Cat

set_option maxHeartbeats 2000000 in
/-- A feature of an edge is that of its two ends. -/
theorem feat_apply (i j : FVec Ideal S128x20 .f32) (v : FVec Ideal S128x1 .f32) (pew : FVec Ideal S66x16 .f32) (peb : FVec Ideal S1x16 .f32)
    (r : Fin 128) (ei ej : Spec.End) (hi : Reads i r ei) (hj : Reads j r ej) (c : Fin 167) :
    feat i j v pew peb (ix2 r c) = Spec.feat ei ej (v (ix2 r 0)) (fun a b => pew (ix2 a b)) (fun b => peb (ix2 0 b)) c := by
  have h0 : ∀ (t : FVec Ideal S128x20 .f32) (e : Spec.End), Reads t r e → (fun x => xyz0 t (ix2 r x)) = e.here := by
    intro t e h; funext x; rw [← h.here x]; pointwise [xyz0]
  have h1 : ∀ (t : FVec Ideal S128x20 .f32) (e : Spec.End), Reads t r e → (fun x => xyz1 t (ix2 r x)) = e.before := by
    intro t e h; funext x; rw [← h.before x]; pointwise [xyz1]
  have h2 : ∀ (t : FVec Ideal S128x20 .f32) (e : Spec.End), Reads t r e → (fun x => xyz2 t (ix2 r x)) = e.after := by
    intro t e h; funext x; rw [← h.after x]; pointwise [xyz2]
  have ho : ∀ (t : FVec Ideal S128x20 .f32) (e : Spec.End), Reads t r e → frameAt (axes t) r = e.frame := by
    intro t e h; funext a x; rw [← h.frame a x]; pointwise [frameAt, axes]
  have hr : ∀ (t : FVec Ideal S128x20 .f32) (e : Spec.End), Reads t r e → resid t (ix2 r 0) = Spec.real e.resid := by
    intro t e h; rw [← h.resid]; pointwise [resid]
  have hc : ∀ (t : FVec Ideal S128x20 .f32) (e : Spec.End), Reads t r e → chain t (ix2 r 0) = Spec.real e.chain := by
    intro t e h; rw [← h.chain]; pointwise [chain]
  have hd : (fun x => subf (xyz0 j) (xyz0 i) (ix2 r x)) = fun x => ej.here x - ei.here x := by
    rw [← h0 i ei hi, ← h0 j ej hj]; rfl
  obtain ⟨d0, d1, d2⟩ := dir_frame (axes i) (subf (xyz0 j) (xyz0 i)) r
  have dl := dirLen_apply (axes i) (subf (xyz0 j) (xyz0 i)) r
  obtain ⟨q0, q1, q2, q3⟩ := quat_apply (axes i) (axes j) r
  have ql := qLen_apply (axes i) (axes j) r
  rw [ho i ei hi, hd] at d0 d1 d2 dl
  rw [ho i ei hi, ho j ej hj] at q0 q1 q2 q3 ql
  unfold Spec.feat
  unfold feat
  by_cases g0 : c.val < 16
  · rw [dif_pos g0]
    refine (cat_wide _ _ r c 0 (by simp) 0 rfl _ rfl ⟨c.val, g0⟩ (Nat.zero_add _)).trans ?_
    exact position_apply _ _ _ _ pew peb r _ ⟨_, Spec.bucket_lt _ _ _ _⟩
      (feat_pos _ _ _ _ r _ _ _ _ hi.small hj.small (hr i ei hi) (hc i ei hi) (hr j ej hj) (hc j ej hj))
  rw [dif_neg g0]
  by_cases g1 : c.val < 32
  · rw [if_pos g1]
    exact (cat_wide _ _ r c 1 (by simp) 16 rfl _ rfl ⟨c.val - 16, by omega⟩ (Nat.add_sub_cancel' (by omega : 16 ≤ c.val))).trans (radial_apply _ r _)
  rw [if_neg g1]
  by_cases g2 : c.val < 48
  · rw [if_pos g2]
    refine (cat_wide _ _ r c 2 (by simp) 32 rfl _ rfl ⟨c.val - 32, by omega⟩ (Nat.add_sub_cancel' (by omega : 32 ≤ c.val))).trans ((radial_apply _ r _).trans ?_)
    rw [dist_apply, h1 i ei hi, h1 j ej hj]
  rw [if_neg g2]
  by_cases g3 : c.val < 64
  · rw [if_pos g3]
    refine (cat_wide _ _ r c 3 (by simp) 48 rfl _ rfl ⟨c.val - 48, by omega⟩ (Nat.add_sub_cancel' (by omega : 48 ≤ c.val))).trans ((radial_apply _ r _).trans ?_)
    rw [dist_apply, h2 i ei hi, h2 j ej hj]
  rw [if_neg g3]
  by_cases g4 : c.val < 80
  · rw [if_pos g4]
    refine (cat_wide _ _ r c 4 (by simp) 64 rfl _ rfl ⟨c.val - 64, by omega⟩ (Nat.add_sub_cancel' (by omega : 64 ≤ c.val))).trans ((radial_apply _ r _).trans ?_)
    rw [dist_apply, h1 i ei hi, h0 j ej hj]
  rw [if_neg g4]
  by_cases g5 : c.val < 96
  · rw [if_pos g5]
    refine (cat_wide _ _ r c 5 (by simp) 80 rfl _ rfl ⟨c.val - 80, by omega⟩ (Nat.add_sub_cancel' (by omega : 80 ≤ c.val))).trans ((radial_apply _ r _).trans ?_)
    rw [dist_apply, h1 i ei hi, h2 j ej hj]
  rw [if_neg g5]
  by_cases g6 : c.val < 112
  · rw [if_pos g6]
    refine (cat_wide _ _ r c 6 (by simp) 96 rfl _ rfl ⟨c.val - 96, by omega⟩ (Nat.add_sub_cancel' (by omega : 96 ≤ c.val))).trans ((radial_apply _ r _).trans ?_)
    rw [dist_apply, h0 i ei hi, h1 j ej hj]
  rw [if_neg g6]
  by_cases g7 : c.val < 128
  · rw [if_pos g7]
    refine (cat_wide _ _ r c 7 (by simp) 112 rfl _ rfl ⟨c.val - 112, by omega⟩ (Nat.add_sub_cancel' (by omega : 112 ≤ c.val))).trans ((radial_apply _ r _).trans ?_)
    rw [dist_apply, h0 i ei hi, h2 j ej hj]
  rw [if_neg g7]
  by_cases g8 : c.val < 144
  · rw [if_pos g8]
    refine (cat_wide _ _ r c 8 (by simp) 128 rfl _ rfl ⟨c.val - 128, by omega⟩ (Nat.add_sub_cancel' (by omega : 128 ≤ c.val))).trans ((radial_apply _ r _).trans ?_)
    rw [dist_apply, h2 i ei hi, h1 j ej hj]
  rw [if_neg g8]
  by_cases g9 : c.val < 160
  · rw [if_pos g9]
    refine (cat_wide _ _ r c 9 (by simp) 144 rfl _ rfl ⟨c.val - 144, by omega⟩ (Nat.add_sub_cancel' (by omega : 144 ≤ c.val))).trans ((radial_apply _ r _).trans ?_)
    rw [dist_apply, h2 i ei hi, h0 j ej hj]
  rw [if_neg g9]
  by_cases g10 : c.val < 163
  · rw [dif_pos g10]
    have hcases : c = 160 ∨ c = 161 ∨ c = 162 := by
      rcases (by omega : c.val = 160 ∨ c.val = 161 ∨ c.val = 162) with h | h | h
      · exact .inl (Fin.ext h)
      · exact .inr (.inl (Fin.ext h))
      · exact .inr (.inr (Fin.ext h))
    rcases hcases with rfl | rfl | rfl
    · exact (cat_narrow _ _ r _ 10 (by simp) 160 rfl _ rfl rfl).trans (congrArg₂ Ideal.div d0 dl)
    · exact (cat_narrow _ _ r _ 11 (by simp) 161 rfl _ rfl rfl).trans (congrArg₂ Ideal.div d1 dl)
    · exact (cat_narrow _ _ r _ 12 (by simp) 162 rfl _ rfl rfl).trans (congrArg₂ Ideal.div d2 dl)
  rw [dif_neg g10]
  have hcases : c = 163 ∨ c = 164 ∨ c = 165 ∨ c = 166 := by
    rcases (by omega : c.val = 163 ∨ c.val = 164 ∨ c.val = 165 ∨ c.val = 166) with h | h | h | h
    · exact .inl (Fin.ext h)
    · exact .inr (.inl (Fin.ext h))
    · exact .inr (.inr (.inl (Fin.ext h)))
    · exact .inr (.inr (.inr (Fin.ext h)))
  rcases hcases with rfl | rfl | rfl | rfl
  · exact (cat_narrow _ _ r _ 13 (by simp) 163 rfl _ rfl rfl).trans (congrArg₂ Ideal.div q0 ql)
  · exact (cat_narrow _ _ r _ 14 (by simp) 164 rfl _ rfl rfl).trans (congrArg₂ Ideal.div q1 ql)
  · exact (cat_narrow _ _ r _ 15 (by simp) 165 rfl _ rfl rfl).trans (congrArg₂ Ideal.div q2 ql)
  · exact (cat_narrow _ _ r _ 16 (by simp) 166 rfl _ rfl rfl).trans (congrArg₂ Ideal.div q3 ql)

/-- An edge is that of its two ends. -/
theorem edge_apply (i : FVec Ideal S128x20 .f32) (g : FVec Ideal S2048x20 .f32) (pew : FVec Ideal S66x16 .f32) (peb : FVec Ideal S1x16 .f32)
    (ew : FVec Ideal S167x128 .f32) (lng lnb : FVec Ideal S1x128 .f32) (ik : IVec S128x1 32) (v : FVec Ideal S128x1 .f32)
    (r : Fin 128) (ei ej : Spec.End) (hi : Reads i r ei) (hj : Reads (pick g ik) r ej) (o : Fin 128) :
    edge i g pew peb ew lng lnb ik v (ix3 0 r o) =
      Spec.edge (Spec.feat ei ej (v (ix2 r 0)) (fun a b => pew (ix2 a b)) (fun b => peb (ix2 0 b))) (fun a b => ew (ix2 a b))
        (fun o => lng (ix2 0 o)) (fun o => lnb (ix2 0 o)) o := by
  unfold edge
  pointwise []
  rw [layer_apply]
  unfold Spec.edge
  congr 1
  funext o
  pointwise []
  exact Finset.sum_congr rfl fun c _ => congrArg (· * ew (ix2 c o)) (feat_apply i (pick g ik) v pew peb r ei ej hi hj c)
end Cert.KernelIdeal.Edge
end
-- ==== Proof.Tile.lean ====
module

public import proofs.«01_k».proof.Proof.Bridge
public import proofs.«01_k».proof.Proof.Row
public import proofs.«01_k».proof.Proof.Near

@[expose] public section
set_option maxRecDepth 16384
noncomputable section
namespace Cert.KernelIdeal.Edge
open Idealize.ShloMosaic Idealize.SL.Sem Cert.KernelIdeal Cert.KernelIdeal.Gen

variable (x0 : Vec Ideal S1x3x2048 .f32) (x1 : Vec Ideal S1x2048x20 .f32) (x2 : Vec Ideal S1x128x20 .f32) (x3 : Vec Ideal S1x1x2048 .f32) (x4 : Vec Ideal S1x128x1 .f32)
  (x5 : Vec Ideal S66x16 .f32) (x6 : Vec Ideal S1x16 .f32) (x7 : Vec Ideal S167x128 .f32) (x8 x9 : Vec Ideal S1x128 .f32)

/-- The place of the `k`-th smallest number of a row. -/
theorem rowArg_rank (d : FVec Ideal S128x2048 .f32) (r : Fin 128) (hf : ∀ l, d (ix2 r l) < ⊤) (k : ℕ) (hk : k < 2048) :
    rowArg (rounds d k) (ix2 r 0) = BitVec.ofNat 32 (Select.rank (fun l => d (ix2 r l)) ⟨k, hk⟩).val := by
  rw [rowArg_apply, ← Select.fold_position _ hf ⟨k, hk⟩, ← Select.fold_left (fun l => d (ix2 r l)) ⟨k, hk⟩, ← rounds_apply d r hf k (by omega)]
/-- The `k`-th smallest number of a row. -/
theorem rowMin_rank (d : FVec Ideal S128x2048 .f32) (r : Fin 128) (hf : ∀ l, d (ix2 r l) < ⊤) (k : ℕ) (hk : k < 2048) :
    rowMin (rounds d k) (ix2 r 0) = d (ix2 r (Select.rank (fun l => d (ix2 r l)) ⟨k, hk⟩)) := by
  rw [rowMin_apply]
  exact (congrArg (fun f => Finset.univ.fold min ⊤ f) (rounds_apply d r hf k (by omega))).trans (Select.fold_left (fun l => d (ix2 r l)) ⟨k, hk⟩)

/-- The adjusted distances of a block, read. -/
theorem start_apply (X : Fin 2048 → Fin 3 → EReal) (M : Fin 2048 → EReal) (l : Fin 2048) (r : Fin 128)
    (h0 : ∀ (a : Fin 3) j, x0 (ix3 0 a j) = X j a) (h2 : ∀ a : Fin 3, x2 (ix3 0 r ⟨a.val, by omega⟩) = X l a)
    (h3 : ∀ j, x3 (ix3 0 0 j) = M j) (h4 : x4 (ix3 0 r 0) = M l) (j : Fin 2048) :
    start x0 x1 x2 x3 x4 x5 x6 x7 x8 x9 (ix2 r j) = Spec.apart X M l j := by
  pointwise [start, k0_pay9, k0_pay1647, k0_pay1649, k0_pay1650, k0_pay1651, k0_pay4, k0_pay6, k0_pay7, k0_pay8, k0_pay5, k0_pay2]
  have a0 : x2 (ix3 0 r 0) = X l 0 := h2 0
  have a1 : x2 (ix3 0 r 1) = X l 1 := h2 1
  have a2 : x2 (ix3 0 r 2) = X l 2 := h2 2
  simp only [a0, a1, a2, h0, h3, h4, Spec.apart]
  simp only [show Spec.full X M l = fun j => M l * M j * Spec.dist (X l) (X j) from rfl, Spec.dist, Fin.sum_univ_three]

/-- The table as the tile reads it. -/
theorem table_apply (j : Fin 2048) (c : Fin 20) : k0_pay1646 x0 x1 x2 x3 x4 x5 x6 x7 x8 x9 (ix2 j c) = x1 (ix3 0 j c) := by
  pointwise [k0_pay1646, k0_pay3]
/-- The rows of the block's residues as the tile reads them. -/
theorem rows_apply (r : Fin 128) (c : Fin 20) : k0_pay1648 x0 x1 x2 x3 x4 x5 x6 x7 x8 x9 (ix2 r c) = x2 (ix3 0 r c) := by
  pointwise [k0_pay1648, k0_pay5]
/-- The weights as the tile reads them. -/
theorem weights_apply (a : Fin 66) (b : Fin 16) (c : Fin 167) (o : Fin 128) :
    View.ld x5 r0_6 (ix2 a b) = x5 (ix2 a b) ∧ k0_pay1704 x0 x1 x2 x3 x4 x5 x6 x7 x8 x9 (ix2 0 b) = x6 (ix2 0 b) ∧ View.ld x7 r0_8 (ix2 c o) = x7 (ix2 c o)
      ∧ k0_pay1705 x0 x1 x2 x3 x4 x5 x6 x7 x8 x9 (ix2 0 o) = x8 (ix2 0 o) ∧ k0_pay1706 x0 x1 x2 x3 x4 x5 x6 x7 x8 x9 (ix2 0 o) = x9 (ix2 0 o) := by
  refine ⟨?_, ?_, ?_, ?_, ?_⟩
  all_goals pointwise [k0_pay1704, k0_pay1705, k0_pay1706, k0_pay112, k0_pay113, k0_pay114]

/-- A row of the table holds what an edge is computed from at one end. -/
structure Holds (f : Fin 20 → EReal) (e : Spec.End) : Prop where
  here : ∀ x : Fin 3, f ⟨x.val, by omega⟩ = e.here x
  before : ∀ x : Fin 3, f ⟨3 + x.val, by omega⟩ = e.before x
  after : ∀ x : Fin 3, f ⟨6 + x.val, by omega⟩ = e.after x
  frame : ∀ a x : Fin 3, f ⟨9 + (3 * a.val + x.val), by omega⟩ = e.frame a x
  resid : f 18 = Spec.real e.resid
  chain : f 19 = Spec.real e.chain
  small : e.resid.toNat < 2048

/-- A row of a tile of the table, from the row of the table. -/
theorem Holds.reads {f : Fin 20 → EReal} {e : Spec.End} (h : Holds f e) {t : FVec Ideal S128x20 .f32} {r : Fin 128} (ht : ∀ c, t (ix2 r c) = f c) : Reads t r e :=
  ⟨fun x => (ht _).trans (h.here x), fun x => (ht _).trans (h.before x), fun x => (ht _).trans (h.after x), fun a x => (ht _).trans (h.frame a x),
    (ht _).trans h.resid, (ht _).trans h.chain, h.small⟩

/-- Row `r` of the block is the residue `l`, over the points `X`, the mask `M` and the ends `E`. -/
structure Block (X : Fin 2048 → Fin 3 → EReal) (M : Fin 2048 → EReal) (E : Fin 2048 → Spec.End) (l : Fin 2048) (r : Fin 128) : Prop where
  points : ∀ (a : Fin 3) j, x0 (ix3 0 a j) = X j a
  ends : ∀ j, Holds (fun c => x1 (ix3 0 j c)) (E j)
  here : ∀ j, (E j).here = X j
  row : ∀ c, x2 (ix3 0 r c) = x1 (ix3 0 l c)
  mask : ∀ j, x3 (ix3 0 0 j) = M j
  mine : x4 (ix3 0 r 0) = M l
  finiteX : ∀ j a, Spec.Finite (X j a)
  finiteM : ∀ j, Spec.Finite (M j)

variable {x0 x1 x2 x3 x4} {X : Fin 2048 → Fin 3 → EReal} {M : Fin 2048 → EReal} {E : Fin 2048 → Spec.End} {l : Fin 2048} {r : Fin 128}
variable (B : Block x0 x1 x2 x3 x4 X M E l r)
include B

/-- The distances the tile starts from are the adjusted distances. -/
theorem Block.start_eq : (fun j => Edge.start x0 x1 x2 x3 x4 x5 x6 x7 x8 x9 (ix2 r j)) = Spec.apart X M l :=
  funext fun j => start_apply x0 x1 x2 x3 x4 x5 x6 x7 x8 x9 X M l r B.points
    (fun a => (B.row _).trans (((B.ends l).here a).trans (congrFun (B.here l) a))) B.mask B.mine j

/-- The distances the tile starts from lie below infinity. -/
theorem Block.below (j : Fin 2048) : Edge.start x0 x1 x2 x3 x4 x5 x6 x7 x8 x9 (ix2 r j) < ⊤ := by
  rw [show Edge.start x0 x1 x2 x3 x4 x5 x6 x7 x8 x9 (ix2 r j) = Spec.apart X M l j from congrFun (B.start_eq x5 x6 x7 x8 x9) j]
  exact Spec.apart_lt_top B.finiteX B.finiteM l j

/-- The number of the `k`-th neighbour. -/
theorem Block.index (k : ℕ) (hk : k < 2048) : rowArg (rounds (Edge.start x0 x1 x2 x3 x4 x5 x6 x7 x8 x9) k) (ix2 r 0) = BitVec.ofNat 32 (Select.rank (Spec.apart X M l) ⟨k, hk⟩).val := by
  rw [rowArg_rank _ r (B.below x5 x6 x7 x8 x9) k hk, B.start_eq]

/-- The distance of the `k`-th neighbour. -/
theorem Block.distance (k : ℕ) (hk : k < 2048) : rowMin (rounds (Edge.start x0 x1 x2 x3 x4 x5 x6 x7 x8 x9) k) (ix2 r 0) = Spec.apart X M l (Select.rank (Spec.apart X M l) ⟨k, hk⟩) := by
  rw [rowMin_rank _ r (B.below x5 x6 x7 x8 x9) k hk, B.start_eq]
  exact congrFun (B.start_eq x5 x6 x7 x8 x9) _

/-- The outputs of the `k`-th neighbour. -/
theorem Block.tile (k : ℕ) (hk : k < 2048) (o : Fin 128) :
    Edge.tile x0 x1 x2 x3 x4 x5 x6 x7 x8 x9 k (ix3 0 r o) =
      Spec.edge (Spec.feat (E l) (E (Select.rank (Spec.apart X M l) ⟨k, hk⟩)) (Spec.apart X M l (Select.rank (Spec.apart X M l) ⟨k, hk⟩)) (fun a b => x5 (ix2 a b)) (fun b => x6 (ix2 0 b)))
        (fun a b => x7 (ix2 a b)) (fun o => x8 (ix2 0 o)) (fun o => x9 (ix2 0 o)) o := by
  have hi : Reads (k0_pay1648 x0 x1 x2 x3 x4 x5 x6 x7 x8 x9) r (E l) := (B.ends l).reads fun c => (rows_apply x0 x1 x2 x3 x4 x5 x6 x7 x8 x9 r c).trans (B.row c)
  have hj : Reads (pick (k0_pay1646 x0 x1 x2 x3 x4 x5 x6 x7 x8 x9) (rowArg (rounds (Edge.start x0 x1 x2 x3 x4 x5 x6 x7 x8 x9) k))) r (E (Select.rank (Spec.apart X M l) ⟨k, hk⟩)) :=
    (B.ends _).reads fun c => (pick_apply _ _ r c _ (B.index x5 x6 x7 x8 x9 k hk)).trans (table_apply x0 x1 x2 x3 x4 x5 x6 x7 x8 x9 _ c)
  refine (edge_apply _ _ _ _ _ _ _ _ _ r _ _ hi hj o).trans ?_
  rw [B.distance x5 x6 x7 x8 x9 k hk]
  have hw := weights_apply x0 x1 x2 x3 x4 x5 x6 x7 x8 x9
  simp only [(hw _ _ 0 0).1, (hw 0 _ 0 0).2.1, (hw 0 0 _ _).2.2.1, (hw 0 0 0 _).2.2.2.1, (hw 0 0 0 _).2.2.2.2]
end Cert.KernelIdeal.Edge
end
-- ==== Proof.Host.lean ====
module

public import proofs.«01_k».proof.Proof.Gen.KernelIdeal.Value
public import proofs.«01_k».proof.Proof.Gen.ReferenceIdeal.Run
public import Idealize.ShloMosaic.Lib.Claim
public import Idealize.ShloMosaic.Lib.Pointwise

@[expose] public section
set_option maxRecDepth 16384
noncomputable section
namespace Cert.KernelIdeal.Host
open Idealize.ShloMosaic Idealize.SL.Sem Cert.KernelIdeal Cert.KernelIdeal.Gen Idealize.ShloMosaic.TcCoe Idealize.ShloMosaic.StableHlo

/-- The reference's program in its own signature. -/
abbrev RVal (F : FTy → Type) [FloatOps F] [Named F] := Valuation Cert.ReferenceIdeal.τ Cert.ReferenceIdeal.sig (Elt F)

variable {F : FTy → Type} [FloatOps F] [Named F]
variable (W : Valuation τ sig (Elt F)) (R : RVal F)

/-- The host's operations before the kernel, in five parts: up to the unit steps, their cross products, the two
    normalized vectors, the third axis, and the table. -/
abbrev lineA : List (HloOp τ sig (Elt F)) := hostOps0 ++ (hostOps0_1 ++ (hostOps0_2 ++ (hostOps0_3 ++ hostOps0_4)))
/-- The host operations of the first cross product. -/
abbrev lineB : List (HloOp τ sig (Elt F)) := hostOps0_5
/-- The host operations between the cross products. -/
abbrev lineC : List (HloOp τ sig (Elt F)) := hostOps0_6 ++ (hostOps0_7 ++ (hostOps0_8 ++ hostOps0_9))
/-- The host operations of the second cross product. -/
abbrev lineD : List (HloOp τ sig (Elt F)) := hostOps0_10
/-- The host operations after the cross products. -/
abbrev lineE : List (HloOp τ sig (Elt F)) := hostOps0_11 ++ (hostOps0_12 ++ hostOps0_13)

section A
variable (h0 : (W (Proc.devRef .tc main_arg0) : FVec F S2x2048x3 .f32) = R (Proc.devRef .tc Cert.ReferenceIdeal.main_arg0))
include h0
/-- The first of two consecutive unit steps is the reference's. -/
theorem lineA_v26 : (after lineA W (Proc.devRef .tc main_v26) : FVec F S2x2045x3 .f32) = Cert.ReferenceIdeal.Value.res_main_v51 R := by
  simp only [lineA, hostOps0, hostOps0_1, hostOps0_2, hostOps0_3, hostOps0_4, List.cons_append, List.nil_append]
  after_results
  rw [h0]
  rfl
/-- The second of two consecutive unit steps is the reference's. -/
theorem lineA_v27 : (after lineA W (Proc.devRef .tc main_v27) : FVec F S2x2045x3 .f32) = Cert.ReferenceIdeal.Value.res_main_v52 R := by
  simp only [lineA, hostOps0, hostOps0_1, hostOps0_2, hostOps0_3, hostOps0_4, List.cons_append, List.nil_append]
  after_results
  rw [h0]
  rfl
/-- The points before are the reference's. -/
theorem lineA_v3 : (after lineA W (Proc.devRef .tc main_v3) : FVec F S2x2048x3 .f32) = Cert.ReferenceIdeal.Value.res_main_v28 R := by
  simp only [lineA, hostOps0, hostOps0_1, hostOps0_2, hostOps0_3, hostOps0_4, List.cons_append, List.nil_append]
  after_results
  rw [h0]
  rfl
/-- The points after are the reference's. -/
theorem lineA_v7 : (after lineA W (Proc.devRef .tc main_v7) : FVec F S2x2048x3 .f32) = Cert.ReferenceIdeal.Value.res_main_v32 R := by
  simp only [lineA, hostOps0, hostOps0_1, hostOps0_2, hostOps0_3, hostOps0_4, List.cons_append, List.nil_append]
  after_results
  rw [h0]
  rfl
end A

/-- One coordinate of a vector array. -/
def coord (k : ℕ) (h : S2x2045x3.Slices ![0, 0, k] S2x2045x1) (a : FVec F S2x2045x3 .f32) : FVec F S2x2045 .f32 :=
  shapeCast S2x2045 (extractStridedSlice S2x2045x1 ![0, 0, k] a h) shapeCasts_S2x2045x1_S2x2045

/-- The three coordinates of the cross products. -/
def cross0 (a b : FVec F S2x2045x3 .f32) : FVec F S2x2045 .f32 :=
  subf (mulf (coord 1 slices_S2x2045x3_S2x2045x1_0_0_1 a) (coord 2 slices_S2x2045x3_S2x2045x1_0_0_2 b))
    (mulf (coord 2 slices_S2x2045x3_S2x2045x1_0_0_2 a) (coord 1 slices_S2x2045x3_S2x2045x1_0_0_1 b))
/-- The second component of a cross product. -/
def cross1 (a b : FVec F S2x2045x3 .f32) : FVec F S2x2045 .f32 :=
  subf (mulf (coord 2 slices_S2x2045x3_S2x2045x1_0_0_2 a) (coord 0 slices_S2x2045x3_S2x2045x1_0_0_0 b))
    (mulf (coord 0 slices_S2x2045x3_S2x2045x1_0_0_0 a) (coord 2 slices_S2x2045x3_S2x2045x1_0_0_2 b))
/-- The third component of a cross product. -/
def cross2 (a b : FVec F S2x2045x3 .f32) : FVec F S2x2045 .f32 :=
  subf (mulf (coord 0 slices_S2x2045x3_S2x2045x1_0_0_0 a) (coord 1 slices_S2x2045x3_S2x2045x1_0_0_1 b))
    (mulf (coord 1 slices_S2x2045x3_S2x2045x1_0_0_1 a) (coord 0 slices_S2x2045x3_S2x2045x1_0_0_0 b))

/-- The cross products, the coordinates set along the last axis. -/
def crossLast (a b : FVec F S2x2045x3 .f32) : FVec F S2x2045x3 .f32 :=
  concatenate S2x2045x3 2 [⟨S2x2045x1, broadcastInDim S2x2045x1 ![0, 1] Cert.ReferenceIdeal.Gen.bcast_S2x2045_S2x2045x1_0_1 (cross0 a b)⟩,
    ⟨S2x2045x1, broadcastInDim S2x2045x1 ![0, 1] Cert.ReferenceIdeal.Gen.bcast_S2x2045_S2x2045x1_0_1 (cross1 a b)⟩,
    ⟨S2x2045x1, broadcastInDim S2x2045x1 ![0, 1] Cert.ReferenceIdeal.Gen.bcast_S2x2045_S2x2045x1_0_1 (cross2 a b)⟩]
    Cert.ReferenceIdeal.Gen.concatenates_S2x2045x1_S2x2045x1_S2x2045x1_S2x2045x3_d2

/-- Three arrays set along a new first axis, which is then made the last. -/
def stack (x y z : FVec F S1x2x2045 .f32) : FVec F S2x2045x3 .f32 :=
  transpose S2x2045x3 [1, 2, 0] (concatenate S3x2x2045 0 [⟨S1x2x2045, x⟩, ⟨S1x2x2045, y⟩, ⟨S1x2x2045, z⟩]
    concatenates_S1x2x2045_S1x2x2045_S1x2x2045_S3x2x2045_d0) transposes_S3x2x2045_S2x2045x3_1_2_0

/-- The kernel's cross product, stacked and moved, is the reference's. -/
theorem stack_cross (a b : FVec F S2x2045x3 .f32) :
    stack (broadcastInDim S1x2x2045 ![1, 2] bcast_S2x2045_S1x2x2045_1_2 (cross0 a b)) (broadcastInDim S1x2x2045 ![1, 2] bcast_S2x2045_S1x2x2045_1_2 (cross1 a b))
      (broadcastInDim S1x2x2045 ![1, 2] bcast_S2x2045_S1x2x2045_1_2 (cross2 a b)) = crossLast a b := by
  funext i
  idx_vars i
  pointwise [stack, crossLast]

/-- The first part of the first cross product. -/
abbrev lineB1 : List (HloOp τ sig (Elt F)) := lineB.take 24
/-- The rest of the first cross product. -/
abbrev lineB2 : List (HloOp τ sig (Elt F)) := lineB.drop 24
/-- The first part of the second cross product. -/
abbrev lineD1 : List (HloOp τ sig (Elt F)) := lineD.take 24
/-- The rest of the second cross product. -/
abbrev lineD2 : List (HloOp τ sig (Elt F)) := lineD.drop 24

/-- The three components of the first cross product. -/
theorem lineB1_parts : (after lineB1 W (Proc.devRef .tc main_call2_v21) : FVec F S1x2x2045 .f32) =
      broadcastInDim S1x2x2045 ![1, 2] bcast_S2x2045_S1x2x2045_1_2 (cross0 (W (Proc.devRef .tc main_v26)) (W (Proc.devRef .tc main_v27)))
    ∧ (after lineB1 W (Proc.devRef .tc main_call2_v22) : FVec F S1x2x2045 .f32) =
      broadcastInDim S1x2x2045 ![1, 2] bcast_S2x2045_S1x2x2045_1_2 (cross1 (W (Proc.devRef .tc main_v26)) (W (Proc.devRef .tc main_v27)))
    ∧ (after lineB1 W (Proc.devRef .tc main_call2_v23) : FVec F S1x2x2045 .f32) =
      broadcastInDim S1x2x2045 ![1, 2] bcast_S2x2045_S1x2x2045_1_2 (cross2 (W (Proc.devRef .tc main_v26)) (W (Proc.devRef .tc main_v27))) := by
  simp only [lineB1, lineB, hostOps0_5, List.take_succ_cons, List.take_zero]
  refine ⟨?_, ?_, ?_⟩ <;> after_results <;> rfl
/-- The first cross product is its components, stacked. -/
theorem lineB2_v28 : (after lineB2 W (Proc.devRef .tc main_v28) : FVec F S2x2045x3 .f32) =
    stack (W (Proc.devRef .tc main_call2_v21)) (W (Proc.devRef .tc main_call2_v22)) (W (Proc.devRef .tc main_call2_v23)) := by
  simp only [lineB2, lineB, hostOps0_5, List.drop_succ_cons, List.drop_zero]
  after_results
  rfl
/-- The three components of the second cross product. -/
theorem lineD1_parts : (after lineD1 W (Proc.devRef .tc main_call5_v21) : FVec F S1x2x2045 .f32) =
      broadcastInDim S1x2x2045 ![1, 2] bcast_S2x2045_S1x2x2045_1_2 (cross0 (W (Proc.devRef .tc main_v39)) (W (Proc.devRef .tc main_v33)))
    ∧ (after lineD1 W (Proc.devRef .tc main_call5_v22) : FVec F S1x2x2045 .f32) =
      broadcastInDim S1x2x2045 ![1, 2] bcast_S2x2045_S1x2x2045_1_2 (cross1 (W (Proc.devRef .tc main_v39)) (W (Proc.devRef .tc main_v33)))
    ∧ (after lineD1 W (Proc.devRef .tc main_call5_v23) : FVec F S1x2x2045 .f32) =
      broadcastInDim S1x2x2045 ![1, 2] bcast_S2x2045_S1x2x2045_1_2 (cross2 (W (Proc.devRef .tc main_v39)) (W (Proc.devRef .tc main_v33))) := by
  simp only [lineD1, lineD, hostOps0_10, List.take_succ_cons, List.take_zero]
  refine ⟨?_, ?_, ?_⟩ <;> after_results <;> rfl
/-- The second cross product is its components, stacked. -/
theorem lineD2_v40 : (after lineD2 W (Proc.devRef .tc main_v40) : FVec F S2x2045x3 .f32) =
    stack (W (Proc.devRef .tc main_call5_v21)) (W (Proc.devRef .tc main_call5_v22)) (W (Proc.devRef .tc main_call5_v23)) := by
  simp only [lineD2, lineD, hostOps0_10, List.drop_succ_cons, List.drop_zero]
  after_results
  rfl

/-- A line of operations runs as its first part, then the rest. -/
theorem after_split (l : List (HloOp τ sig (Elt F))) (n : ℕ) : after l W = after (l.drop n) (after (l.take n) W) := by
  conv_lhs => rw [← List.take_append_drop n l]
  exact after_append _ _ _

/-- The cross products of the unit steps. -/
theorem lineB_v28 (h26 : (W (Proc.devRef .tc main_v26) : FVec F S2x2045x3 .f32) = Cert.ReferenceIdeal.Value.res_main_v51 R)
    (h27 : (W (Proc.devRef .tc main_v27) : FVec F S2x2045x3 .f32) = Cert.ReferenceIdeal.Value.res_main_v52 R) :
    (after lineB W (Proc.devRef .tc main_v28) : FVec F S2x2045x3 .f32) = Cert.ReferenceIdeal.Value.res_main_v77 R := by
  rw [after_split W lineB 24]
  obtain ⟨e0, e1, e2⟩ := lineB1_parts W
  refine (lineB2_v28 _).trans ?_
  rw [e0, e1, e2, stack_cross, h26, h27]
  rfl
/-- The third axis. -/
theorem lineD_v40 : (after lineD W (Proc.devRef .tc main_v40) : FVec F S2x2045x3 .f32) = crossLast (W (Proc.devRef .tc main_v39)) (W (Proc.devRef .tc main_v33)) := by
  rw [after_split W lineD 24]
  obtain ⟨e0, e1, e2⟩ := lineD1_parts W
  refine (lineD2_v40 _).trans ?_
  rw [e0, e1, e2, stack_cross]
/-- The normals are the reference's. -/
theorem lineC_v33 (h28 : (W (Proc.devRef .tc main_v28) : FVec F S2x2045x3 .f32) = Cert.ReferenceIdeal.Value.res_main_v77 R) :
    (after lineC W (Proc.devRef .tc main_v33) : FVec F S2x2045x3 .f32) = Cert.ReferenceIdeal.Value.res_main_v82 R := by
  simp only [lineC, hostOps0_6, hostOps0_7, hostOps0_8, hostOps0_9, List.cons_append, List.nil_append]
  after_results
  rw [h28]
  rfl
/-- The bisectors are the reference's. -/
theorem lineC_v39 (h26 : (W (Proc.devRef .tc main_v26) : FVec F S2x2045x3 .f32) = Cert.ReferenceIdeal.Value.res_main_v51 R)
    (h27 : (W (Proc.devRef .tc main_v27) : FVec F S2x2045x3 .f32) = Cert.ReferenceIdeal.Value.res_main_v52 R) :
    (after lineC W (Proc.devRef .tc main_v39) : FVec F S2x2045x3 .f32) = Cert.ReferenceIdeal.Value.res_main_v88 R := by
  simp only [lineC, hostOps0_6, hostOps0_7, hostOps0_8, hostOps0_9, List.cons_append, List.nil_append]
  after_results
  rw [h26, h27]
  rfl

/-- The later parts leave what is computed before them. -/
theorem lineB_keeps : (after lineB W (Proc.devRef .tc main_v26) = W (Proc.devRef .tc main_v26)) ∧ (after lineB W (Proc.devRef .tc main_v27) = W (Proc.devRef .tc main_v27))
    ∧ (after lineB W (Proc.devRef .tc main_v3) = W (Proc.devRef .tc main_v3)) ∧ (after lineB W (Proc.devRef .tc main_v7) = W (Proc.devRef .tc main_v7)) := by
  simp only [lineB, hostOps0_5]
  refine ⟨?_, ?_, ?_, ?_⟩ <;> after_results
/-- The operations between keep the points before and after. -/
theorem lineC_keeps : (after lineC W (Proc.devRef .tc main_v3) = W (Proc.devRef .tc main_v3)) ∧ (after lineC W (Proc.devRef .tc main_v7) = W (Proc.devRef .tc main_v7)) := by
  simp only [lineC, hostOps0_6, hostOps0_7, hostOps0_8, hostOps0_9, List.cons_append, List.nil_append]
  refine ⟨?_, ?_⟩ <;> after_results
/-- The second cross product keeps what was computed before. -/
theorem lineD_keeps : (after lineD W (Proc.devRef .tc main_v3) = W (Proc.devRef .tc main_v3)) ∧ (after lineD W (Proc.devRef .tc main_v7) = W (Proc.devRef .tc main_v7))
     ∧ (after lineD W (Proc.devRef .tc main_v33) = W (Proc.devRef .tc main_v33)) ∧ (after lineD W (Proc.devRef .tc main_v39) = W (Proc.devRef .tc main_v39)) := by
  simp only [lineD, hostOps0_10]
  refine ⟨?_, ?_, ?_, ?_⟩ <;> after_results
/-- The last operations keep the arguments. -/
theorem lineE_keeps : (after lineE W (Proc.devRef .tc main_arg0) = W (Proc.devRef .tc main_arg0)) ∧ (after lineE W (Proc.devRef .tc main_arg1) = W (Proc.devRef .tc main_arg1))
     ∧ (after lineE W (Proc.devRef .tc main_arg2) = W (Proc.devRef .tc main_arg2)) ∧ (after lineE W (Proc.devRef .tc main_arg3) = W (Proc.devRef .tc main_arg3))
     ∧ (after lineE W (Proc.devRef .tc main_arg5) = W (Proc.devRef .tc main_arg5)) ∧ (after lineE W (Proc.devRef .tc main_arg7) = W (Proc.devRef .tc main_arg7))
     ∧ (after lineE W (Proc.devRef .tc main_arg8) = W (Proc.devRef .tc main_arg8)) := by
  simp only [lineE, hostOps0_11, hostOps0_12, hostOps0_13, List.cons_append, List.nil_append]
  refine ⟨?_, ?_, ?_, ?_, ?_, ?_, ?_⟩ <;> after_results
/-- The table: points, previous and next points, frames, residue numbers and chains side by side. -/
def table (x p n : FVec F S2x2048x3 .f32) (o : FVec F S2x2048x9 .f32) (ri ch : IVec S2x2048 32) : FVec F S2x2048x20 .f32 :=
  concatenate S2x2048x20 2 [⟨S2x2048x3, x⟩, ⟨S2x2048x3, p⟩, ⟨S2x2048x3, n⟩, ⟨S2x2048x9, o⟩,
    ⟨S2x2048x1, broadcastInDim S2x2048x1 ![0, 1] bcast_S2x2048_S2x2048x1_0_1 (sitofp .f32 ri)⟩,
    ⟨S2x2048x1, broadcastInDim S2x2048x1 ![0, 1] bcast_S2x2048_S2x2048x1_0_1 (sitofp .f32 ch)⟩]
    concatenates_S2x2048x3_S2x2048x3_S2x2048x3_S2x2048x9_S2x2048x1_S2x2048x1_S2x2048x20_d2

/-- The frames: three axes set side by side, nine numbers to a point, zeros at the first point and the last two. -/
def frames (a b c : FVec F S2x2045x3 .f32) : FVec F S2x2048x9 .f32 :=
  pad S2x2048x9 ![0, 1, 0] ![0, 2, 0] ![0, 0, 0]
    (shapeCast S2x2045x9 (concatenate S2x2045x3x3 2
      [⟨S2x2045x1x3, broadcastInDim S2x2045x1x3 ![0, 1, 3] bcast_S2x2045x3_S2x2045x1x3_0_1_3 a⟩,
        ⟨S2x2045x1x3, broadcastInDim S2x2045x1x3 ![0, 1, 3] bcast_S2x2045x3_S2x2045x1x3_0_1_3 b⟩,
        ⟨S2x2045x1x3, broadcastInDim S2x2045x1x3 ![0, 1, 3] bcast_S2x2045x3_S2x2045x1x3_0_1_3 c⟩]
      concatenates_S2x2045x1x3_S2x2045x1x3_S2x2045x1x3_S2x2045x3x3_d2) shapeCasts_S2x2045x3x3_S2x2045x9)
    (sitofp .f32 (constantI S_ 32 0#32)) pads_S2x2045x9_S2x2048x9_000_120_000 h_S_

/-- The frames are the three axes, joined and padded. -/
theorem lineE_frames : (after lineE W (Proc.devRef .tc main_v46) : FVec F S2x2048x9 .f32) =
    frames (W (Proc.devRef .tc main_v39)) (W (Proc.devRef .tc main_v33)) (W (Proc.devRef .tc main_v40)) := by
  simp only [lineE, hostOps0_11, hostOps0_12, hostOps0_13, List.cons_append, List.nil_append]
  after_results
  rfl
/-- The frames are the reference's. -/
theorem lineE_v46 (h39 : (W (Proc.devRef .tc main_v39) : FVec F S2x2045x3 .f32) = Cert.ReferenceIdeal.Value.res_main_v88 R)
    (h33 : (W (Proc.devRef .tc main_v33) : FVec F S2x2045x3 .f32) = Cert.ReferenceIdeal.Value.res_main_v82 R)
    (h40 : (W (Proc.devRef .tc main_v40) : FVec F S2x2045x3 .f32) = crossLast (Cert.ReferenceIdeal.Value.res_main_v88 R) (Cert.ReferenceIdeal.Value.res_main_v82 R)) :
    (after lineE W (Proc.devRef .tc main_v46) : FVec F S2x2048x9 .f32) = Cert.ReferenceIdeal.Value.res_main_v119 R := by
  rw [lineE_frames, h39, h33, h40]
  rfl
/-- The table is the points, the frames, the residue numbers and the chains, joined. -/
theorem lineE_v51 : (after lineE W (Proc.devRef .tc main_v51) : FVec F S2x2048x20 .f32) =
    table (W (Proc.devRef .tc main_arg0)) (W (Proc.devRef .tc main_v3)) (W (Proc.devRef .tc main_v7)) (after lineE W (Proc.devRef .tc main_v46))
      (W (Proc.devRef .tc main_arg2)) (W (Proc.devRef .tc main_arg3)) := by
  simp only [lineE, hostOps0_11, hostOps0_12, hostOps0_13, List.cons_append, List.nil_append]
  after_results
  rfl
/-- The other arrays that the kernel is called on are the arguments, laid out. -/
theorem lineE_rest : (after lineE W (Proc.devRef .tc main_v52) : FVec F S2x3x2048 .f32) = transpose S2x3x2048 [0, 2, 1] (W (Proc.devRef .tc main_arg0)) transposes_S2x2048x3_S2x3x2048_0_2_1
    ∧ (after lineE W (Proc.devRef .tc main_v53) : FVec F S2x1x2048 .f32) = shapeCast _ (W (Proc.devRef .tc main_arg1)) shapeCasts_S2x2048_S2x1x2048
    ∧ (after lineE W (Proc.devRef .tc main_v54) : FVec F S2x2048x1 .f32) = shapeCast _ (W (Proc.devRef .tc main_arg1)) shapeCasts_S2x2048_S2x2048x1
    ∧ (after lineE W (Proc.devRef .tc main_v55) : FVec F S1x16 .f32) = shapeCast _ (W (Proc.devRef .tc main_arg5)) shapeCasts_S16_S1x16
    ∧ (after lineE W (Proc.devRef .tc main_v56) : FVec F S1x128 .f32) = shapeCast _ (W (Proc.devRef .tc main_arg7)) shapeCasts_S128_S1x128
    ∧ (after lineE W (Proc.devRef .tc main_v57) : FVec F S1x128 .f32) = shapeCast _ (W (Proc.devRef .tc main_arg8)) shapeCasts_S128_S1x128 := by
  simp only [lineE, hostOps0_11, hostOps0_12, hostOps0_13, List.cons_append, List.nil_append]
  refine ⟨?_, ?_, ?_, ?_, ?_, ?_⟩ <;> after_results <;> rfl

section whole
variable (m : (ℓ : Loc nD τ sig) → Buf (Elt F) ℓ) (c : Dev nD)

/-- The host's values before the table is put together. -/
abbrev before : Valuation τ sig (Elt F) := after lineD (after lineC (after lineB (after lineA fun b => m (c, b))))

/-- The contents on entry are what the last operations leave. -/
theorem line_split (b : Ref sig .tc) : V m c b = after lineE (before m c) (Proc.devRef .tc b) := by
  have h : List.flatten [hostOps0, hostOps0_1, hostOps0_2, hostOps0_3, hostOps0_4, hostOps0_5, hostOps0_6, hostOps0_7, hostOps0_8, hostOps0_9, hostOps0_10, hostOps0_11, hostOps0_12, hostOps0_13]
      = (lineA ++ (lineB ++ (lineC ++ (lineD ++ lineE))) : List (HloOp τ sig (Elt F))) := by
    simp only [List.flatten_cons, List.flatten_nil, List.append_assoc, List.append_nil, lineA, lineB, lineC, lineD, lineE]
  show after (List.flatten _) _ _ = _
  rw [h, after_append, after_append, after_append, after_append]

/-- An argument the last part leaves alone is as launched. -/
theorem before_args : (before m c (Proc.devRef .tc main_arg0) = m ((c : Thread nD τ).loc main_arg0)) ∧ (before m c (Proc.devRef .tc main_arg1) = m ((c : Thread nD τ).loc main_arg1))
     ∧ (before m c (Proc.devRef .tc main_arg2) = m ((c : Thread nD τ).loc main_arg2)) ∧ (before m c (Proc.devRef .tc main_arg3) = m ((c : Thread nD τ).loc main_arg3))
     ∧ (before m c (Proc.devRef .tc main_arg5) = m ((c : Thread nD τ).loc main_arg5)) ∧ (before m c (Proc.devRef .tc main_arg7) = m ((c : Thread nD τ).loc main_arg7))
     ∧ (before m c (Proc.devRef .tc main_arg8) = m ((c : Thread nD τ).loc main_arg8)) := by
  obtain ⟨h0, h1, h2, h3, h5, h7, h8⟩ := lineE_keeps (before m c)
  exact ⟨h0.symm.trans ((line_split m c main_arg0).symm.trans (V_main_arg0 m c)), h1.symm.trans ((line_split m c main_arg1).symm.trans (V_main_arg1 m c)),
    h2.symm.trans ((line_split m c main_arg2).symm.trans (V_main_arg2 m c)), h3.symm.trans ((line_split m c main_arg3).symm.trans (V_main_arg3 m c)),
    h5.symm.trans ((line_split m c main_arg5).symm.trans (V_main_arg5 m c)), h7.symm.trans ((line_split m c main_arg7).symm.trans (V_main_arg7 m c)),
    h8.symm.trans ((line_split m c main_arg8).symm.trans (V_main_arg8 m c))⟩

/-- The table the kernel is given, in the reference's terms. -/
theorem entry_table (h0 : (m ((c : Thread nD τ).loc main_arg0) : FVec F S2x2048x3 .f32) = R (Proc.devRef .tc Cert.ReferenceIdeal.main_arg0)) :
    (V m c main_v51 : FVec F S2x2048x20 .f32) = table (m ((c : Thread nD τ).loc main_arg0)) (Cert.ReferenceIdeal.Value.res_main_v28 R) (Cert.ReferenceIdeal.Value.res_main_v32 R)
      (Cert.ReferenceIdeal.Value.res_main_v119 R) (m ((c : Thread nD τ).loc main_arg2)) (m ((c : Thread nD τ).loc main_arg3)) := by
  have a26 := lineA_v26 (fun b => m (c, b)) R h0
  have a27 := lineA_v27 (fun b => m (c, b)) R h0
  have a3 := lineA_v3 (fun b => m (c, b)) R h0
  have a7 := lineA_v7 (fun b => m (c, b)) R h0
  obtain ⟨b26, b27, b3, b7⟩ := lineB_keeps (after lineA fun b => m (c, b))
  have b28 := lineB_v28 (after lineA fun b => m (c, b)) R a26 a27
  obtain ⟨c3, c7⟩ := lineC_keeps (after lineB (after lineA fun b => m (c, b)))
  have c33 := lineC_v33 (after lineB (after lineA fun b => m (c, b))) R b28
  have c39 := lineC_v39 (after lineB (after lineA fun b => m (c, b))) R (b26.trans a26) (b27.trans a27)
  obtain ⟨d3, d7, d33, d39⟩ := lineD_keeps (after lineC (after lineB (after lineA fun b => m (c, b))))
  have d40 := lineD_v40 (after lineC (after lineB (after lineA fun b => m (c, b))))
  rw [c39, c33] at d40
  have e46 := lineE_v46 (before m c) R (d39.trans c39) (d33.trans c33) d40
  have e51 := lineE_v51 (before m c)
  obtain ⟨g0, -, g2, g3, -, -, -⟩ := before_args m c
  have f3 : before m c (Proc.devRef .tc main_v3) = _ := d3.trans (c3.trans (b3.trans a3))
  have f7 : before m c (Proc.devRef .tc main_v7) = _ := d7.trans (c7.trans (b7.trans a7))
  rw [e46, g0, g2, g3, f3, f7] at e51
  exact (line_split m c main_v51).trans e51

/-- The other arrays the kernel is given. -/
theorem entry_rest : (V m c main_v52 : FVec F S2x3x2048 .f32) = transpose S2x3x2048 [0, 2, 1] (m ((c : Thread nD τ).loc main_arg0)) transposes_S2x2048x3_S2x3x2048_0_2_1
    ∧ (V m c main_v53 : FVec F S2x1x2048 .f32) = shapeCast _ (m ((c : Thread nD τ).loc main_arg1)) shapeCasts_S2x2048_S2x1x2048
    ∧ (V m c main_v54 : FVec F S2x2048x1 .f32) = shapeCast _ (m ((c : Thread nD τ).loc main_arg1)) shapeCasts_S2x2048_S2x2048x1
    ∧ (V m c main_v55 : FVec F S1x16 .f32) = shapeCast _ (m ((c : Thread nD τ).loc main_arg5)) shapeCasts_S16_S1x16
    ∧ (V m c main_v56 : FVec F S1x128 .f32) = shapeCast _ (m ((c : Thread nD τ).loc main_arg7)) shapeCasts_S128_S1x128
    ∧ (V m c main_v57 : FVec F S1x128 .f32) = shapeCast _ (m ((c : Thread nD τ).loc main_arg8)) shapeCasts_S128_S1x128 := by
  obtain ⟨e52, e53, e54, e55, e56, e57⟩ := lineE_rest (before m c)
  obtain ⟨g0, g1, -, -, g5, g7, g8⟩ := before_args m c
  rw [g0] at e52
  rw [g1] at e53 e54
  rw [g5] at e55
  rw [g7] at e56
  rw [g8] at e57
  exact ⟨(line_split m c main_v52).trans e52, (line_split m c main_v53).trans e53, (line_split m c main_v54).trans e54,
    (line_split m c main_v55).trans e55, (line_split m c main_v56).trans e56, (line_split m c main_v57).trans e57⟩
end whole
end Cert.KernelIdeal.Host
end
-- ==== Proof.Blocks.lean ====
module

public import proofs.«01_k».proof.Proof.Tile
public import proofs.«01_k».proof.Proof.Host
public import proofs.«01_k».proof.Proof.Gen.KernelIdeal.Value

@[expose] public section
set_option maxRecDepth 16384
noncomputable section
namespace Cert.KernelIdeal.Blocks
open Idealize.ShloMosaic Idealize.ShloMosaic.TcCoe Idealize.SL.Sem Cert.KernelIdeal Cert.KernelIdeal.Gen Cert.KernelIdeal.Edge
open Idealize.ShloMosaic.Pipeline (Dat)

/-- Where each window's block lies, at every point of the grid. -/
theorem places : ∀ t : Fin cfg0.N, win0_0.index t = ![t.val / 16, 0, 0] ∧ win0_1.index t = ![t.val / 16, 0, 0] ∧ win0_2.index t = ![t.val / 16, t.val % 16, 0]
    ∧ win0_3.index t = ![t.val / 16, 0, 0] ∧ win0_4.index t = ![t.val / 16, t.val % 16, 0] ∧ win0_5.index t = ![0, 0] ∧ win0_6.index t = ![0, 0] ∧ win0_7.index t = ![0, 0]
    ∧ win0_8.index t = ![0, 0] ∧ win0_9.index t = ![0, 0] ∧ win0_10.index t = ![t.val / 16, t.val % 16, 0] ∧ win0_11.index t = ![t.val / 16, t.val % 16, 0] :=
  (by decide +kernel : ∀ t : Fin grid0.N, _)

variable (m : (ℓ : Loc nD τ sig) → Buf (Elt Ideal) ℓ) (c : Dev nD) (t : Fin cfg0.N)

/-- The batch of a grid point. -/
def batch : Fin 2 := ⟨t.val / 16, by have : t.val < 32 := t.isLt; omega⟩
/-- The residue of row `r` of a grid point's block. -/
def residue (r : Fin 128) : Fin 2048 := ⟨t.val % 16 * 128 + r.val, by omega⟩

/-- The first window holds the batch's coordinates, transposed. -/
theorem block0 (a : Fin 3) (j : Fin 2048) : iblk m c 0 t (ix3 0 a j) = V m c main_v52 (ix3 (batch t) a j) := by
  have h := (places t).1
  blk_point [iblk, h, batch]
/-- The second window holds the batch's whole table. -/
theorem block1 (j : Fin 2048) (a : Fin 20) : iblk m c 1 t (ix3 0 j a) = V m c main_v51 (ix3 (batch t) j a) := by
  have h := (places t).2.1
  blk_point [iblk, h, batch]
/-- The third window holds the table's rows of the block's 128 residues. -/
theorem block2 (r : Fin 128) (a : Fin 20) : iblk m c 2 t (ix3 0 r a) = V m c main_v51 (ix3 (batch t) (residue t r) a) := by
  have h := (places t).2.2.1
  blk_point [iblk, h, batch, residue]
/-- The fourth window holds the batch's whole mask. -/
theorem block3 (j : Fin 2048) : iblk m c 3 t (ix3 0 0 j) = V m c main_v53 (ix3 (batch t) 0 j) := by
  have h := (places t).2.2.2.1
  blk_point [iblk, h, batch]
/-- The fifth window holds the mask of the block's residues. -/
theorem block4 (r : Fin 128) : iblk m c 4 t (ix3 0 r 0) = V m c main_v54 (ix3 (batch t) (residue t r) 0) := by
  have h := (places t).2.2.2.2.1
  blk_point [iblk, h, batch, residue]
/-- The sixth window holds the weights of the positional encoding. -/
theorem block5 (a : Fin 66) (b : Fin 16) : iblk m c 5 t (ix2 a b) = V m c main_arg4 (ix2 a b) := by
  have h := (places t).2.2.2.2.2.1
  blk_point [iblk, h]
/-- The seventh window holds the bias of the positional encoding. -/
theorem block6 (b : Fin 16) : iblk m c 6 t (ix2 0 b) = V m c main_v55 (ix2 0 b) := by
  have h := (places t).2.2.2.2.2.2.1
  blk_point [iblk, h]
/-- The eighth window holds the edge weights. -/
theorem block7 (a : Fin 167) (b : Fin 128) : iblk m c 7 t (ix2 a b) = V m c main_arg6 (ix2 a b) := by
  have h := (places t).2.2.2.2.2.2.2.1
  blk_point [iblk, h]
/-- The ninth window holds the normalisation's scale. -/
theorem block8 (b : Fin 128) : iblk m c 8 t (ix2 0 b) = V m c main_v56 (ix2 0 b) := by
  have h := (places t).2.2.2.2.2.2.2.2.1
  blk_point [iblk, h]
/-- The tenth window holds the normalisation's shift. -/
theorem block9 (b : Fin 128) : iblk m c 9 t (ix2 0 b) = V m c main_v57 (ix2 0 b) := by
  have h := (places t).2.2.2.2.2.2.2.2.2.1
  blk_point [iblk, h]

/-- The first result's array, from its blocks. -/
theorem final10 (G : FVec Ideal S2x2048x3840 .f32)
    (h : ∀ (t : Fin cfg0.N) (y : S1x128x3840.Idx), out0_10 (iblk m c 0 t) (iblk m c 1 t) (iblk m c 2 t) (iblk m c 3 t) (iblk m c 4 t) (iblk m c 5 t) (iblk m c 6 t) (iblk m c 7 t) (iblk m c 8 t) (iblk m c 9 t) y = G (ix3 (batch t) (residue t (y 1)) (y 2))) :
    (dats m 0 c).arrAt 10 (cfgs 0).N = G := by
  refine (dats m 0 c).arrAt_eq_of_covers 10 _ (by decide +kernel) fun t _ y => ?_
  have h := h t y
  have hp := (places t).2.2.2.2.2.2.2.2.2.2.1
  blk_simp
  rw [after0_10]
  refine h.trans (congrArg G ?_)
  blk_ext [hp, batch, residue]
/-- The second result's array, from its blocks. -/
theorem final11 (G : IVec S2x2048x30 32)
    (h : ∀ (t : Fin cfg0.N) (y : S1x128x30.Idx), out0_11 (iblk m c 0 t) (iblk m c 1 t) (iblk m c 2 t) (iblk m c 3 t) (iblk m c 4 t) (iblk m c 5 t) (iblk m c 6 t) (iblk m c 7 t) (iblk m c 8 t) (iblk m c 9 t) y = G (ix3 (batch t) (residue t (y 1)) (y 2))) :
    (dats m 0 c).arrAt 11 (cfgs 0).N = G := by
  refine (dats m 0 c).arrAt_eq_of_covers 11 _ (by decide +kernel) fun t _ y => ?_
  have h := h t y
  have hp := (places t).2.2.2.2.2.2.2.2.2.2.2
  blk_simp
  rw [after0_11]
  refine h.trans (congrArg G ?_)
  blk_ext [hp, batch, residue]
end Cert.KernelIdeal.Blocks
end
-- ==== Proof.Result.lean ====
module

public import proofs.«01_k».proof.Proof.Features
public import proofs.«01_k».proof.Proof.Blocks

@[expose] public section
set_option maxRecDepth 16384
noncomputable section
namespace Cert.KernelIdeal.Result
open Idealize.ShloMosaic Idealize.ShloMosaic.TcCoe Idealize.SL.Sem Cert.KernelIdeal Cert.KernelIdeal.Gen Cert.KernelIdeal.Edge Cert.KernelIdeal.Blocks
open Cert.ReferenceIdeal.Value (aX aM aR aC aW aB aE aG aH aN aP aO endAt endOf endAt_here endAt_before endAt_after endAt_frame endAt_resid endAt_chain away nbr)

section Table
variable (x p n : FVec Ideal S2x2048x3 .f32) (o : FVec Ideal S2x2048x9 .f32) (ri ch : IVec S2x2048 32) (b : Fin 2) (l : Fin 2048)
/-- A row of the table the kernel reads holds the residue's end. -/
theorem table_holds (h : (ri (ix2 b l)).toNat < 2048) : Holds (fun c => Host.table x p n o ri ch (ix3 b l c)) (endAt x p n o ri ch b l) where
  here a := by
    rw [endAt_here]
    fin_cases a <;> pointwise [Host.table]
  before a := by
    rw [endAt_before]
    fin_cases a <;> pointwise [Host.table]
  after a := by
    rw [endAt_after]
    fin_cases a <;> pointwise [Host.table]
  frame a e := by
    rw [endAt_frame]
    fin_cases a <;> fin_cases e <;> pointwise [Host.table]
  resid := by
    rw [endAt_resid]
    pointwise [Host.table]
    rfl
  chain := by
    rw [endAt_chain]
    pointwise [Host.table]
    rfl
  small := h
end Table

variable (m : (ℓ : Loc nD τ sig) → Buf (Elt Ideal) ℓ) (c : Dev nD) (R : Valuation Cert.ReferenceIdeal.τ Cert.ReferenceIdeal.sig (Elt Ideal))

/-- The two programs are run on the same arguments, which the claim's conditions hold of. -/
structure Agree : Prop where
  a0 : (m ((c : Thread nD τ).loc main_arg0) : FVec Ideal S2x2048x3 .f32) = aX R
  a1 : (m ((c : Thread nD τ).loc main_arg1) : FVec Ideal S2x2048 .f32) = aM R
  a2 : (m ((c : Thread nD τ).loc main_arg2) : IVec S2x2048 32) = aR R
  a3 : (m ((c : Thread nD τ).loc main_arg3) : IVec S2x2048 32) = aC R
  a4 : (m ((c : Thread nD τ).loc main_arg4) : FVec Ideal S66x16 .f32) = aW R
  a5 : (m ((c : Thread nD τ).loc main_arg5) : FVec Ideal S16 .f32) = aB R
  a6 : (m ((c : Thread nD τ).loc main_arg6) : FVec Ideal S167x128 .f32) = aE R
  a7 : (m ((c : Thread nD τ).loc main_arg7) : FVec Ideal S128 .f32) = aG R
  a8 : (m ((c : Thread nD τ).loc main_arg8) : FVec Ideal S128 .f32) = aH R
  finiteX : ∀ i, Spec.Finite (aX R i)
  finiteM : ∀ i, Spec.Finite (aM R i)
  small : ∀ i, (aR R i).toNat < 2048

variable {m c R} (A : Agree m c R)
include A

/-- The table on entry. -/
theorem Agree.table : (V m c main_v51 : FVec Ideal S2x2048x20 .f32) = Host.table (aX R) (aN R) (aP R) (aO R) (aR R) (aC R) := by
  rw [Host.entry_table R m c A.a0, A.a0, A.a2, A.a3]

/-- A row of a grid point's block is a residue. -/
theorem Agree.block (t : Fin cfg0.N) (r : Fin 128) :
    Block (iblk m c 0 t) (iblk m c 1 t) (iblk m c 2 t) (iblk m c 3 t) (iblk m c 4 t) (fun j a => aX R (ix3 (batch t) j a)) (fun j => aM R (ix2 (batch t) j))
      (fun j => endOf R (batch t) j) (residue t r) r where
  points a j := by
    refine (block0 m c t a j).trans ?_
    rw [(Host.entry_rest m c).1, A.a0]
    pointwise []
  ends j := by
    have h := table_holds (aX R) (aN R) (aP R) (aO R) (aR R) (aC R) (batch t) j (A.small _)
    rw [← A.table] at h
    have e : (fun a => iblk m c 1 t (ix3 0 j a)) = fun a => (V m c main_v51 : FVec Ideal S2x2048x20 .f32) (ix3 (batch t) j a) := funext fun a => block1 m c t j a
    exact e ▸ h
  here j := rfl
  row a := (block2 m c t r a).trans (block1 m c t (residue t r) a).symm
  mask j := by
    refine (block3 m c t j).trans ?_
    rw [(Host.entry_rest m c).2.1, A.a1]
    pointwise []
  mine := by
    refine (block4 m c t r).trans ?_
    rw [(Host.entry_rest m c).2.2.1, A.a1]
    pointwise []
  finiteX j a := A.finiteX _
  finiteM j := A.finiteM _

/-- The weights of a grid point. -/
theorem Agree.weights (t : Fin cfg0.N) (a : Fin 66) (b : Fin 16) (d : Fin 167) (o : Fin 128) :
    iblk m c 5 t (ix2 a b) = aW R (ix2 a b) ∧ iblk m c 6 t (ix2 0 b) = aB R (ix1 b) ∧ iblk m c 7 t (ix2 d o) = aE R (ix2 d o)
      ∧ iblk m c 8 t (ix2 0 o) = aG R (ix1 o) ∧ iblk m c 9 t (ix2 0 o) = aH R (ix1 o) := by
  obtain ⟨-, -, -, h5, h7, h8⟩ := Host.entry_rest m c
  refine ⟨(block5 m c t a b).trans ?_, (block6 m c t b).trans ?_, (block7 m c t d o).trans ?_, (block8 m c t o).trans ?_, (block9 m c t o).trans ?_⟩
  · rw [V_main_arg4, A.a4]
  · rw [h5, A.a5]; pointwise []
  · rw [V_main_arg6, A.a6]
  · rw [h7, A.a7]; pointwise []
  · rw [h8, A.a8]; pointwise []

/-- The first result: the edges of all neighbours. -/
theorem Agree.edges : (dats m 0 c).arrAt 10 (cfgs 0).N
    = shapeCast Cert.ReferenceIdeal.S2x2048x3840 (Cert.ReferenceIdeal.Value.scaledEdges R) Cert.ReferenceIdeal.Gen.shapeCasts_S2x2048x30x128_S2x2048x3840 := by
  refine final10 m c _ fun t y => ?_
  have hy : (y 2 : ℕ) < 3840 := (y 2).isLt
  have e := Cert.ReferenceIdeal.Value.result_apply R (batch t) (residue t (y 1)) ⟨(y 2 : ℕ) / 128, by omega⟩ ⟨(y 2 : ℕ) % 128, by omega⟩ (fun l => A.small _)
  have e2 : (⟨128 * ((y 2 : ℕ) / 128) + (y 2 : ℕ) % 128, by omega⟩ : Fin 3840) = y 2 := Fin.ext (Nat.div_add_mod _ _)
  rw [e2] at e
  refine Eq.trans ?_ e.symm
  rw [out10_apply]
  have e0 : y 0 = (0 : Fin 1) := Subsingleton.elim (α := Fin 1) _ _
  rw [e0]
  refine ((A.block t (y 1)).tile _ _ _ _ _ ((y 2 : ℕ) / 128) (by omega) ⟨(y 2 : ℕ) % 128, by omega⟩).trans ?_
  have hw := A.weights t
  simp only [(hw _ _ 0 0).1, (hw 0 _ 0 0).2.1, (hw 0 0 _ _).2.2.1, (hw 0 0 0 _).2.2.2.1, (hw 0 0 0 _).2.2.2.2]
  rfl

/-- The second result: the numbers of the neighbours. -/
theorem Agree.indices : (dats m 0 c).arrAt 11 (cfgs 0).N = Cert.ReferenceIdeal.Value.res_main_indices R := by
  refine final11 m c _ fun t y => ?_
  have hy : (y 2 : ℕ) < 30 := (y 2).isLt
  refine Eq.trans ?_ (Cert.ReferenceIdeal.Value.indices_apply R (batch t) (residue t (y 1)) (y 2)).symm
  rw [out11_apply]
  exact (A.block t (y 1)).index _ _ _ _ _ (y 2 : ℕ) (by omega)

end Cert.KernelIdeal.Result
end
-- ==== Proof.Given.lean ====
module

public import proofs.«01_k».proof.Defs
public import proofs.«01_k».proof.Proof.Result

@[expose] public section
set_option maxRecDepth 16384
noncomputable section
namespace Cert.Pre_finite_in_range
open Idealize.ShloMosaic

/-- The shapes the condition's scalars are spread over. -/
theorem facts : Facts where
  bcast_S_S2x2048x3 := by decide
  bcast_S_S2x2048 := by decide

/-- A number whose absolute value compares below the pattern of infinity is a real number. -/
theorem finite_of_lt {x : EReal} (h : Ideal.cmp .olt (max x (-x)) (Ideal.ofBits .f32 0x7F800000#32) = 1#1) : Cert.Spec.Finite x := by
  refine Cert.Spec.finite_of_abs ?_
  by_contra hn
  rw [Cert.KernelIdeal.Edge.bits_inf] at h
  simp [Ideal.cmp, hn] at h

/-- A word that compares at least 0 and below 2048, signed, is a number below 2048. -/
theorem small_of_range {w : BitVec 32} (h : IntOp.andi (IntOp.cmpi .sge w 0#32) (IntOp.cmpi .slt w 2048#32) = 1#1) : w.toNat < 2048 := by
  have hb : ((0#32).sle w && w.slt 2048#32) = true := by
    by_contra hn
    rw [Bool.not_eq_true] at hn
    have h' : BitVec.ofBool ((0#32).sle w && w.slt 2048#32) = 1#1 := by simpa [IntOp.cmpi, IntOp.andi] using h
    rw [hn] at h'
    exact absurd h' (by decide)
  obtain ⟨h0, h1⟩ := Bool.and_eq_true_iff.mp hb
  simp only [BitVec.sle, BitVec.slt, decide_eq_true_eq, BitVec.toInt_eq_toNat_cond] at h0 h1
  simp at h0 h1
  split at h1 <;> omega

variable [Facts] {a0 : FVec Ideal S2x2048x3 .f32} {a1 : FVec Ideal S2x2048 .f32} {a2 a3 : IVec S2x2048 32}
  {a4 : FVec Ideal S66x16 .f32} {a5 : FVec Ideal S16 .f32} {a6 : FVec Ideal S167x128 .f32} {a7 a8 : FVec Ideal S128 .f32}

/-- Under the condition the coordinates are real numbers. -/
theorem coordinates (h : (fn a0 a1 a2 a3 a4 a5 a6 a7 a8).1 = fun _ => 1#1) (i : S2x2048x3.Idx) : Cert.Spec.Finite (a0 i) :=
  finite_of_lt (congrFun h i)

/-- Under the condition the mask's entries are real numbers. -/
theorem mask (h : (fn a0 a1 a2 a3 a4 a5 a6 a7 a8).2.1 = fun _ => 1#1) (i : S2x2048.Idx) : Cert.Spec.Finite (a1 i) :=
  finite_of_lt (congrFun h i)

/-- Under the condition the residue numbers lie below 2048. -/
theorem residues (h : (fn a0 a1 a2 a3 a4 a5 a6 a7 a8).2.2 = fun _ => 1#1) (i : S2x2048.Idx) : (a2 i).toNat < 2048 :=
  small_of_range (congrFun h i)

end Cert.Pre_finite_in_range

namespace Cert.KernelIdeal.Result
open Idealize.ShloMosaic Idealize.ShloMosaic.TcCoe Idealize.SL.Sem

/-- What the claim's condition and the equality of the arguments give on a device. -/
theorem agree [Cert.Pre_finite_in_range.Facts] {m : (ℓ : Loc nD τ sig) → Buf (Elt Ideal) ℓ}
    {m' : (ℓ : Loc Cert.ReferenceIdeal.nD Cert.ReferenceIdeal.τ Cert.ReferenceIdeal.sig) → Buf (Elt Ideal) ℓ} (h : Cert.Pre_KernelIdeal_finite_in_range m) (c : Dev nD)
    (e : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)) :
    Agree m c (StableHlo.launchContents m' c) where
  a0 := e.1.symm
  a1 := e.2.1.symm
  a2 := e.2.2.1.symm
  a3 := e.2.2.2.1.symm
  a4 := e.2.2.2.2.1.symm
  a5 := e.2.2.2.2.2.1.symm
  a6 := e.2.2.2.2.2.2.1.symm
  a7 := e.2.2.2.2.2.2.2.1.symm
  a8 := e.2.2.2.2.2.2.2.2.symm
  finiteX i := (congrArg (fun x : FVec Ideal S2x2048x3 .f32 => Cert.Spec.Finite (x i)) e.1).mpr (Cert.Pre_finite_in_range.coordinates (h c).1 i)
  finiteM i := (congrArg (fun x : FVec Ideal S2x2048 .f32 => Cert.Spec.Finite (x i)) e.2.1).mpr (Cert.Pre_finite_in_range.mask (h c).2.1 i)
  small i := (congrArg (fun x : IVec S2x2048 32 => (x i).toNat < 2048) e.2.2.1).mpr (Cert.Pre_finite_in_range.residues (h c).2.2 i)

end Cert.KernelIdeal.Result
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Select
public import proofs.«01_k».proof.Proof.Given
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference's frame: its arguments end unchanged and every counter ends at zero. -/
theorem frame_ref : quiescent_ReferenceIdeal (hReferenceIdeal := Cert.ReferenceIdeal.Gen.facts) := by
  intro m g _
  exact (θ_run _ _ _).mono (fun r h => ⟨fun c => (h c).2.2, sem_eq_zero_of_no_sems (sig := Cert.ReferenceIdeal.sig) (by decide) r.2⟩)
    (Cert.ReferenceIdeal.Value.run m g)

/-- From equal arguments that the condition holds of, the kernel and the reference end with the same edge features and
    the same neighbour indices. -/
theorem algebraic : algebraic_KernelIdeal_ReferenceIdeal_pre_finite_in_range (hKernelIdeal := Cert.KernelIdeal.Gen.facts)
    (hReferenceIdeal := Cert.ReferenceIdeal.Gen.facts) (hPre_finite_in_range := Cert.Pre_finite_in_range.facts) := by
  intro m g m' g' hpre hargs
  refine ⟨_, _, Cert.KernelIdeal.Value.run_blocks m g, (θ_run _ _ _).mono (fun r h c => ?_) (Cert.ReferenceIdeal.Value.run m' g')⟩
  have A := @Cert.KernelIdeal.Result.agree Cert.Pre_finite_in_range.facts m m' hpre c (hargs c)
  exact ⟨(h c).1.trans A.edges.symm, (h c).2.1.trans A.indices.symm, (h c).2.2⟩

/-- The frames, the ledger of rewrites, and the agreement of the kernel with the reference. -/
theorem claim : Cert.Claim := ⟨Cert.Kernel.Gen.facts, Cert.KernelIdeal.Gen.facts, Cert.ReferenceIdeal.Gen.facts,
  Cert.Pre_finite_in_range.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  ⟨IdealRules.named_const.statement _ _ _ _ _ rfl,
    IdealRules.named_const.statement _ _ _ _ _ rfl,
    IdealRules.sign_bit.statement _ _⟩,
  algebraic⟩

end Cert.Proof

end
